-- ==== Defs.lean ====
def Pre_Kernel [hPre_labels_permuted : Cert.Pre_labels_permuted.Facts] (m : (ℓ : Loc Cert.Kernel.nD Cert.Kernel.τ Cert.Kernel.sig) → Buf (Elt Bits) ℓ) : Prop :=
  ∀ c : Dev Cert.Kernel.nD,
    (Cert.Pre_labels_permuted.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_labels_permuted : Cert.Pre_labels_permuted.Facts] (m : (ℓ : Loc Cert.KernelIdeal.nD Cert.KernelIdeal.τ Cert.KernelIdeal.sig) → Buf (Elt Ideal) ℓ) : Prop :=
  ∀ c : Dev Cert.KernelIdeal.nD,
    (Cert.Pre_labels_permuted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_permuted [hPre_labels_permuted : Cert.Pre_labels_permuted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_permuted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] [hPre_labels_permuted : Cert.Pre_labels_permuted.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_labels_permuted : Cert.Pre_labels_permuted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_labels_permuted [hReferenceIdeal : Cert.ReferenceIdeal.Facts] [hPre_labels_permuted : Cert.Pre_labels_permuted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_permuted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_labels_permuted : Cert.Pre_labels_permuted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_labels_permuted : Cert.Pre_labels_permuted.Facts),
    quiescent_Kernel (hKernel := hKernel) (hPre_labels_permuted := hPre_labels_permuted)
    ∧ quiescent_KernelIdeal (hKernelIdeal := hKernelIdeal) (hPre_labels_permuted := hPre_labels_permuted)
    ∧ quiescent_ReferenceIdeal (hReferenceIdeal := hReferenceIdeal)
    ∧ quiescent_ReferenceIdeal_pre_labels_permuted (hReferenceIdeal := hReferenceIdeal) (hPre_labels_permuted := hPre_labels_permuted)
    ∧ preserves_Kernel_KernelIdeal
    ∧ algebraic_KernelIdeal_ReferenceIdeal (hKernelIdeal := hKernelIdeal) (hReferenceIdeal := hReferenceIdeal) (hPre_labels_permuted := hPre_labels_permuted)
-- ==== Pre_labels_permuted.lean ====
abbrev S8192x768 : Shape := ⟨2, ![8192, 768]⟩
abbrev S6x768 : Shape := ⟨2, ![6, 768]⟩
abbrev S6 : Shape := ⟨1, ![6]⟩
abbrev S24x774 : Shape := ⟨2, ![24, 774]⟩
abbrev S24 : Shape := ⟨1, ![24]⟩
abbrev S96x798 : Shape := ⟨2, ![96, 798]⟩
abbrev S96 : Shape := ⟨1, ![96]⟩
abbrev S384x894 : Shape := ⟨2, ![384, 894]⟩
abbrev S384 : Shape := ⟨1, ![384]⟩
abbrev S1536x1278 : Shape := ⟨2, ![1536, 1278]⟩
abbrev S1536 : Shape := ⟨1, ![1536]⟩
abbrev S6144x2814 : Shape := ⟨2, ![6144, 2814]⟩
abbrev S6144 : Shape := ⟨1, ![6144]⟩
abbrev S8190 : Shape := ⟨1, ![8190]⟩
abbrev S8190x8190 : Shape := ⟨2, ![8190, 8190]⟩
abbrev S8190x1 : Shape := ⟨2, ![8190, 1]⟩
abbrev S1x8190 : Shape := ⟨2, ![1, 8190]⟩
abbrev S_ : Shape := ⟨0, ![]⟩

class Facts : Prop where
  bcast_S8190_S8190x1_0 : S8190.BroadcastsInDim S8190x1 (![0] : Fin 1 → Fin S8190x1.rank)
  bcast_S8190_S1x8190_1 : S8190.BroadcastsInDim S1x8190 (![1] : Fin 1 → Fin S1x8190.rank)
  bcast_S8190x1_S8190x8190_0_1 : S8190x1.BroadcastsInDim S8190x8190 (![0, 1] : Fin 2 → Fin S8190x8190.rank)
  bcast_S1x8190_S8190x8190_0_1 : S1x8190.BroadcastsInDim S8190x8190 (![0, 1] : Fin 2 → Fin S8190x8190.rank)
  bcast_S_S8190 : S_.BroadcastsInDim S8190 (![] : Fin 0 → Fin S8190.rank)
  reducesTo_S8190_S_d0 : S8190.ReducesTo [0] S_
  h_S_ : 0 < S_.numel
  reducesTo_S8190x8190_S_d0_1 : S8190x8190.ReducesTo [0, 1] S_

variable [Facts]

def fn {F : FTy → Type} [FloatOps F] (main_arg0 : FVec F S8192x768 .f32) (main_arg1 : FVec F S6x768 .f32) (main_arg2 : FVec F S6 .f32) (main_arg3 : FVec F S24x774 .f32) (main_arg4 : FVec F S24 .f32) (main_arg5 : FVec F S96x798 .f32) (main_arg6 : FVec F S96 .f32) (main_arg7 : FVec F S384x894 .f32) (main_arg8 : FVec F S384 .f32) (main_arg9 : FVec F S1536x1278 .f32) (main_arg10 : FVec F S1536 .f32) (main_arg11 : FVec F S6144x2814 .f32) (main_arg12 : FVec F S6144 .f32) (main_arg13 : IVec S8190 32) : IVec S_ 1 :=
  let main_v0 : IVec S8190x8190 32 := iotaInDim S8190x8190 32 0
  let main_v1 : IVec S8190x8190 32 := iotaInDim S8190x8190 32 1
  let main_v2 : IVec S8190x1 32 := broadcastInDim S8190x1 ![0] bcast_S8190_S8190x1_0 main_arg13
  let main_v3 : IVec S1x8190 32 := broadcastInDim S1x8190 ![1] bcast_S8190_S1x8190_1 main_arg13
  let main_v4 : IVec S8190x8190 32 := broadcastInDim S8190x8190 ![0, 1] bcast_S8190x1_S8190x8190_0_1 main_v2
  let main_v5 : IVec S8190x8190 32 := broadcastInDim S8190x8190 ![0, 1] bcast_S1x8190_S8190x8190_0_1 main_v3
  let main_v6 : IVec S8190x8190 1 := cmpi .ne main_v4 main_v5
  let main_v7 : IVec S8190x8190 1 := cmpi .eq main_v0 main_v1
  let main_v8 : IVec S8190x8190 1 := ori main_v6 main_v7
  let main_c : IVec S_ 32 := constantI S_ 32 0#32
  let main_v9 : IVec S8190 32 := broadcastInDim S8190 ![] bcast_S_S8190 main_c
  let main_v10 : IVec S8190 1 := cmpi .sge main_arg13 main_v9
  let main_c_0 : IVec S_ 32 := constantI S_ 32 8190#32
  let main_v11 : IVec S8190 32 := broadcastInDim S8190 ![] bcast_S_S8190 main_c_0
  let main_v12 : IVec S8190 1 := cmpi .slt main_arg13 main_v11
  let main_v13 : IVec S8190 1 := andi main_v10 main_v12
  let main_c_1 : IVec S_ 1 := constantI S_ 1 1#1
  let main_v14 : IVec S_ 1 := (fun x v => Host.reduce IntOp.andi x v reducesTo_S8190_S_d0 h_S_) main_v13 main_c_1
  let main_c_2 : IVec S_ 1 := constantI S_ 1 1#1
  let main_v15 : IVec S_ 1 := (fun x v => Host.reduce IntOp.andi x v reducesTo_S8190x8190_S_d0_1 h_S_) main_v8 main_c_2
  let main_v16 : IVec S_ 1 := andi main_v14 main_v15
  main_v16
-- ==== Kernel.lean ====
abbrev S8192x768 : Shape := ⟨2, ![8192, 768]⟩
abbrev S6x768 : Shape := ⟨2, ![6, 768]⟩
abbrev S6 : Shape := ⟨1, ![6]⟩
abbrev S24x774 : Shape := ⟨2, ![24, 774]⟩
abbrev S24 : Shape := ⟨1, ![24]⟩
abbrev S96x798 : Shape := ⟨2, ![96, 798]⟩
abbrev S96 : Shape := ⟨1, ![96]⟩
abbrev S384x894 : Shape := ⟨2, ![384, 894]⟩
abbrev S384 : Shape := ⟨1, ![384]⟩
abbrev S1536x1278 : Shape := ⟨2, ![1536, 1278]⟩
abbrev S1536 : Shape := ⟨1, ![1536]⟩
abbrev S6144x2814 : Shape := ⟨2, ![6144, 2814]⟩
abbrev S6144 : Shape := ⟨1, ![6144]⟩
abbrev S8190 : Shape := ⟨1, ![8190]⟩
abbrev S2 : Shape := ⟨1, ![2]⟩
abbrev S768x6 : Shape := ⟨2, ![768, 6]⟩
abbrev S774x24 : Shape := ⟨2, ![774, 24]⟩
abbrev S798x96 : Shape := ⟨2, ![798, 96]⟩
abbrev S894x384 : Shape := ⟨2, ![894, 384]⟩
abbrev S1278x1536 : Shape := ⟨2, ![1278, 1536]⟩
abbrev S1x6 : Shape := ⟨2, ![1, 6]⟩
abbrev S1x24 : Shape := ⟨2, ![1, 24]⟩
abbrev S1x96 : Shape := ⟨2, ![1, 96]⟩
abbrev S1x384 : Shape := ⟨2, ![1, 384]⟩
abbrev S1x1536 : Shape := ⟨2, ![1, 1536]⟩
abbrev S1x6144 : Shape := ⟨2, ![1, 6144]⟩
abbrev S_ : Shape := ⟨0, ![]⟩
abbrev S6x2815 : Shape := ⟨2, ![6, 2815]⟩
abbrev S6x6 : Shape := ⟨2, ![6, 6]⟩
abbrev S6x123 : Shape := ⟨2, ![6, 123]⟩
abbrev S6x2944 : Shape := ⟨2, ![6, 2944]⟩
abbrev S24x2040 : Shape := ⟨2, ![24, 2040]⟩
abbrev S24x1 : Shape := ⟨2, ![24, 1]⟩
abbrev S24x129 : Shape := ⟨2, ![24, 129]⟩
abbrev S24x2944 : Shape := ⟨2, ![24, 2944]⟩
abbrev S96x2016 : Shape := ⟨2, ![96, 2016]⟩
abbrev S96x1 : Shape := ⟨2, ![96, 1]⟩
abbrev S96x129 : Shape := ⟨2, ![96, 129]⟩
abbrev S96x2944 : Shape := ⟨2, ![96, 2944]⟩
abbrev S384x1920 : Shape := ⟨2, ![384, 1920]⟩
abbrev S384x1 : Shape := ⟨2, ![384, 1]⟩
abbrev S384x129 : Shape := ⟨2, ![384, 129]⟩
abbrev S384x2944 : Shape := ⟨2, ![384, 2944]⟩
abbrev S1536x1536 : Shape := ⟨2, ![1536, 1536]⟩
abbrev S1536x1 : Shape := ⟨2, ![1536, 1]⟩
abbrev S1536x129 : Shape := ⟨2, ![1536, 129]⟩
abbrev S1536x2944 : Shape := ⟨2, ![1536, 2944]⟩
abbrev S6144x0 : Shape := ⟨2, ![6144, 0]⟩
abbrev S6144x1 : Shape := ⟨2, ![6144, 1]⟩
abbrev S6144x129 : Shape := ⟨2, ![6144, 129]⟩
abbrev S6144x2944 : Shape := ⟨2, ![6144, 2944]⟩
abbrev S2x2944 : Shape := ⟨2, ![2, 2944]⟩
abbrev S8192x2944 : Shape := ⟨2, ![8192, 2944]⟩
abbrev S8192 : Shape := ⟨1, ![8192]⟩
abbrev S256x768 : Shape := ⟨2, ![256, 768]⟩
abbrev S256x2944 : Shape := ⟨2, ![256, 2944]⟩
abbrev S256x1278 : Shape := ⟨2, ![256, 1278]⟩
abbrev S256x6 : Shape := ⟨2, ![256, 6]⟩
abbrev S256x1 : Shape := ⟨2, ![256, 1]⟩
abbrev S256x774 : Shape := ⟨2, ![256, 774]⟩
abbrev S256x24 : Shape := ⟨2, ![256, 24]⟩
abbrev S256x798 : Shape := ⟨2, ![256, 798]⟩
abbrev S256x96 : Shape := ⟨2, ![256, 96]⟩
abbrev S256x894 : Shape := ⟨2, ![256, 894]⟩
abbrev S256x384 : Shape := ⟨2, ![256, 384]⟩
abbrev S256x1536 : Shape := ⟨2, ![256, 1536]⟩
abbrev S8192x1x2944 : Shape := ⟨3, ![8192, 1, 2944]⟩
abbrev S1024x1x2944 : Shape := ⟨3, ![1024, 1, 2944]⟩
abbrev S1 : Shape := ⟨1, ![1]⟩
abbrev S1x1x2944 : Shape := ⟨3, ![1, 1, 2944]⟩
abbrev S1x2944 : Shape := ⟨2, ![1, 2944]⟩
abbrev S8192x8190 : Shape := ⟨2, ![8192, 8190]⟩
abbrev S1024x2944 : Shape := ⟨2, ![1024, 2944]⟩
abbrev S2048x2944 : Shape := ⟨2, ![2048, 2944]⟩
abbrev S1024x2048 : Shape := ⟨2, ![1024, 2048]⟩

abbrev nBuf : Space → Nat
  | .hbm => 78
  | .vmem => 23
  | .smem => 1
  | _ => 0

abbrev bufTy : (tb : Table) → Fin (tcTables nBuf tb) → BufTy
  | .hbm, ⟨0, _⟩ => ⟨S8192x768, .f32⟩
  | .hbm, ⟨1, _⟩ => ⟨S6x768, .f32⟩
  | .hbm, ⟨2, _⟩ => ⟨S6, .f32⟩
  | .hbm, ⟨3, _⟩ => ⟨S24x774, .f32⟩
  | .hbm, ⟨4, _⟩ => ⟨S24, .f32⟩
  | .hbm, ⟨5, _⟩ => ⟨S96x798, .f32⟩
  | .hbm, ⟨6, _⟩ => ⟨S96, .f32⟩
  | .hbm, ⟨7, _⟩ => ⟨S384x894, .f32⟩
  | .hbm, ⟨8, _⟩ => ⟨S384, .f32⟩
  | .hbm, ⟨9, _⟩ => ⟨S1536x1278, .f32⟩
  | .hbm, ⟨10, _⟩ => ⟨S1536, .f32⟩
  | .hbm, ⟨11, _⟩ => ⟨S6144x2814, .f32⟩
  | .hbm, ⟨12, _⟩ => ⟨S6144, .f32⟩
  | .hbm, ⟨13, _⟩ => ⟨S8190, .i32⟩
  | .hbm, ⟨14, _⟩ => ⟨S2, .i32⟩
  | .hbm, ⟨15, _⟩ => ⟨S768x6, .f32⟩
  | .hbm, ⟨16, _⟩ => ⟨S774x24, .f32⟩
  | .hbm, ⟨17, _⟩ => ⟨S798x96, .f32⟩
  | .hbm, ⟨18, _⟩ => ⟨S894x384, .f32⟩
  | .hbm, ⟨19, _⟩ => ⟨S1278x1536, .f32⟩
  | .hbm, ⟨20, _⟩ => ⟨S1x6, .f32⟩
  | .hbm, ⟨21, _⟩ => ⟨S1x24, .f32⟩
  | .hbm, ⟨22, _⟩ => ⟨S1x96, .f32⟩
  | .hbm, ⟨23, _⟩ => ⟨S1x384, .f32⟩
  | .hbm, ⟨24, _⟩ => ⟨S1x1536, .f32⟩
  | .hbm, ⟨25, _⟩ => ⟨S1x6144, .f32⟩
  | .hbm, ⟨26, _⟩ => ⟨S_, .f32⟩
  | .hbm, ⟨27, _⟩ => ⟨S6x2815, .f32⟩
  | .hbm, ⟨28, _⟩ => ⟨S6x6, .i32⟩
  | .hbm, ⟨29, _⟩ => ⟨S6x6, .i32⟩
  | .hbm, ⟨30, _⟩ => ⟨S_, .i32⟩
  | .hbm, ⟨31, _⟩ => ⟨S6x6, .i32⟩
  | .hbm, ⟨32, _⟩ => ⟨S6x6, .i32⟩
  | .hbm, ⟨33, _⟩ => ⟨S6x6, .i1⟩
  | .hbm, ⟨34, _⟩ => ⟨S6x6, .f32⟩
  | .hbm, ⟨35, _⟩ => ⟨S_, .f32⟩
  | .hbm, ⟨36, _⟩ => ⟨S6x123, .f32⟩
  | .hbm, ⟨37, _⟩ => ⟨S6x2944, .f32⟩
  | .hbm, ⟨38, _⟩ => ⟨S_, .f32⟩
  | .hbm, ⟨39, _⟩ => ⟨S24x2040, .f32⟩
  | .hbm, ⟨40, _⟩ => ⟨S24x1, .f32⟩
  | .hbm, ⟨41, _⟩ => ⟨S_, .f32⟩
  | .hbm, ⟨42, _⟩ => ⟨S24x129, .f32⟩
  | .hbm, ⟨43, _⟩ => ⟨S24x2944, .f32⟩
  | .hbm, ⟨44, _⟩ => ⟨S_, .f32⟩
  | .hbm, ⟨45, _⟩ => ⟨S96x2016, .f32⟩
  | .hbm, ⟨46, _⟩ => ⟨S96x1, .f32⟩
  | .hbm, ⟨47, _⟩ => ⟨S_, .f32⟩
  | .hbm, ⟨48, _⟩ => ⟨S96x129, .f32⟩
  | .hbm, ⟨49, _⟩ => ⟨S96x2944, .f32⟩
  | .hbm, ⟨50, _⟩ => ⟨S_, .f32⟩
  | .hbm, ⟨51, _⟩ => ⟨S384x1920, .f32⟩
  | .hbm, ⟨52, _⟩ => ⟨S384x1, .f32⟩
  | .hbm, ⟨53, _⟩ => ⟨S_, .f32⟩
  | .hbm, ⟨54, _⟩ => ⟨S384x129, .f32⟩
  | .hbm, ⟨55, _⟩ => ⟨S384x2944, .f32⟩
  | .hbm, ⟨56, _⟩ => ⟨S_, .f32⟩
  | .hbm, ⟨57, _⟩ => ⟨S1536x1536, .f32⟩
  | .hbm, ⟨58, _⟩ => ⟨S1536x1, .f32⟩
  | .hbm, ⟨59, _⟩ => ⟨S_, .f32⟩
  | .hbm, ⟨60, _⟩ => ⟨S1536x129, .f32⟩
  | .hbm, ⟨61, _⟩ => ⟨S1536x2944, .f32⟩
  | .hbm, ⟨62, _⟩ => ⟨S_, .f32⟩
  | .hbm, ⟨63, _⟩ => ⟨S6144x0, .f32⟩
  | .hbm, ⟨64, _⟩ => ⟨S6144x1, .f32⟩
  | .hbm, ⟨65, _⟩ => ⟨S_, .f32⟩
  | .hbm, ⟨66, _⟩ => ⟨S6144x129, .f32⟩
  | .hbm, ⟨67, _⟩ => ⟨S6144x2944, .f32⟩
  | .hbm, ⟨68, _⟩ => ⟨S_, .f32⟩
  | .hbm, ⟨69, _⟩ => ⟨S2x2944, .f32⟩
  | .hbm, ⟨70, _⟩ => ⟨S8192x2944, .f32⟩
  | .hbm, ⟨71, _⟩ => ⟨S8192, .i32⟩
  | .hbm, ⟨72, _⟩ => ⟨S8192x2944, .bf16⟩
  | .hbm, ⟨73, _⟩ => ⟨S8192x1x2944, .f32⟩
  | .hbm, ⟨74, _⟩ => ⟨S8192x1x2944, .f32⟩
  | .hbm, ⟨75, _⟩ => ⟨S8192x2944, .f32⟩
  | .hbm, ⟨76, _⟩ => ⟨S8192x2944, .bf16⟩
  | .hbm, ⟨77, _⟩ => ⟨S8192x8190, .f32⟩
  | .local _ .vmem, ⟨0, _⟩ => ⟨S256x768, .f32⟩
  | .local _ .vmem, ⟨1, _⟩ => ⟨S256x768, .f32⟩
  | .local _ .vmem, ⟨2, _⟩ => ⟨S768x6, .f32⟩
  | .local _ .vmem, ⟨3, _⟩ => ⟨S1x6, .f32⟩
  | .local _ .vmem, ⟨4, _⟩ => ⟨S774x24, .f32⟩
  | .local _ .vmem, ⟨5, _⟩ => ⟨S1x24, .f32⟩
  | .local _ .vmem, ⟨6, _⟩ => ⟨S798x96, .f32⟩
  | .local _ .vmem, ⟨7, _⟩ => ⟨S1x96, .f32⟩
  | .local _ .vmem, ⟨8, _⟩ => ⟨S894x384, .f32⟩
  | .local _ .vmem, ⟨9, _⟩ => ⟨S1x384, .f32⟩
  | .local _ .vmem, ⟨10, _⟩ => ⟨S1278x1536, .f32⟩
  | .local _ .vmem, ⟨11, _⟩ => ⟨S1x1536, .f32⟩
  | .local _ .vmem, ⟨12, _⟩ => ⟨S256x2944, .bf16⟩
  | .local _ .vmem, ⟨13, _⟩ => ⟨S256x2944, .bf16⟩
  | .local _ .vmem, ⟨14, _⟩ => ⟨S256x1278, .f32⟩
  | .local _ .vmem, ⟨15, _⟩ => ⟨S1024x1x2944, .f32⟩
  | .local _ .vmem, ⟨16, _⟩ => ⟨S1024x1x2944, .f32⟩
  | .local _ .vmem, ⟨17, _⟩ => ⟨S1024x2944, .bf16⟩
  | .local _ .vmem, ⟨18, _⟩ => ⟨S1024x2944, .bf16⟩
  | .local _ .vmem, ⟨19, _⟩ => ⟨S2048x2944, .bf16⟩
  | .local _ .vmem, ⟨20, _⟩ => ⟨S2048x2944, .bf16⟩
  | .local _ .vmem, ⟨21, _⟩ => ⟨S1024x2048, .f32⟩
  | .local _ .vmem, ⟨22, _⟩ => ⟨S1024x2048, .f32⟩
  | .local _ .smem, ⟨0, _⟩ => ⟨S8192, .i32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_cst_6 : Ref sig .tc := ⟨.hbm, 50, rfl⟩
abbrev main_v28 : Ref sig .tc := ⟨.hbm, 51, rfl⟩
abbrev main_v29 : Ref sig .tc := ⟨.hbm, 52, rfl⟩
abbrev main_cst_7 : Ref sig .tc := ⟨.hbm, 53, rfl⟩
abbrev main_v30 : Ref sig .tc := ⟨.hbm, 54, rfl⟩
abbrev main_v31 : Ref sig .tc := ⟨.hbm, 55, rfl⟩
abbrev main_cst_8 : Ref sig .tc := ⟨.hbm, 56, rfl⟩
abbrev main_v32 : Ref sig .tc := ⟨.hbm, 57, rfl⟩
abbrev main_v33 : Ref sig .tc := ⟨.hbm, 58, rfl⟩
abbrev main_cst_9 : Ref sig .tc := ⟨.hbm, 59, rfl⟩
abbrev main_v34 : Ref sig .tc := ⟨.hbm, 60, rfl⟩
abbrev main_v35 : Ref sig .tc := ⟨.hbm, 61, rfl⟩
abbrev main_cst_10 : Ref sig .tc := ⟨.hbm, 62, rfl⟩
abbrev main_v36 : Ref sig .tc := ⟨.hbm, 63, rfl⟩
abbrev main_v37 : Ref sig .tc := ⟨.hbm, 64, rfl⟩
abbrev main_cst_11 : Ref sig .tc := ⟨.hbm, 65, rfl⟩
abbrev main_v38 : Ref sig .tc := ⟨.hbm, 66, rfl⟩
abbrev main_v39 : Ref sig .tc := ⟨.hbm, 67, rfl⟩
abbrev main_cst_12 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc1_scratch0 : Ref sig .tc := ⟨.vmem, 15, rfl⟩
abbrev cc1_scratch1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc1_sem0_0 : DmaSem sig := 14
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S774x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S798x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S894x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1278x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2944 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![8], ![false]⟩

def k1_cond2 (i : grid1.Coords) : BitVec 1 :=
  let arg0 : BitVec 32 := BitVec.ofNat 32 (i 0).val
  let c2_i32 : BitVec 32 := 2#32
  let c0_i32_1 : BitVec 32 := 0#32
  let v4 : BitVec 1 := Scalar.cmpi .eq c2_i32 c0_i32_1
  let c1_i32 : BitVec 32 := 1#32
  let v5 : BitVec 32 := Scalar.select v4 c1_i32 c2_i32
  let v6 : BitVec 32 := Scalar.remsi arg0 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c0_i32_5 : BitVec 32 := 0#32
  let v14 : BitVec 1 := Scalar.cmpi .eq v13 c0_i32_5
  let v15 : BitVec 32 := Scalar.extui v14
  let c0_i32_6 : BitVec 32 := 0#32
  let v16 : BitVec 1 := Scalar.cmpi .ne v15 c0_i32_6
  v16

def k1_off1 (i : grid1.Coords) : Fin 3 → Nat :=
  let arg0 : BitVec 32 := BitVec.ofNat 32 (i 0).val
  let c1024_i32 : BitVec 32 := 1024#32
  let v0 : BitVec 32 := Scalar.muli arg0 c1024_i32
  let c0_i32_15 : BitVec 32 := 0#32
  let c0_i32_16 : BitVec 32 := 0#32
  ![v0.toNat, 0, 0]
def k1_cond4 (i : grid1.Coords) : BitVec 1 :=
  let arg0 : BitVec 32 := BitVec.ofNat 32 (i 0).val
  let c1_i32_19 : BitVec 32 := 1#32
  let v34 : BitVec 32 := Scalar.addi arg0 c1_i32_19
  let c8_i32 : BitVec 32 := 8#32
  let v35 : BitVec 1 := Scalar.cmpi .slt v34 c8_i32
  let v36 : BitVec 32 := Scalar.extui v35
  let c0_i32_20 : BitVec 32 := 0#32
  let v37 : BitVec 1 := Scalar.cmpi .ne v36 c0_i32_20
  v37

def k1_off2 (i : grid1.Coords) : Fin 3 → Nat :=
  let arg0 : BitVec 32 := BitVec.ofNat 32 (i 0).val
  let c1024_i32 : BitVec 32 := 1024#32
  let v0 : BitVec 32 := Scalar.muli arg0 c1024_i32
  let c1024_i32_26 : BitVec 32 := 1024#32
  let v42 : BitVec 32 := Scalar.addi v0 c1024_i32_26
  let c0_i32_27 : BitVec 32 := 0#32
  let c0_i32_28 : BitVec 32 := 0#32
  ![v42.toNat, 0, 0]
@[reducible] def k1_t1_loop : Scf.Loop 32 :=
  let c0_i32_21 : BitVec 32 := 0#32
  let c1024_i32_22 : BitVec 32 := 1024#32
  let v38 : BitVec 32 := Scalar.addi c0_i32_21 c1024_i32_22
  let c1_i32_23 : BitVec 32 := 1#32
  ⟨c0_i32_21, v38, c1_i32_23⟩
def k1_off3 (i : grid1.Coords) (k1_t1 : Fin k1_t1_loop.trips) : Fin 1 → Nat :=
  let arg0 : BitVec 32 := BitVec.ofNat 32 (i 0).val
  let c1024_i32 : BitVec 32 := 1024#32
  let v0 : BitVec 32 := Scalar.muli arg0 c1024_i32
  let c0_i32_21 : BitVec 32 := 0#32
  let c1_i32_23 : BitVec 32 := 1#32
  let arg9 : BitVec 32 := Scf.iv c0_i32_21 c1_i32_23 k1_t1
  let v42 : BitVec 32 := Scalar.addi v0 arg9
  let v43 : Index := Scalar.indexCast v42
  ![v43.toNat]
def k1_off4 (v44 : BitVec 32) : Fin 3 → Nat :=
  let c0_i32_26 : BitVec 32 := 0#32
  let c0_i32_27 : BitVec 32 := 0#32
  ![v44.toNat, 0, 0]

def k1_chk1 (i : grid1.Coords) (v44 : BitVec 32) : Prop :=
  (∀ (k1_h2 : k1_cond2 i = 1#1), ∀ a, (k1_off4 v44) a + S1x1x2944.size a ≤ S8192x1x2944.size a)
theorem k1_off4_inb : ∀ (i : grid1.Coords) (v44 : BitVec 32) (k1_hw1 : k1_chk1 i v44), ∀ (k1_h2 : k1_cond2 i = 1#1), ∀ a, (k1_off4 v44) a + S1x1x2944.size a ≤ S8192x1x2944.size a := fun i v44 k1_hw1 k1_h2 => k1_hw1 k1_h2

def k1_off5 (k1_t1 : Fin k1_t1_loop.trips) : Fin 3 → Nat :=
  let c0_i32_21 : BitVec 32 := 0#32
  let c1_i32_23 : BitVec 32 := 1#32
  let arg9 : BitVec 32 := Scf.iv c0_i32_21 c1_i32_23 k1_t1
  let c0_i32_28 : BitVec 32 := 0#32
  let c0_i32_29 : BitVec 32 := 0#32
  ![arg9.toNat, 0, 0]
def k1_cond6 (i : grid1.Coords) : BitVec 1 :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let c1_i32_13 : BitVec 32 := 1#32
  let v27 : BitVec 1 := Scalar.cmpi .eq v26 c1_i32_13
  let v28 : BitVec 32 := Scalar.extui v27
  let c0_i32_14 : BitVec 32 := 0#32
  let v29 : BitVec 1 := Scalar.cmpi .ne v28 c0_i32_14
  v29

def k1_off6 (i : grid1.Coords) : Fin 3 → Nat :=
  let arg0 : BitVec 32 := BitVec.ofNat 32 (i 0).val
  let c1024_i32 : BitVec 32 := 1024#32
  let v0 : BitVec 32 := Scalar.muli arg0 c1024_i32
  let c0_i32_15 : BitVec 32 := 0#32
  let c0_i32_16 : BitVec 32 := 0#32
  ![v0.toNat, 0, 0]
def k1_cond8 (i : grid1.Coords) : BitVec 1 :=
  let arg0 : BitVec 32 := BitVec.ofNat 32 (i 0).val
  let c1_i32_19 : BitVec 32 := 1#32
  let v34 : BitVec 32 := Scalar.addi arg0 c1_i32_19
  let c8_i32 : BitVec 32 := 8#32
  let v35 : BitVec 1 := Scalar.cmpi .slt v34 c8_i32
  let v36 : BitVec 32 := Scalar.extui v35
  let c0_i32_20 : BitVec 32 := 0#32
  let v37 : BitVec 1 := Scalar.cmpi .ne v36 c0_i32_20
  v37

def k1_off7 (i : grid1.Coords) : Fin 3 → Nat :=
  let arg0 : BitVec 32 := BitVec.ofNat 32 (i 0).val
  let c1024_i32 : BitVec 32 := 1024#32
  let v0 : BitVec 32 := Scalar.muli arg0 c1024_i32
  let c1024_i32_26 : BitVec 32 := 1024#32
  let v42 : BitVec 32 := Scalar.addi v0 c1024_i32_26
  let c0_i32_27 : BitVec 32 := 0#32
  let c0_i32_28 : BitVec 32 := 0#32
  ![v42.toNat, 0, 0]
@[reducible] def k1_t2_loop : Scf.Loop 32 :=
  let c0_i32_21 : BitVec 32 := 0#32
  let c1024_i32_22 : BitVec 32 := 1024#32
  let v38 : BitVec 32 := Scalar.addi c0_i32_21 c1024_i32_22
  let c1_i32_23 : BitVec 32 := 1#32
  ⟨c0_i32_21, v38, c1_i32_23⟩
def k1_off8 (i : grid1.Coords) (k1_t2 : Fin k1_t2_loop.trips) : Fin 1 → Nat :=
  let arg0 : BitVec 32 := BitVec.ofNat 32 (i 0).val
  let c1024_i32 : BitVec 32 := 1024#32
  let v0 : BitVec 32 := Scalar.muli arg0 c1024_i32
  let c0_i32_21 : BitVec 32 := 0#32
  let c1_i32_23 : BitVec 32 := 1#32
  let arg9 : BitVec 32 := Scf.iv c0_i32_21 c1_i32_23 k1_t2
  let v42 : BitVec 32 := Scalar.addi v0 arg9
  let v43 : Index := Scalar.indexCast v42
  ![v43.toNat]
def k1_off9 (v44 : BitVec 32) : Fin 3 → Nat :=
  let c0_i32_26 : BitVec 32 := 0#32
  let c0_i32_27 : BitVec 32 := 0#32
  ![v44.toNat, 0, 0]

def k1_chk2 (i : grid1.Coords) (v44 : BitVec 32) : Prop :=
  (∀ (k1_h6 : k1_cond6 i = 1#1), ∀ a, (k1_off9 v44) a + S1x1x2944.size a ≤ S8192x1x2944.size a)
theorem k1_off9_inb : ∀ (i : grid1.Coords) (v44 : BitVec 32) (k1_hw2 : k1_chk2 i v44), ∀ (k1_h6 : k1_cond6 i = 1#1), ∀ a, (k1_off9 v44) a + S1x1x2944.size a ≤ S8192x1x2944.size a := fun i v44 k1_hw2 k1_h6 => k1_hw2 k1_h6

def k1_off10 (k1_t2 : Fin k1_t2_loop.trips) : Fin 3 → Nat :=
  let c0_i32_21 : BitVec 32 := 0#32
  let c1_i32_23 : BitVec 32 := 1#32
  let arg9 : BitVec 32 := Scf.iv c0_i32_21 c1_i32_23 k1_t2
  let c0_i32_28 : BitVec 32 := 0#32
  let c0_i32_29 : BitVec 32 := 0#32
  ![arg9.toNat, 0, 0]
def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 1 → Memref sig .tc .smem S8192 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev grid2 : Pipeline.Grid := ⟨2, ![4, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x2944 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x2944 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== ReferenceIdeal.lean ====
abbrev S8192x768 : Shape := ⟨2, ![8192, 768]⟩
abbrev S6x768 : Shape := ⟨2, ![6, 768]⟩
abbrev S6 : Shape := ⟨1, ![6]⟩
abbrev S24x774 : Shape := ⟨2, ![24, 774]⟩
abbrev S24 : Shape := ⟨1, ![24]⟩
abbrev S96x798 : Shape := ⟨2, ![96, 798]⟩
abbrev S96 : Shape := ⟨1, ![96]⟩
abbrev S384x894 : Shape := ⟨2, ![384, 894]⟩
abbrev S384 : Shape := ⟨1, ![384]⟩
abbrev S1536x1278 : Shape := ⟨2, ![1536, 1278]⟩
abbrev S1536 : Shape := ⟨1, ![1536]⟩
abbrev S6144x2814 : Shape := ⟨2, ![6144, 2814]⟩
abbrev S6144 : Shape := ⟨1, ![6144]⟩
abbrev S8190 : Shape := ⟨1, ![8190]⟩
abbrev S_ : Shape := ⟨0, ![]⟩
abbrev S8192x8190 : Shape := ⟨2, ![8192, 8190]⟩
abbrev S768x6 : Shape := ⟨2, ![768, 6]⟩
abbrev S8192x6 : Shape := ⟨2, ![8192, 6]⟩
abbrev S1x6 : Shape := ⟨2, ![1, 6]⟩
abbrev S6x1 : Shape := ⟨2, ![6, 1]⟩
abbrev S8192x774 : Shape := ⟨2, ![8192, 774]⟩
abbrev S774x24 : Shape := ⟨2, ![774, 24]⟩
abbrev S8192x24 : Shape := ⟨2, ![8192, 24]⟩
abbrev S1x24 : Shape := ⟨2, ![1, 24]⟩
abbrev S24x1 : Shape := ⟨2, ![24, 1]⟩
abbrev S8192x798 : Shape := ⟨2, ![8192, 798]⟩
abbrev S798x96 : Shape := ⟨2, ![798, 96]⟩
abbrev S8192x96 : Shape := ⟨2, ![8192, 96]⟩
abbrev S1x96 : Shape := ⟨2, ![1, 96]⟩
abbrev S96x1 : Shape := ⟨2, ![96, 1]⟩
abbrev S8192x894 : Shape := ⟨2, ![8192, 894]⟩
abbrev S894x384 : Shape := ⟨2, ![894, 384]⟩
abbrev S8192x384 : Shape := ⟨2, ![8192, 384]⟩
abbrev S1x384 : Shape := ⟨2, ![1, 384]⟩
abbrev S384x1 : Shape := ⟨2, ![384, 1]⟩
abbrev S8192x1278 : Shape := ⟨2, ![8192, 1278]⟩
abbrev S1278x1536 : Shape := ⟨2, ![1278, 1536]⟩
abbrev S8192x1536 : Shape := ⟨2, ![8192, 1536]⟩
abbrev S1x1536 : Shape := ⟨2, ![1, 1536]⟩
abbrev S1536x1 : Shape := ⟨2, ![1536, 1]⟩
abbrev S8192x2814 : Shape := ⟨2, ![8192, 2814]⟩
abbrev S2814x6144 : Shape := ⟨2, ![2814, 6144]⟩
abbrev S8192x6144 : Shape := ⟨2, ![8192, 6144]⟩
abbrev S1x6144 : Shape := ⟨2, ![1, 6144]⟩
abbrev S6144x1 : Shape := ⟨2, ![6144, 1]⟩
abbrev S8192x8958 : Shape := ⟨2, ![8192, 8958]⟩

abbrev nBuf : Space → Nat
  | .hbm => 130
  | .vmem => 0
  | .smem => 0
  | _ => 0

abbrev hbmTy0_0 (i : Nat) : BufTy := match i % 128 with
  | 0 => ⟨S8192x768, .f32⟩
  | 1 => ⟨S6x768, .f32⟩
  | 2 => ⟨S6, .f32⟩
  | 3 => ⟨S24x774, .f32⟩
  | 4 => ⟨S24, .f32⟩
  | 5 => ⟨S96x798, .f32⟩
  | 6 => ⟨S96, .f32⟩
  | 7 => ⟨S384x894, .f32⟩
  | 8 => ⟨S384, .f32⟩
  | 9 => ⟨S1536x1278, .f32⟩
  | 10 => ⟨S1536, .f32⟩
  | 11 => ⟨S6144x2814, .f32⟩
  | 12 => ⟨S6144, .f32⟩
  | 13 => ⟨S8190, .i32⟩
  | 14 => ⟨S_, .f32⟩
  | 15 => ⟨S8192x8190, .f32⟩
  | 16 => ⟨S768x6, .f32⟩
  | 17 => ⟨S8192x6, .f32⟩
  | 18 => ⟨S1x6, .f32⟩
  | 19 => ⟨S8192x6, .f32⟩
  | 20 => ⟨S8192x6, .f32⟩
  | 21 => ⟨S6, .i32⟩
  | 22 => ⟨S_, .i32⟩
  | 23 => ⟨S6, .i32⟩
  | 24 => ⟨S6, .i1⟩
  | 25 => ⟨S_, .i32⟩
  | 26 => ⟨S6, .i32⟩
  | 27 => ⟨S6, .i32⟩
  | 28 => ⟨S6, .i32⟩
  | 29 => ⟨S6x1, .i32⟩
  | 30 => ⟨S8192x8190, .f32⟩
  | 31 => ⟨S8192x774, .f32⟩
  | 32 => ⟨S_, .f32⟩
  | 33 => ⟨S8192x774, .f32⟩
  | 34 => ⟨S8192x774, .f32⟩
  | 35 => ⟨S774x24, .f32⟩
  | 36 => ⟨S8192x24, .f32⟩
  | 37 => ⟨S1x24, .f32⟩
  | 38 => ⟨S8192x24, .f32⟩
  | 39 => ⟨S8192x24, .f32⟩
  | 40 => ⟨S24, .i32⟩
  | 41 => ⟨S_, .i32⟩
  | 42 => ⟨S24, .i32⟩
  | 43 => ⟨S24, .i1⟩
  | 44 => ⟨S_, .i32⟩
  | 45 => ⟨S24, .i32⟩
  | 46 => ⟨S24, .i32⟩
  | 47 => ⟨S24, .i32⟩
  | 48 => ⟨S24x1, .i32⟩
  | 49 => ⟨S8192x8190, .f32⟩
  | 50 => ⟨S8192x798, .f32⟩
  | 51 => ⟨S_, .f32⟩
  | 52 => ⟨S8192x798, .f32⟩
  | 53 => ⟨S8192x798, .f32⟩
  | 54 => ⟨S798x96, .f32⟩
  | 55 => ⟨S8192x96, .f32⟩
  | 56 => ⟨S1x96, .f32⟩
  | 57 => ⟨S8192x96, .f32⟩
  | 58 => ⟨S8192x96, .f32⟩
  | 59 => ⟨S96, .i32⟩
  | 60 => ⟨S_, .i32⟩
  | 61 => ⟨S96, .i32⟩
  | 62 => ⟨S96, .i1⟩
  | 63 => ⟨S_, .i32⟩
  | 64 => ⟨S96, .i32⟩
  | 65 => ⟨S96, .i32⟩
  | 66 => ⟨S96, .i32⟩
  | 67 => ⟨S96x1, .i32⟩
  | 68 => ⟨S8192x8190, .f32⟩
  | 69 => ⟨S8192x894, .f32⟩
  | 70 => ⟨S_, .f32⟩
  | 71 => ⟨S8192x894, .f32⟩
  | 72 => ⟨S8192x894, .f32⟩
  | 73 => ⟨S894x384, .f32⟩
  | 74 => ⟨S8192x384, .f32⟩
  | 75 => ⟨S1x384, .f32⟩
  | 76 => ⟨S8192x384, .f32⟩
  | 77 => ⟨S8192x384, .f32⟩
  | 78 => ⟨S384, .i32⟩
  | 79 => ⟨S_, .i32⟩
  | 80 => ⟨S384, .i32⟩
  | 81 => ⟨S384, .i1⟩
  | 82 => ⟨S_, .i32⟩
  | 83 => ⟨S384, .i32⟩
  | 84 => ⟨S384, .i32⟩
  | 85 => ⟨S384, .i32⟩
  | 86 => ⟨S384x1, .i32⟩
  | 87 => ⟨S8192x8190, .f32⟩
  | 88 => ⟨S8192x1278, .f32⟩
  | 89 => ⟨S_, .f32⟩
  | 90 => ⟨S8192x1278, .f32⟩
  | 91 => ⟨S8192x1278, .f32⟩
  | 92 => ⟨S1278x1536, .f32⟩
  | 93 => ⟨S8192x1536, .f32⟩
  | 94 => ⟨S1x1536, .f32⟩
  | 95 => ⟨S8192x1536, .f32⟩
  | 96 => ⟨S8192x1536, .f32⟩
  | 97 => ⟨S1536, .i32⟩
  | 98 => ⟨S_, .i32⟩
  | 99 => ⟨S1536, .i32⟩
  | 100 => ⟨S1536, .i1⟩
  | 101 => ⟨S_, .i32⟩
  | 102 => ⟨S1536, .i32⟩
  | 103 => ⟨S1536, .i32⟩
  | 104 => ⟨S1536, .i32⟩
  | 105 => ⟨S1536x1, .i32⟩
  | 106 => ⟨S8192x8190, .f32⟩
  | 107 => ⟨S8192x2814, .f32⟩
  | 108 => ⟨S_, .f32⟩
  | 109 => ⟨S8192x2814, .f32⟩
  | 110 => ⟨S8192x2814, .f32⟩
  | 111 => ⟨S2814x6144, .f32⟩
  | 112 => ⟨S8192x6144, .f32⟩
  | 113 => ⟨S1x6144, .f32⟩
  | 114 => ⟨S8192x6144, .f32⟩
  | 115 => ⟨S8192x6144, .f32⟩
  | 116 => ⟨S6144, .i32⟩
  | 117 => ⟨S_, .i32⟩
  | 118 => ⟨S6144, .i32⟩
  | 119 => ⟨S6144, .i1⟩
  | 120 => ⟨S_, .i32⟩
  | 121 => ⟨S6144, .i32⟩
  | 122 => ⟨S6144, .i32⟩
  | 123 => ⟨S6144, .i32⟩
  | 124 => ⟨S6144x1, .i32⟩
  | 125 => ⟨S8192x8190, .f32⟩
  | 126 => ⟨S8192x8958, .f32⟩
  | 127 => ⟨S_, .f32⟩
  | _ => ⟨S8192x768, .f32⟩

abbrev hbmTy0_1 (i : Nat) : BufTy := match i % 128 with
  | 0 => ⟨S8192x8958, .f32⟩
  | 1 => ⟨S8192x8958, .f32⟩
  | _ => ⟨S8192x768, .f32⟩

abbrev hbmTy (i : Nat) : BufTy := match i / 128 with
  | 0 => hbmTy0_0 i
  | 1 => hbmTy0_1 i
  | _ => ⟨S8192x768, .f32⟩

abbrev bufTy : (tb : Table) → Fin (tcTables nBuf tb) → BufTy
  | .hbm, ⟨i, _⟩ => hbmTy i
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call0_cst : Ref sig .tc := ⟨.hbm, 32, rfl⟩
abbrev main_call0_v0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_1 : Ref sig .tc := ⟨.hbm, 41, rfl⟩
abbrev main_v22 : Ref sig .tc := ⟨.hbm, 42, rfl⟩
abbrev main_v23 : Ref sig .tc := ⟨.hbm, 43, rfl⟩
abbrev main_c_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call1_cst : Ref sig .tc := ⟨.hbm, 51, rfl⟩
abbrev main_call1_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_3 : Ref sig .tc := ⟨.hbm, 60, rfl⟩
abbrev main_v37 : Ref sig .tc := ⟨.hbm, 61, rfl⟩
abbrev main_v38 : Ref sig .tc := ⟨.hbm, 62, rfl⟩
abbrev main_c_4 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call2_cst : Ref sig .tc := ⟨.hbm, 70, rfl⟩
abbrev main_call2_v0 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_5 : Ref sig .tc := ⟨.hbm, 79, rfl⟩
abbrev main_v52 : Ref sig .tc := ⟨.hbm, 80, rfl⟩
abbrev main_v53 : Ref sig .tc := ⟨.hbm, 81, rfl⟩
abbrev main_c_6 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_call3_cst : Ref sig .tc := ⟨.hbm, 89, rfl⟩
abbrev main_call3_v0 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_7 : Ref sig .tc := ⟨.hbm, 98, rfl⟩
abbrev main_v67 : Ref sig .tc := ⟨.hbm, 99, rfl⟩
abbrev main_v68 : Ref sig .tc := ⟨.hbm, 100, rfl⟩
abbrev main_c_8 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_call4_cst : Ref sig .tc := ⟨.hbm, 108, rfl⟩
abbrev main_call4_v0 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_9 : Ref sig .tc := ⟨.hbm, 117, rfl⟩
abbrev main_v82 : Ref sig .tc := ⟨.hbm, 118, rfl⟩
abbrev main_v83 : Ref sig .tc := ⟨.hbm, 119, rfl⟩
abbrev main_c_10 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_call5_cst : Ref sig .tc := ⟨.hbm, 127, rfl⟩
abbrev main_call5_v0 : Ref sig .tc := ⟨.hbm, 128, rfl⟩
abbrev main_v90 : Ref sig .tc := ⟨.hbm, 129, rfl⟩

abbrev nD : Nat := 1
abbrev τ : Topo := Topo.v7x

variable {F : FTy → Type} [FloatOps F]
-- ==== Proof.Launch.lean ====
/- The launch facts of the program, as the generated launch module states them, without its list of segments:
   the staging cells, each region's layout facts, the host stretches and the chain of @main's items. -/
module

public import proofs.«01_k».proof.Proof.Gen.KernelIdeal
public import Idealize.ShloMosaic.Lib.Pipeline.Kit
public import Idealize.ShloMosaic.Lib.Pipeline.Regions

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 3 → List (DmaSem sig) :=
  fun | 0 => Pipeline.specSems spec0 | 1 => Pipeline.specSems spec1 | 2 => Pipeline.specSems spec2 | ⟨_ + 3, h⟩ => absurd h (Nat.not_lt.2 (Nat.le_add_left _ _))
/-- Within each custom_call, no two staging buffers complete on one DMA semaphore. -/
theorem semsDistinct : ∀ p : Fin 3, (semTab p).Nodup := by decide
/-- No two custom_calls' staging buffers share a DMA semaphore. -/
theorem semsDisjoint : ∀ p p' : Fin 3, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | 1 => rfl | 2 => rfl | ⟨_ + 3, h⟩ => absurd h (Nat.not_lt.2 (Nat.le_add_left _ _))) semsDistinct semsDisjoint

/-! ## custom_call 0 (pipeline 0 of @main) -/

/-- The layout the launch needs: the windows' arrays unscoped, distinct buffers, the staging buffers scoped and
    distinct, the staging semaphores scoped. -/
theorem winFacts0 : Pipeline.WinFacts spec0 := by decide
/-- No window's block is empty. -/
theorem block_pos0 : ∀ w : Fin 12, 0 < (spec0 w).block.numel := by decide
/-- The windows' arrays and the staging memrefs are whole buffers. -/
theorem arr_whole0 : ∀ w : Fin 12, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | 11 => Memref.isWhole_whole _ | ⟨_ + 12, h⟩ => absurd h (Nat.not_lt.2 (Nat.le_add_left _ _))
theorem stage_whole0 : ∀ (w : Fin 12) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | 7 => fun s => hstage0_7 (s.cast nbuf0_7) | 8 => fun s => hstage0_8 (s.cast nbuf0_8) | 9 => fun s => hstage0_9 (s.cast nbuf0_9) | 10 => fun s => hstage0_10 (s.cast nbuf0_10) | 11 => fun s => hstage0_11 (s.cast nbuf0_11) | ⟨_ + 12, h⟩ => absurd h (Nat.not_lt.2 (Nat.le_add_left _ _))
/-- The five, bundled: what the kit-form launch theorems (Lib/Pipeline/Kit.lean `θ_run_region*_kit`) take. -/
theorem launch0 : Pipeline.LaunchFacts (nD := nD) (τ := τ) cfgs 0 := ⟨cellOf_inj, winFacts0, block_pos0, arr_whole0, stage_whole0⟩

/-- The grid has 32 points. -/
theorem N_0 : grid0.N = 32 := by decide

/-- The windows conjoined one by one. -/
theorem bigSep_W0 {M : Type} [URA M] (Φ : Fin 12 → sProp M) : bigSep Finset.univ Φ = iprop(Φ (0 : Fin 12) ∗ Φ (1 : Fin 12) ∗ Φ (2 : Fin 12) ∗ Φ (3 : Fin 12) ∗ Φ (4 : Fin 12) ∗ Φ (5 : Fin 12) ∗ Φ (6 : Fin 12) ∗ Φ (7 : Fin 12) ∗ Φ (8 : Fin 12) ∗ Φ (9 : Fin 12) ∗ Φ (10 : Fin 12) ∗ Φ (11 : Fin 12)) :=
  bigSep_univ_eq_bigSepL [(0 : Fin 12), (1 : Fin 12), (2 : Fin 12), (3 : Fin 12), (4 : Fin 12), (5 : Fin 12), (6 : Fin 12), (7 : Fin 12), (8 : Fin 12), (9 : Fin 12), (10 : Fin 12), (11 : Fin 12)] (by decide) (by decide) Φ
/-- The core's scoped buffers that are no staging buffer of custom_call 0, each whole at some contents:
    `cc0_scratch0`, `cc1_scratch0`, `cc1_scratch1`, `cc2_stg0_0`, `cc2_stg0_1`, `cc2_stg1_0`, `cc2_stg1_1`, `cc2_stg2_0`, `cc2_stg2_1`, `cc1_stg0_0`. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f) ∗ (∃ f : Buf Val ((c : Thread nD τ).loc cc1_scratch0), ((c : Thread nD τ).loc cc1_scratch0) ↦{fullShare} f) ∗ (∃ f : Buf Val ((c : Thread nD τ).loc cc1_scratch1), ((c : Thread nD τ).loc cc1_scratch1) ↦{fullShare} f) ∗ (∃ f : Buf Val ((c : Thread nD τ).loc cc2_stg0_0), ((c : Thread nD τ).loc cc2_stg0_0) ↦{fullShare} f) ∗ (∃ f : Buf Val ((c : Thread nD τ).loc cc2_stg0_1), ((c : Thread nD τ).loc cc2_stg0_1) ↦{fullShare} f) ∗ (∃ f : Buf Val ((c : Thread nD τ).loc cc2_stg1_0), ((c : Thread nD τ).loc cc2_stg1_0) ↦{fullShare} f) ∗ (∃ f : Buf Val ((c : Thread nD τ).loc cc2_stg1_1), ((c : Thread nD τ).loc cc2_stg1_1) ↦{fullShare} f) ∗ (∃ f : Buf Val ((c : Thread nD τ).loc cc2_stg2_0), ((c : Thread nD τ).loc cc2_stg2_0) ↦{fullShare} f) ∗ (∃ f : Buf Val ((c : Thread nD τ).loc cc2_stg2_1), ((c : Thread nD τ).loc cc2_stg2_1) ↦{fullShare} f) ∗ (∃ f : Buf Val ((c : Thread nD τ).loc cc1_stg0_0), ((c : Thread nD τ).loc cc1_stg0_0) ↦{fullShare} f)) :=
  Pipeline.scopedRest_eq_of_list spec0 c [cc0_scratch0, cc1_scratch0, cc1_scratch1, cc2_stg0_0, cc2_stg0_1, cc2_stg1_0, cc2_stg1_1, cc2_stg2_0, cc2_stg2_1, cc1_stg0_0] (by decide) (by decide)
-- the unscoped rest of custom_call 0 is 66 buffers: not enumerated (routed whole, as `Pipeline.unscopedRest`)

/-! ## custom_call 1 (pipeline 1 of @main) -/

/-- The layout the launch needs: the windows' arrays unscoped, distinct buffers, the staging buffers scoped and
    distinct, the staging semaphores scoped. -/
theorem winFacts1 : Pipeline.WinFacts spec1 := by decide
/-- No window's block is empty. -/
theorem block_pos1 : ∀ w : Fin 1, 0 < (spec1 w).block.numel := by decide
/-- The windows' arrays and the staging memrefs are whole buffers. -/
theorem arr_whole1 : ∀ w : Fin 1, (spec1 w).arr.IsWhole := fun | 0 => Memref.isWhole_whole _ | ⟨_ + 1, h⟩ => absurd h (Nat.not_lt.2 (Nat.le_add_left _ _))
theorem stage_whole1 : ∀ (w : Fin 1) (s : Fin (spec1 w).nbuf), ((spec1 w).stage s).IsWhole := fun | 0 => fun s => hstage1_0 (s.cast nbuf1_0) | ⟨_ + 1, h⟩ => absurd h (Nat.not_lt.2 (Nat.le_add_left _ _))
/-- The five, bundled: what the kit-form launch theorems (Lib/Pipeline/Kit.lean `θ_run_region*_kit`) take. -/
theorem launch1 : Pipeline.LaunchFacts (nD := nD) (τ := τ) cfgs 1 := ⟨cellOf_inj, winFacts1, block_pos1, arr_whole1, stage_whole1⟩

/-- The grid has 8 points. -/
theorem N_1 : grid1.N = 8 := by decide
/-- Point 0. -/
def t1_0 : Fin grid1.N := ⟨0, by rw [N_1]; decide⟩
/-- Point 1. -/
def t1_1 : Fin grid1.N := ⟨1, by rw [N_1]; decide⟩
/-- Point 2. -/
def t1_2 : Fin grid1.N := ⟨2, by rw [N_1]; decide⟩
/-- Point 3. -/
def t1_3 : Fin grid1.N := ⟨3, by rw [N_1]; decide⟩
/-- Point 4. -/
def t1_4 : Fin grid1.N := ⟨4, by rw [N_1]; decide⟩
/-- Point 5. -/
def t1_5 : Fin grid1.N := ⟨5, by rw [N_1]; decide⟩
/-- Point 6. -/
def t1_6 : Fin grid1.N := ⟨6, by rw [N_1]; decide⟩
/-- Point 7. -/
def t1_7 : Fin grid1.N := ⟨7, by rw [N_1]; decide⟩
/-- Every point is one of them. -/
theorem fin_N1 (t : Fin grid1.N) : t = t1_0 ∨ t = t1_1 ∨ t = t1_2 ∨ t = t1_3 ∨ t = t1_4 ∨ t = t1_5 ∨ t = t1_6 ∨ t = t1_7 := by
  obtain ⟨t, ht⟩ := t; have := N_1; simp only [t1_0, t1_1, t1_2, t1_3, t1_4, t1_5, t1_6, t1_7, Fin.mk.injEq]; omega

/-- The windows conjoined one by one. -/
theorem bigSep_W1 {M : Type} [URA M] (Φ : Fin 1 → sProp M) : bigSep Finset.univ Φ = iprop(Φ (0 : Fin 1)) :=
  bigSep_univ_eq_bigSepL [(0 : Fin 1)] (by decide) (by decide) Φ
/-- The core's scoped buffers that are no staging buffer of custom_call 1, each whole at some contents:
    `cc0_stg0_0`, `cc0_stg0_1`, `cc0_stg1_0`, `cc0_stg2_0`, `cc0_stg3_0`, `cc0_stg4_0`, `cc0_stg5_0`, `cc0_stg6_0`, `cc0_stg7_0`, `cc0_stg8_0`, `cc0_stg9_0`, `cc0_stg10_0`, `cc0_stg11_0`, `cc0_stg11_1`, `cc0_scratch0`, `cc1_scratch0`, `cc1_scratch1`, `cc2_stg0_0`, `cc2_stg0_1`, `cc2_stg1_0`, `cc2_stg1_1`, `cc2_stg2_0`, `cc2_stg2_1`. -/
theorem scopedRest1_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc0_stg0_0), ((c : Thread nD τ).loc cc0_stg0_0) ↦{fullShare} f) ∗ (∃ f : Buf Val ((c : Thread nD τ).loc cc0_stg0_1), ((c : Thread nD τ).loc cc0_stg0_1) ↦{fullShare} f) ∗ (∃ f : Buf Val ((c : Thread nD τ).loc cc0_stg1_0), ((c : Thread nD τ).loc cc0_stg1_0) ↦{fullShare} f) ∗ (∃ f : Buf Val ((c : Thread nD τ).loc cc0_stg2_0), ((c : Thread nD τ).loc cc0_stg2_0) ↦{fullShare} f) ∗ (∃ f : Buf Val ((c : Thread nD τ).loc cc0_stg3_0), ((c : Thread nD τ).loc cc0_stg3_0) ↦{fullShare} f) ∗ (∃ f : Buf Val ((c : Thread nD τ).loc cc0_stg4_0), ((c : Thread nD τ).loc cc0_stg4_0) ↦{fullShare} f) ∗ (∃ f : Buf Val ((c : Thread nD τ).loc cc0_stg5_0), ((c : Thread nD τ).loc cc0_stg5_0) ↦{fullShare} f) ∗ (∃ f : Buf Val ((c : Thread nD τ).loc cc0_stg6_0), ((c : Thread nD τ).loc cc0_stg6_0) ↦{fullShare} f) ∗ (∃ f : Buf Val ((c : Thread nD τ).loc cc0_stg7_0), ((c : Thread nD τ).loc cc0_stg7_0) ↦{fullShare} f) ∗ (∃ f : Buf Val ((c : Thread nD τ).loc cc0_stg8_0), ((c : Thread nD τ).loc cc0_stg8_0) ↦{fullShare} f) ∗ (∃ f : Buf Val ((c : Thread nD τ).loc cc0_stg9_0), ((c : Thread nD τ).loc cc0_stg9_0) ↦{fullShare} f) ∗ (∃ f : Buf Val ((c : Thread nD τ).loc cc0_stg10_0), ((c : Thread nD τ).loc cc0_stg10_0) ↦{fullShare} f) ∗ (∃ f : Buf Val ((c : Thread nD τ).loc cc0_stg11_0), ((c : Thread nD τ).loc cc0_stg11_0) ↦{fullShare} f) ∗ (∃ f : Buf Val ((c : Thread nD τ).loc cc0_stg11_1), ((c : Thread nD τ).loc cc0_stg11_1) ↦{fullShare} f) ∗ (∃ f : Buf Val ((c : Thread nD τ).loc cc0_scratch0), ((c : Thread nD τ).loc cc0_scratch0) ↦{fullShare} f) ∗ (∃ f : Buf Val ((c : Thread nD τ).loc cc1_scratch0), ((c : Thread nD τ).loc cc1_scratch0) ↦{fullShare} f) ∗ (∃ f : Buf Val ((c : Thread nD τ).loc cc1_scratch1), ((c : Thread nD τ).loc cc1_scratch1) ↦{fullShare} f) ∗ (∃ f : Buf Val ((c : Thread nD τ).loc cc2_stg0_0), ((c : Thread nD τ).loc cc2_stg0_0) ↦{fullShare} f) ∗ (∃ f : Buf Val ((c : Thread nD τ).loc cc2_stg0_1), ((c : Thread nD τ).loc cc2_stg0_1) ↦{fullShare} f) ∗ (∃ f : Buf Val ((c : Thread nD τ).loc cc2_stg1_0), ((c : Thread nD τ).loc cc2_stg1_0) ↦{fullShare} f) ∗ (∃ f : Buf Val ((c : Thread nD τ).loc cc2_stg1_1), ((c : Thread nD τ).loc cc2_stg1_1) ↦{fullShare} f) ∗ (∃ f : Buf Val ((c : Thread nD τ).loc cc2_stg2_0), ((c : Thread nD τ).loc cc2_stg2_0) ↦{fullShare} f) ∗ (∃ f : Buf Val ((c : Thread nD τ).loc cc2_stg2_1), ((c : Thread nD τ).loc cc2_stg2_1) ↦{fullShare} f)) :=
  Pipeline.scopedRest_eq_of_list spec1 c [cc0_stg0_0, cc0_stg0_1, cc0_stg1_0, cc0_stg2_0, cc0_stg3_0, cc0_stg4_0, cc0_stg5_0, cc0_stg6_0, cc0_stg7_0, cc0_stg8_0, cc0_stg9_0, cc0_stg10_0, cc0_stg11_0, cc0_stg11_1, cc0_scratch0, cc1_scratch0, cc1_scratch1, cc2_stg0_0, cc2_stg0_1, cc2_stg1_0, cc2_stg1_1, cc2_stg2_0, cc2_stg2_1] (by decide) (by decide)
-- the unscoped rest of custom_call 1 is 77 buffers: not enumerated (routed whole, as `Pipeline.unscopedRest`)

/-! ## custom_call 2 (pipeline 2 of @main) -/

/-- The layout the launch needs: the windows' arrays unscoped, distinct buffers, the staging buffers scoped and
    distinct, the staging semaphores scoped. -/
theorem winFacts2 : Pipeline.WinFacts spec2 := by decide
/-- No window's block is empty. -/
theorem block_pos2 : ∀ w : Fin 3, 0 < (spec2 w).block.numel := by decide
/-- The windows' arrays and the staging memrefs are whole buffers. -/
theorem arr_whole2 : ∀ w : Fin 3, (spec2 w).arr.IsWhole := fun | 0 => Memref.isWhole_whole _ | 1 => Memref.isWhole_whole _ | 2 => Memref.isWhole_whole _ | ⟨_ + 3, h⟩ => absurd h (Nat.not_lt.2 (Nat.le_add_left _ _))
theorem stage_whole2 : ∀ (w : Fin 3) (s : Fin (spec2 w).nbuf), ((spec2 w).stage s).IsWhole := fun | 0 => fun s => hstage2_0 (s.cast nbuf2_0) | 1 => fun s => hstage2_1 (s.cast nbuf2_1) | 2 => fun s => hstage2_2 (s.cast nbuf2_2) | ⟨_ + 3, h⟩ => absurd h (Nat.not_lt.2 (Nat.le_add_left _ _))
/-- The five, bundled: what the kit-form launch theorems (Lib/Pipeline/Kit.lean `θ_run_region*_kit`) take. -/
theorem launch2 : Pipeline.LaunchFacts (nD := nD) (τ := τ) cfgs 2 := ⟨cellOf_inj, winFacts2, block_pos2, arr_whole2, stage_whole2⟩

/-- The grid has 32 points. -/
theorem N_2 : grid2.N = 32 := by decide

/-- The windows conjoined one by one. -/
theorem bigSep_W2 {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ
/-- The core's scoped buffers that are no staging buffer of custom_call 2, each whole at some contents:
    `cc0_stg0_0`, `cc0_stg0_1`, `cc0_stg1_0`, `cc0_stg2_0`, `cc0_stg3_0`, `cc0_stg4_0`, `cc0_stg5_0`, `cc0_stg6_0`, `cc0_stg7_0`, `cc0_stg8_0`, `cc0_stg9_0`, `cc0_stg10_0`, `cc0_stg11_0`, `cc0_stg11_1`, `cc0_scratch0`, `cc1_scratch0`, `cc1_scratch1`, `cc1_stg0_0`. -/
theorem scopedRest2_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop((∃ f : Buf Val ((c : Thread nD τ).loc cc0_stg0_0), ((c : Thread nD τ).loc cc0_stg0_0) ↦{fullShare} f) ∗ (∃ f : Buf Val ((c : Thread nD τ).loc cc0_stg0_1), ((c : Thread nD τ).loc cc0_stg0_1) ↦{fullShare} f) ∗ (∃ f : Buf Val ((c : Thread nD τ).loc cc0_stg1_0), ((c : Thread nD τ).loc cc0_stg1_0) ↦{fullShare} f) ∗ (∃ f : Buf Val ((c : Thread nD τ).loc cc0_stg2_0), ((c : Thread nD τ).loc cc0_stg2_0) ↦{fullShare} f) ∗ (∃ f : Buf Val ((c : Thread nD τ).loc cc0_stg3_0), ((c : Thread nD τ).loc cc0_stg3_0) ↦{fullShare} f) ∗ (∃ f : Buf Val ((c : Thread nD τ).loc cc0_stg4_0), ((c : Thread nD τ).loc cc0_stg4_0) ↦{fullShare} f) ∗ (∃ f : Buf Val ((c : Thread nD τ).loc cc0_stg5_0), ((c : Thread nD τ).loc cc0_stg5_0) ↦{fullShare} f) ∗ (∃ f : Buf Val ((c : Thread nD τ).loc cc0_stg6_0), ((c : Thread nD τ).loc cc0_stg6_0) ↦{fullShare} f) ∗ (∃ f : Buf Val ((c : Thread nD τ).loc cc0_stg7_0), ((c : Thread nD τ).loc cc0_stg7_0) ↦{fullShare} f) ∗ (∃ f : Buf Val ((c : Thread nD τ).loc cc0_stg8_0), ((c : Thread nD τ).loc cc0_stg8_0) ↦{fullShare} f) ∗ (∃ f : Buf Val ((c : Thread nD τ).loc cc0_stg9_0), ((c : Thread nD τ).loc cc0_stg9_0) ↦{fullShare} f) ∗ (∃ f : Buf Val ((c : Thread nD τ).loc cc0_stg10_0), ((c : Thread nD τ).loc cc0_stg10_0) ↦{fullShare} f) ∗ (∃ f : Buf Val ((c : Thread nD τ).loc cc0_stg11_0), ((c : Thread nD τ).loc cc0_stg11_0) ↦{fullShare} f) ∗ (∃ f : Buf Val ((c : Thread nD τ).loc cc0_stg11_1), ((c : Thread nD τ).loc cc0_stg11_1) ↦{fullShare} f) ∗ (∃ f : Buf Val ((c : Thread nD τ).loc cc0_scratch0), ((c : Thread nD τ).loc cc0_scratch0) ↦{fullShare} f) ∗ (∃ f : Buf Val ((c : Thread nD τ).loc cc1_scratch0), ((c : Thread nD τ).loc cc1_scratch0) ↦{fullShare} f) ∗ (∃ f : Buf Val ((c : Thread nD τ).loc cc1_scratch1), ((c : Thread nD τ).loc cc1_scratch1) ↦{fullShare} f) ∗ (∃ f : Buf Val ((c : Thread nD τ).loc cc1_stg0_0), ((c : Thread nD τ).loc cc1_stg0_0) ↦{fullShare} f)) :=
  Pipeline.scopedRest_eq_of_list spec2 c [cc0_stg0_0, cc0_stg0_1, cc0_stg1_0, cc0_stg2_0, cc0_stg3_0, cc0_stg4_0, cc0_stg5_0, cc0_stg6_0, cc0_stg7_0, cc0_stg8_0, cc0_stg9_0, cc0_stg10_0, cc0_stg11_0, cc0_stg11_1, cc0_scratch0, cc1_scratch0, cc1_scratch1, cc1_stg0_0] (by decide) (by decide)
-- the unscoped rest of custom_call 2 is 75 buffers: not enumerated (routed whole, as `Pipeline.unscopedRest`)

/-! ## @main as segments and as a chain of items (Lib/Pipeline/Regions.lean `θ_run_regions_kit`, `Pipeline.chain`) -/

/-- 58 host operations of @main, in order. -/
abbrev hostOps0 : List (HloOp τ sig (Elt F)) :=
  ( StableHlo.nullary main_c (fun i => lit0 (S2.rowMajor i))
  :: StableHlo.unary main_arg1 main_v0 ((transpose S768x6 [1, 0] · transposes_S6x768_S768x6_1_0) : (⟨S6x768, .f32⟩ : BufTy).Contents (Elt F) → (⟨S768x6, .f32⟩ : BufTy).Contents (Elt F))
  :: StableHlo.unary main_arg3 main_v1 ((transpose S774x24 [1, 0] · transposes_S24x774_S774x24_1_0) : (⟨S24x774, .f32⟩ : BufTy).Contents (Elt F) → (⟨S774x24, .f32⟩ : BufTy).Contents (Elt F))
  :: StableHlo.unary main_arg5 main_v2 ((transpose S798x96 [1, 0] · transposes_S96x798_S798x96_1_0) : (⟨S96x798, .f32⟩ : BufTy).Contents (Elt F) → (⟨S798x96, .f32⟩ : BufTy).Contents (Elt F))
  :: StableHlo.unary main_arg7 main_v3 ((transpose S894x384 [1, 0] · transposes_S384x894_S894x384_1_0) : (⟨S384x894, .f32⟩ : BufTy).Contents (Elt F) → (⟨S894x384, .f32⟩ : BufTy).Contents (Elt F))
  :: StableHlo.unary main_arg9 main_v4 ((transpose S1278x1536 [1, 0] · transposes_S1536x1278_S1278x1536_1_0) : (⟨S1536x1278, .f32⟩ : BufTy).Contents (Elt F) → (⟨S1278x1536, .f32⟩ : BufTy).Contents (Elt F))
  :: StableHlo.reshape main_arg2 main_v5 (rfl : (.f32 : EltTy) = .f32) shapeCasts_S6_S1x6
  :: StableHlo.reshape main_arg4 main_v6 (rfl : (.f32 : EltTy) = .f32) shapeCasts_S24_S1x24
  :: StableHlo.reshape main_arg6 main_v7 (rfl : (.f32 : EltTy) = .f32) shapeCasts_S96_S1x96
  :: StableHlo.reshape main_arg8 main_v8 (rfl : (.f32 : EltTy) = .f32) shapeCasts_S384_S1x384
  :: StableHlo.reshape main_arg10 main_v9 (rfl : (.f32 : EltTy) = .f32) shapeCasts_S1536_S1x1536
  :: StableHlo.reshape main_arg12 main_v10 (rfl : (.f32 : EltTy) = .f32) shapeCasts_S6144_S1x6144
  :: StableHlo.nullary main_cst (constant S_ .f32 0x00000000#32)
  :: StableHlo.unary main_cst main_v11 (broadcastInDim S6x2815 ![] bcast_S_S6x2815 : (⟨S_, .f32⟩ : BufTy).Contents (Elt F) → (⟨S6x2815, .f32⟩ : BufTy).Contents (Elt F))
  :: StableHlo.nullary main_v12 (iotaInDim S6x6 32 0)
  :: StableHlo.nullary main_v13 (iotaInDim S6x6 32 1)
  :: StableHlo.nullary main_c_0 (constantI S_ 32 0#32)
  :: StableHlo.unary main_c_0 main_v14 (broadcastInDim S6x6 ![] bcast_S_S6x6 : (⟨S_, .i32⟩ : BufTy).Contents (Elt F) → (⟨S6x6, .i32⟩ : BufTy).Contents (Elt F))
  :: StableHlo.binary main_v12 main_v14 main_v15 (addi : (⟨S6x6, .i32⟩ : BufTy).Contents (Elt F) → (⟨S6x6, .i32⟩ : BufTy).Contents (Elt F) → (⟨S6x6, .i32⟩ : BufTy).Contents (Elt F))
  :: StableHlo.binary main_v15 main_v13 main_v16 (cmpi .eq : (⟨S6x6, .i32⟩ : BufTy).Contents (Elt F) → (⟨S6x6, .i32⟩ : BufTy).Contents (Elt F) → (⟨S6x6, .i1⟩ : BufTy).Contents (Elt F))
  :: StableHlo.unary main_v16 main_v17 (uitofp .f32 : (⟨S6x6, .i1⟩ : BufTy).Contents (Elt F) → (⟨S6x6, .f32⟩ : BufTy).Contents (Elt F))
  :: StableHlo.nullary main_cst_1 (constant S_ .f32 0x00000000#32)
  :: StableHlo.unary main_cst_1 main_v18 (broadcastInDim S6x123 ![] bcast_S_S6x123 : (⟨S_, .f32⟩ : BufTy).Contents (Elt F) → (⟨S6x123, .f32⟩ : BufTy).Contents (Elt F))
  :: StableHlo.nary ![main_v11, main_v17, main_v18] main_v19 (fun u => (concatenate S6x2944 1 [⟨S6x2815, (u 0 : (⟨S6x2815, .f32⟩ : BufTy).Contents (Elt F))⟩, ⟨S6x6, (u 1 : (⟨S6x6, .f32⟩ : BufTy).Contents (Elt F))⟩, ⟨S6x123, (u 2 : (⟨S6x123, .f32⟩ : BufTy).Contents (Elt F))⟩] concatenates_S6x2815_S6x6_S6x123_S6x2944_d1 : (⟨S6x2944, .f32⟩ : BufTy).Contents (Elt F)))
  :: StableHlo.nullary main_cst_2 (constant S_ .f32 0x00000000#32)
  :: StableHlo.unary main_cst_2 main_v20 (broadcastInDim S24x2040 ![] bcast_S_S24x2040 : (⟨S_, .f32⟩ : BufTy).Contents (Elt F) → (⟨S24x2040, .f32⟩ : BufTy).Contents (Elt F))
  :: StableHlo.reshape main_arg4 main_v21 (rfl : (.f32 : EltTy) = .f32) shapeCasts_S24_S24x1
  :: StableHlo.nullary main_cst_3 (constant S_ .f32 0x00000000#32)
  :: StableHlo.unary main_cst_3 main_v22 (broadcastInDim S24x129 ![] bcast_S_S24x129 : (⟨S_, .f32⟩ : BufTy).Contents (Elt F) → (⟨S24x129, .f32⟩ : BufTy).Contents (Elt F))
  :: StableHlo.nary ![main_arg3, main_v20, main_v21, main_v22] main_v23 (fun u => (concatenate S24x2944 1 [⟨S24x774, (u 0 : (⟨S24x774, .f32⟩ : BufTy).Contents (Elt F))⟩, ⟨S24x2040, (u 1 : (⟨S24x2040, .f32⟩ : BufTy).Contents (Elt F))⟩, ⟨S24x1, (u 2 : (⟨S24x1, .f32⟩ : BufTy).Contents (Elt F))⟩, ⟨S24x129, (u 3 : (⟨S24x129, .f32⟩ : BufTy).Contents (Elt F))⟩] concatenates_S24x774_S24x2040_S24x1_S24x129_S24x2944_d1 : (⟨S24x2944, .f32⟩ : BufTy).Contents (Elt F)))
  :: StableHlo.nullary main_cst_4 (constant S_ .f32 0x00000000#32)
  :: StableHlo.unary main_cst_4 main_v24 (broadcastInDim S96x2016 ![] bcast_S_S96x2016 : (⟨S_, .f32⟩ : BufTy).Contents (Elt F) → (⟨S96x2016, .f32⟩ : BufTy).Contents (Elt F))
  :: StableHlo.reshape main_arg6 main_v25 (rfl : (.f32 : EltTy) = .f32) shapeCasts_S96_S96x1
  :: StableHlo.nullary main_cst_5 (constant S_ .f32 0x00000000#32)
  :: StableHlo.unary main_cst_5 main_v26 (broadcastInDim S96x129 ![] bcast_S_S96x129 : (⟨S_, .f32⟩ : BufTy).Contents (Elt F) → (⟨S96x129, .f32⟩ : BufTy).Contents (Elt F))
  :: StableHlo.nary ![main_arg5, main_v24, main_v25, main_v26] main_v27 (fun u => (concatenate S96x2944 1 [⟨S96x798, (u 0 : (⟨S96x798, .f32⟩ : BufTy).Contents (Elt F))⟩, ⟨S96x2016, (u 1 : (⟨S96x2016, .f32⟩ : BufTy).Contents (Elt F))⟩, ⟨S96x1, (u 2 : (⟨S96x1, .f32⟩ : BufTy).Contents (Elt F))⟩, ⟨S96x129, (u 3 : (⟨S96x129, .f32⟩ : BufTy).Contents (Elt F))⟩] concatenates_S96x798_S96x2016_S96x1_S96x129_S96x2944_d1 : (⟨S96x2944, .f32⟩ : BufTy).Contents (Elt F)))
  :: StableHlo.nullary main_cst_6 (constant S_ .f32 0x00000000#32)
  :: StableHlo.unary main_cst_6 main_v28 (broadcastInDim S384x1920 ![] bcast_S_S384x1920 : (⟨S_, .f32⟩ : BufTy).Contents (Elt F) → (⟨S384x1920, .f32⟩ : BufTy).Contents (Elt F))
  :: StableHlo.reshape main_arg8 main_v29 (rfl : (.f32 : EltTy) = .f32) shapeCasts_S384_S384x1
  :: StableHlo.nullary main_cst_7 (constant S_ .f32 0x00000000#32)
  :: StableHlo.unary main_cst_7 main_v30 (broadcastInDim S384x129 ![] bcast_S_S384x129 : (⟨S_, .f32⟩ : BufTy).Contents (Elt F) → (⟨S384x129, .f32⟩ : BufTy).Contents (Elt F))
  :: StableHlo.nary ![main_arg7, main_v28, main_v29, main_v30] main_v31 (fun u => (concatenate S384x2944 1 [⟨S384x894, (u 0 : (⟨S384x894, .f32⟩ : BufTy).Contents (Elt F))⟩, ⟨S384x1920, (u 1 : (⟨S384x1920, .f32⟩ : BufTy).Contents (Elt F))⟩, ⟨S384x1, (u 2 : (⟨S384x1, .f32⟩ : BufTy).Contents (Elt F))⟩, ⟨S384x129, (u 3 : (⟨S384x129, .f32⟩ : BufTy).Contents (Elt F))⟩] concatenates_S384x894_S384x1920_S384x1_S384x129_S384x2944_d1 : (⟨S384x2944, .f32⟩ : BufTy).Contents (Elt F)))
  :: StableHlo.nullary main_cst_8 (constant S_ .f32 0x00000000#32)
  :: StableHlo.unary main_cst_8 main_v32 (broadcastInDim S1536x1536 ![] bcast_S_S1536x1536 : (⟨S_, .f32⟩ : BufTy).Contents (Elt F) → (⟨S1536x1536, .f32⟩ : BufTy).Contents (Elt F))
  :: StableHlo.reshape main_arg10 main_v33 (rfl : (.f32 : EltTy) = .f32) shapeCasts_S1536_S1536x1
  :: StableHlo.nullary main_cst_9 (constant S_ .f32 0x00000000#32)
  :: StableHlo.unary main_cst_9 main_v34 (broadcastInDim S1536x129 ![] bcast_S_S1536x129 : (⟨S_, .f32⟩ : BufTy).Contents (Elt F) → (⟨S1536x129, .f32⟩ : BufTy).Contents (Elt F))
  :: StableHlo.nary ![main_arg9, main_v32, main_v33, main_v34] main_v35 (fun u => (concatenate S1536x2944 1 [⟨S1536x1278, (u 0 : (⟨S1536x1278, .f32⟩ : BufTy).Contents (Elt F))⟩, ⟨S1536x1536, (u 1 : (⟨S1536x1536, .f32⟩ : BufTy).Contents (Elt F))⟩, ⟨S1536x1, (u 2 : (⟨S1536x1, .f32⟩ : BufTy).Contents (Elt F))⟩, ⟨S1536x129, (u 3 : (⟨S1536x129, .f32⟩ : BufTy).Contents (Elt F))⟩] concatenates_S1536x1278_S1536x1536_S1536x1_S1536x129_S1536x2944_d1 : (⟨S1536x2944, .f32⟩ : BufTy).Contents (Elt F)))
  :: StableHlo.nullary main_cst_10 (constant S_ .f32 0x00000000#32)
  :: StableHlo.unary main_cst_10 main_v36 (broadcastInDim S6144x0 ![] bcast_S_S6144x0 : (⟨S_, .f32⟩ : BufTy).Contents (Elt F) → (⟨S6144x0, .f32⟩ : BufTy).Contents (Elt F))
  :: StableHlo.reshape main_arg12 main_v37 (rfl : (.f32 : EltTy) = .f32) shapeCasts_S6144_S6144x1
  :: StableHlo.nullary main_cst_11 (constant S_ .f32 0x00000000#32)
  :: StableHlo.unary main_cst_11 main_v38 (broadcastInDim S6144x129 ![] bcast_S_S6144x129 : (⟨S_, .f32⟩ : BufTy).Contents (Elt F) → (⟨S6144x129, .f32⟩ : BufTy).Contents (Elt F))
  :: StableHlo.nary ![main_arg11, main_v36, main_v37, main_v38] main_v39 (fun u => (concatenate S6144x2944 1 [⟨S6144x2814, (u 0 : (⟨S6144x2814, .f32⟩ : BufTy).Contents (Elt F))⟩, ⟨S6144x0, (u 1 : (⟨S6144x0, .f32⟩ : BufTy).Contents (Elt F))⟩, ⟨S6144x1, (u 2 : (⟨S6144x1, .f32⟩ : BufTy).Contents (Elt F))⟩, ⟨S6144x129, (u 3 : (⟨S6144x129, .f32⟩ : BufTy).Contents (Elt F))⟩] concatenates_S6144x2814_S6144x0_S6144x1_S6144x129_S6144x2944_d1 : (⟨S6144x2944, .f32⟩ : BufTy).Contents (Elt F)))
  :: StableHlo.nullary main_cst_12 (constant S_ .f32 0x00000000#32)
  :: StableHlo.unary main_cst_12 main_v40 (broadcastInDim S2x2944 ![] bcast_S_S2x2944 : (⟨S_, .f32⟩ : BufTy).Contents (Elt F) → (⟨S2x2944, .f32⟩ : BufTy).Contents (Elt F))
  :: StableHlo.nary ![main_v19, main_v23, main_v27, main_v31, main_v35, main_v39, main_v40] main_v41 (fun u => (concatenate S8192x2944 0 [⟨S6x2944, (u 0 : (⟨S6x2944, .f32⟩ : BufTy).Contents (Elt F))⟩, ⟨S24x2944, (u 1 : (⟨S24x2944, .f32⟩ : BufTy).Contents (Elt F))⟩, ⟨S96x2944, (u 2 : (⟨S96x2944, .f32⟩ : BufTy).Contents (Elt F))⟩, ⟨S384x2944, (u 3 : (⟨S384x2944, .f32⟩ : BufTy).Contents (Elt F))⟩, ⟨S1536x2944, (u 4 : (⟨S1536x2944, .f32⟩ : BufTy).Contents (Elt F))⟩, ⟨S6144x2944, (u 5 : (⟨S6144x2944, .f32⟩ : BufTy).Contents (Elt F))⟩, ⟨S2x2944, (u 6 : (⟨S2x2944, .f32⟩ : BufTy).Contents (Elt F))⟩] concatenates_S6x2944_S24x2944_S96x2944_S384x2944_S1536x2944_S6144x2944_S2x2944_S8192x2944_d0 : (⟨S8192x2944, .f32⟩ : BufTy).Contents (Elt F)))
  :: StableHlo.binary main_arg13 main_c main_v42 ((fun a b => concatenate S8192 0 [⟨S8190, a⟩, ⟨S2, b⟩] concatenates_S8190_S2_S8192_d0) : (⟨S8190, .i32⟩ : BufTy).Contents (Elt F) → (⟨S2, .i32⟩ : BufTy).Contents (Elt F) → (⟨S8192, .i32⟩ : BufTy).Contents (Elt F))
  :: [] )
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.unary_bufs_sub .., StableHlo.reshape_bufs_sub .., StableHlo.reshape_bufs_sub .., StableHlo.reshape_bufs_sub .., StableHlo.reshape_bufs_sub .., StableHlo.reshape_bufs_sub .., StableHlo.reshape_bufs_sub .., StableHlo.nullary_bufs_sub .., StableHlo.unary_bufs_sub .., StableHlo.nullary_bufs_sub .., StableHlo.nullary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.nary_bufs_sub .., StableHlo.nullary_bufs_sub .., StableHlo.unary_bufs_sub .., StableHlo.reshape_bufs_sub .., StableHlo.nullary_bufs_sub .., StableHlo.unary_bufs_sub .., StableHlo.nary_bufs_sub .., StableHlo.nullary_bufs_sub .., StableHlo.unary_bufs_sub .., StableHlo.reshape_bufs_sub .., StableHlo.nullary_bufs_sub .., StableHlo.unary_bufs_sub .., StableHlo.nary_bufs_sub .., StableHlo.nullary_bufs_sub .., StableHlo.unary_bufs_sub .., StableHlo.reshape_bufs_sub .., StableHlo.nullary_bufs_sub .., StableHlo.unary_bufs_sub .., StableHlo.nary_bufs_sub .., StableHlo.nullary_bufs_sub .., StableHlo.unary_bufs_sub .., StableHlo.reshape_bufs_sub .., StableHlo.nullary_bufs_sub .., StableHlo.unary_bufs_sub .., StableHlo.nary_bufs_sub .., StableHlo.nullary_bufs_sub .., StableHlo.unary_bufs_sub .., StableHlo.reshape_bufs_sub .., StableHlo.nullary_bufs_sub .., StableHlo.unary_bufs_sub .., StableHlo.nary_bufs_sub .., StableHlo.nullary_bufs_sub .., StableHlo.unary_bufs_sub .., StableHlo.nary_bufs_sub .., StableHlo.binary_bufs_sub ..⟩
/-- 1 host operation of @main, in order. -/
abbrev hostOps1 : List (HloOp τ sig (Elt F)) :=
  [ StableHlo.reshape main_v41 main_v44 (rfl : (.f32 : EltTy) = .f32) shapeCasts_S8192x2944_S8192x1x2944 ]
/-- Each touches TensorCore references only (`HostSeg.ofOps` over `StableHlo.tcRefs`, or a subset by `sub_ucRefs`). -/
theorem hostOps1_sub : (hostOps1 : List (HloOp τ sig (Elt F))).Forall fun op => op.bufs ⊆ StableHlo.tcRefs τ sig :=
  StableHlo.reshape_bufs_sub ..
/-- 2 host operations of @main, in order. -/
abbrev hostOps2 : List (HloOp τ sig (Elt F)) :=
  [ StableHlo.reshape main_v45 main_v46 (rfl : (.f32 : EltTy) = .f32) shapeCasts_S8192x1x2944_S8192x2944,
    StableHlo.unary main_v46 main_v47 ((truncf .bf16 · bitsLt_bf16_f32) : (⟨S8192x2944, .f32⟩ : BufTy).Contents (Elt F) → (⟨S8192x2944, .bf16⟩ : BufTy).Contents (Elt F)) ]
/-- Each touches TensorCore references only (`HostSeg.ofOps` over `StableHlo.tcRefs`, or a subset by `sub_ucRefs`). -/
theorem hostOps2_sub : (hostOps2 : List (HloOp τ sig (Elt F))).Forall fun op => op.bufs ⊆ StableHlo.tcRefs τ sig :=
  ⟨StableHlo.reshape_bufs_sub .., StableHlo.unary_bufs_sub ..⟩
/-- 58 host operations of @main, window 0 (statements 1 … 60), in order. -/
abbrev main_part0_ops0 : List (HloOp τ sig (Elt F)) :=
  ( StableHlo.nullary main_c (fun i => lit0 (S2.rowMajor i))
  :: StableHlo.unary main_arg1 main_v0 ((transpose S768x6 [1, 0] · transposes_S6x768_S768x6_1_0) : (⟨S6x768, .f32⟩ : BufTy).Contents (Elt F) → (⟨S768x6, .f32⟩ : BufTy).Contents (Elt F))
  :: StableHlo.unary main_arg3 main_v1 ((transpose S774x24 [1, 0] · transposes_S24x774_S774x24_1_0) : (⟨S24x774, .f32⟩ : BufTy).Contents (Elt F) → (⟨S774x24, .f32⟩ : BufTy).Contents (Elt F))
  :: StableHlo.unary main_arg5 main_v2 ((transpose S798x96 [1, 0] · transposes_S96x798_S798x96_1_0) : (⟨S96x798, .f32⟩ : BufTy).Contents (Elt F) → (⟨S798x96, .f32⟩ : BufTy).Contents (Elt F))
  :: StableHlo.unary main_arg7 main_v3 ((transpose S894x384 [1, 0] · transposes_S384x894_S894x384_1_0) : (⟨S384x894, .f32⟩ : BufTy).Contents (Elt F) → (⟨S894x384, .f32⟩ : BufTy).Contents (Elt F))
  :: StableHlo.unary main_arg9 main_v4 ((transpose S1278x1536 [1, 0] · transposes_S1536x1278_S1278x1536_1_0) : (⟨S1536x1278, .f32⟩ : BufTy).Contents (Elt F) → (⟨S1278x1536, .f32⟩ : BufTy).Contents (Elt F))
  :: StableHlo.reshape main_arg2 main_v5 (rfl : (.f32 : EltTy) = .f32) shapeCasts_S6_S1x6
  :: StableHlo.reshape main_arg4 main_v6 (rfl : (.f32 : EltTy) = .f32) shapeCasts_S24_S1x24
  :: StableHlo.reshape main_arg6 main_v7 (rfl : (.f32 : EltTy) = .f32) shapeCasts_S96_S1x96
  :: StableHlo.reshape main_arg8 main_v8 (rfl : (.f32 : EltTy) = .f32) shapeCasts_S384_S1x384
  :: StableHlo.reshape main_arg10 main_v9 (rfl : (.f32 : EltTy) = .f32) shapeCasts_S1536_S1x1536
  :: StableHlo.reshape main_arg12 main_v10 (rfl : (.f32 : EltTy) = .f32) shapeCasts_S6144_S1x6144
  :: StableHlo.nullary main_cst (constant S_ .f32 0x00000000#32)
  :: StableHlo.unary main_cst main_v11 (broadcastInDim S6x2815 ![] bcast_S_S6x2815 : (⟨S_, .f32⟩ : BufTy).Contents (Elt F) → (⟨S6x2815, .f32⟩ : BufTy).Contents (Elt F))
  :: StableHlo.nullary main_v12 (iotaInDim S6x6 32 0)
  :: StableHlo.nullary main_v13 (iotaInDim S6x6 32 1)
  :: StableHlo.nullary main_c_0 (constantI S_ 32 0#32)
  :: StableHlo.unary main_c_0 main_v14 (broadcastInDim S6x6 ![] bcast_S_S6x6 : (⟨S_, .i32⟩ : BufTy).Contents (Elt F) → (⟨S6x6, .i32⟩ : BufTy).Contents (Elt F))
  :: StableHlo.binary main_v12 main_v14 main_v15 (addi : (⟨S6x6, .i32⟩ : BufTy).Contents (Elt F) → (⟨S6x6, .i32⟩ : BufTy).Contents (Elt F) → (⟨S6x6, .i32⟩ : BufTy).Contents (Elt F))
  :: StableHlo.binary main_v15 main_v13 main_v16 (cmpi .eq : (⟨S6x6, .i32⟩ : BufTy).Contents (Elt F) → (⟨S6x6, .i32⟩ : BufTy).Contents (Elt F) → (⟨S6x6, .i1⟩ : BufTy).Contents (Elt F))
  :: StableHlo.unary main_v16 main_v17 (uitofp .f32 : (⟨S6x6, .i1⟩ : BufTy).Contents (Elt F) → (⟨S6x6, .f32⟩ : BufTy).Contents (Elt F))
  :: StableHlo.nullary main_cst_1 (constant S_ .f32 0x00000000#32)
  :: StableHlo.unary main_cst_1 main_v18 (broadcastInDim S6x123 ![] bcast_S_S6x123 : (⟨S_, .f32⟩ : BufTy).Contents (Elt F) → (⟨S6x123, .f32⟩ : BufTy).Contents (Elt F))
  :: StableHlo.nary ![main_v11, main_v17, main_v18] main_v19 (fun u => (concatenate S6x2944 1 [⟨S6x2815, (u 0 : (⟨S6x2815, .f32⟩ : BufTy).Contents (Elt F))⟩, ⟨S6x6, (u 1 : (⟨S6x6, .f32⟩ : BufTy).Contents (Elt F))⟩, ⟨S6x123, (u 2 : (⟨S6x123, .f32⟩ : BufTy).Contents (Elt F))⟩] concatenates_S6x2815_S6x6_S6x123_S6x2944_d1 : (⟨S6x2944, .f32⟩ : BufTy).Contents (Elt F)))
  :: StableHlo.nullary main_cst_2 (constant S_ .f32 0x00000000#32)
  :: StableHlo.unary main_cst_2 main_v20 (broadcastInDim S24x2040 ![] bcast_S_S24x2040 : (⟨S_, .f32⟩ : BufTy).Contents (Elt F) → (⟨S24x2040, .f32⟩ : BufTy).Contents (Elt F))
  :: StableHlo.reshape main_arg4 main_v21 (rfl : (.f32 : EltTy) = .f32) shapeCasts_S24_S24x1
  :: StableHlo.nullary main_cst_3 (constant S_ .f32 0x00000000#32)
  :: StableHlo.unary main_cst_3 main_v22 (broadcastInDim S24x129 ![] bcast_S_S24x129 : (⟨S_, .f32⟩ : BufTy).Contents (Elt F) → (⟨S24x129, .f32⟩ : BufTy).Contents (Elt F))
  :: StableHlo.nary ![main_arg3, main_v20, main_v21, main_v22] main_v23 (fun u => (concatenate S24x2944 1 [⟨S24x774, (u 0 : (⟨S24x774, .f32⟩ : BufTy).Contents (Elt F))⟩, ⟨S24x2040, (u 1 : (⟨S24x2040, .f32⟩ : BufTy).Contents (Elt F))⟩, ⟨S24x1, (u 2 : (⟨S24x1, .f32⟩ : BufTy).Contents (Elt F))⟩, ⟨S24x129, (u 3 : (⟨S24x129, .f32⟩ : BufTy).Contents (Elt F))⟩] concatenates_S24x774_S24x2040_S24x1_S24x129_S24x2944_d1 : (⟨S24x2944, .f32⟩ : BufTy).Contents (Elt F)))
  :: StableHlo.nullary main_cst_4 (constant S_ .f32 0x00000000#32)
  :: StableHlo.unary main_cst_4 main_v24 (broadcastInDim S96x2016 ![] bcast_S_S96x2016 : (⟨S_, .f32⟩ : BufTy).Contents (Elt F) → (⟨S96x2016, .f32⟩ : BufTy).Contents (Elt F))
  :: StableHlo.reshape main_arg6 main_v25 (rfl : (.f32 : EltTy) = .f32) shapeCasts_S96_S96x1
  :: StableHlo.nullary main_cst_5 (constant S_ .f32 0x00000000#32)
  :: StableHlo.unary main_cst_5 main_v26 (broadcastInDim S96x129 ![] bcast_S_S96x129 : (⟨S_, .f32⟩ : BufTy).Contents (Elt F) → (⟨S96x129, .f32⟩ : BufTy).Contents (Elt F))
  :: StableHlo.nary ![main_arg5, main_v24, main_v25, main_v26] main_v27 (fun u => (concatenate S96x2944 1 [⟨S96x798, (u 0 : (⟨S96x798, .f32⟩ : BufTy).Contents (Elt F))⟩, ⟨S96x2016, (u 1 : (⟨S96x2016, .f32⟩ : BufTy).Contents (Elt F))⟩, ⟨S96x1, (u 2 : (⟨S96x1, .f32⟩ : BufTy).Contents (Elt F))⟩, ⟨S96x129, (u 3 : (⟨S96x129, .f32⟩ : BufTy).Contents (Elt F))⟩] concatenates_S96x798_S96x2016_S96x1_S96x129_S96x2944_d1 : (⟨S96x2944, .f32⟩ : BufTy).Contents (Elt F)))
  :: StableHlo.nullary main_cst_6 (constant S_ .f32 0x00000000#32)
  :: StableHlo.unary main_cst_6 main_v28 (broadcastInDim S384x1920 ![] bcast_S_S384x1920 : (⟨S_, .f32⟩ : BufTy).Contents (Elt F) → (⟨S384x1920, .f32⟩ : BufTy).Contents (Elt F))
  :: StableHlo.reshape main_arg8 main_v29 (rfl : (.f32 : EltTy) = .f32) shapeCasts_S384_S384x1
  :: StableHlo.nullary main_cst_7 (constant S_ .f32 0x00000000#32)
  :: StableHlo.unary main_cst_7 main_v30 (broadcastInDim S384x129 ![] bcast_S_S384x129 : (⟨S_, .f32⟩ : BufTy).Contents (Elt F) → (⟨S384x129, .f32⟩ : BufTy).Contents (Elt F))
  :: StableHlo.nary ![main_arg7, main_v28, main_v29, main_v30] main_v31 (fun u => (concatenate S384x2944 1 [⟨S384x894, (u 0 : (⟨S384x894, .f32⟩ : BufTy).Contents (Elt F))⟩, ⟨S384x1920, (u 1 : (⟨S384x1920, .f32⟩ : BufTy).Contents (Elt F))⟩, ⟨S384x1, (u 2 : (⟨S384x1, .f32⟩ : BufTy).Contents (Elt F))⟩, ⟨S384x129, (u 3 : (⟨S384x129, .f32⟩ : BufTy).Contents (Elt F))⟩] concatenates_S384x894_S384x1920_S384x1_S384x129_S384x2944_d1 : (⟨S384x2944, .f32⟩ : BufTy).Contents (Elt F)))
  :: StableHlo.nullary main_cst_8 (constant S_ .f32 0x00000000#32)
  :: StableHlo.unary main_cst_8 main_v32 (broadcastInDim S1536x1536 ![] bcast_S_S1536x1536 : (⟨S_, .f32⟩ : BufTy).Contents (Elt F) → (⟨S1536x1536, .f32⟩ : BufTy).Contents (Elt F))
  :: StableHlo.reshape main_arg10 main_v33 (rfl : (.f32 : EltTy) = .f32) shapeCasts_S1536_S1536x1
  :: StableHlo.nullary main_cst_9 (constant S_ .f32 0x00000000#32)
  :: StableHlo.unary main_cst_9 main_v34 (broadcastInDim S1536x129 ![] bcast_S_S1536x129 : (⟨S_, .f32⟩ : BufTy).Contents (Elt F) → (⟨S1536x129, .f32⟩ : BufTy).Contents (Elt F))
  :: StableHlo.nary ![main_arg9, main_v32, main_v33, main_v34] main_v35 (fun u => (concatenate S1536x2944 1 [⟨S1536x1278, (u 0 : (⟨S1536x1278, .f32⟩ : BufTy).Contents (Elt F))⟩, ⟨S1536x1536, (u 1 : (⟨S1536x1536, .f32⟩ : BufTy).Contents (Elt F))⟩, ⟨S1536x1, (u 2 : (⟨S1536x1, .f32⟩ : BufTy).Contents (Elt F))⟩, ⟨S1536x129, (u 3 : (⟨S1536x129, .f32⟩ : BufTy).Contents (Elt F))⟩] concatenates_S1536x1278_S1536x1536_S1536x1_S1536x129_S1536x2944_d1 : (⟨S1536x2944, .f32⟩ : BufTy).Contents (Elt F)))
  :: StableHlo.nullary main_cst_10 (constant S_ .f32 0x00000000#32)
  :: StableHlo.unary main_cst_10 main_v36 (broadcastInDim S6144x0 ![] bcast_S_S6144x0 : (⟨S_, .f32⟩ : BufTy).Contents (Elt F) → (⟨S6144x0, .f32⟩ : BufTy).Contents (Elt F))
  :: StableHlo.reshape main_arg12 main_v37 (rfl : (.f32 : EltTy) = .f32) shapeCasts_S6144_S6144x1
  :: StableHlo.nullary main_cst_11 (constant S_ .f32 0x00000000#32)
  :: StableHlo.unary main_cst_11 main_v38 (broadcastInDim S6144x129 ![] bcast_S_S6144x129 : (⟨S_, .f32⟩ : BufTy).Contents (Elt F) → (⟨S6144x129, .f32⟩ : BufTy).Contents (Elt F))
  :: StableHlo.nary ![main_arg11, main_v36, main_v37, main_v38] main_v39 (fun u => (concatenate S6144x2944 1 [⟨S6144x2814, (u 0 : (⟨S6144x2814, .f32⟩ : BufTy).Contents (Elt F))⟩, ⟨S6144x0, (u 1 : (⟨S6144x0, .f32⟩ : BufTy).Contents (Elt F))⟩, ⟨S6144x1, (u 2 : (⟨S6144x1, .f32⟩ : BufTy).Contents (Elt F))⟩, ⟨S6144x129, (u 3 : (⟨S6144x129, .f32⟩ : BufTy).Contents (Elt F))⟩] concatenates_S6144x2814_S6144x0_S6144x1_S6144x129_S6144x2944_d1 : (⟨S6144x2944, .f32⟩ : BufTy).Contents (Elt F)))
  :: StableHlo.nullary main_cst_12 (constant S_ .f32 0x00000000#32)
  :: StableHlo.unary main_cst_12 main_v40 (broadcastInDim S2x2944 ![] bcast_S_S2x2944 : (⟨S_, .f32⟩ : BufTy).Contents (Elt F) → (⟨S2x2944, .f32⟩ : BufTy).Contents (Elt F))
  :: StableHlo.nary ![main_v19, main_v23, main_v27, main_v31, main_v35, main_v39, main_v40] main_v41 (fun u => (concatenate S8192x2944 0 [⟨S6x2944, (u 0 : (⟨S6x2944, .f32⟩ : BufTy).Contents (Elt F))⟩, ⟨S24x2944, (u 1 : (⟨S24x2944, .f32⟩ : BufTy).Contents (Elt F))⟩, ⟨S96x2944, (u 2 : (⟨S96x2944, .f32⟩ : BufTy).Contents (Elt F))⟩, ⟨S384x2944, (u 3 : (⟨S384x2944, .f32⟩ : BufTy).Contents (Elt F))⟩, ⟨S1536x2944, (u 4 : (⟨S1536x2944, .f32⟩ : BufTy).Contents (Elt F))⟩, ⟨S6144x2944, (u 5 : (⟨S6144x2944, .f32⟩ : BufTy).Contents (Elt F))⟩, ⟨S2x2944, (u 6 : (⟨S2x2944, .f32⟩ : BufTy).Contents (Elt F))⟩] concatenates_S6x2944_S24x2944_S96x2944_S384x2944_S1536x2944_S6144x2944_S2x2944_S8192x2944_d0 : (⟨S8192x2944, .f32⟩ : BufTy).Contents (Elt F)))
  :: StableHlo.binary main_arg13 main_c main_v42 ((fun a b => concatenate S8192 0 [⟨S8190, a⟩, ⟨S2, b⟩] concatenates_S8190_S2_S8192_d0) : (⟨S8190, .i32⟩ : BufTy).Contents (Elt F) → (⟨S2, .i32⟩ : BufTy).Contents (Elt F) → (⟨S8192, .i32⟩ : BufTy).Contents (Elt F))
  :: [] )
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.unary_bufs_sub .., StableHlo.reshape_bufs_sub .., StableHlo.reshape_bufs_sub .., StableHlo.reshape_bufs_sub .., StableHlo.reshape_bufs_sub .., StableHlo.reshape_bufs_sub .., StableHlo.reshape_bufs_sub .., StableHlo.nullary_bufs_sub .., StableHlo.unary_bufs_sub .., StableHlo.nullary_bufs_sub .., StableHlo.nullary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.nary_bufs_sub .., StableHlo.nullary_bufs_sub .., StableHlo.unary_bufs_sub .., StableHlo.reshape_bufs_sub .., StableHlo.nullary_bufs_sub .., StableHlo.unary_bufs_sub .., StableHlo.nary_bufs_sub .., StableHlo.nullary_bufs_sub .., StableHlo.unary_bufs_sub .., StableHlo.reshape_bufs_sub .., StableHlo.nullary_bufs_sub .., StableHlo.unary_bufs_sub .., StableHlo.nary_bufs_sub .., StableHlo.nullary_bufs_sub .., StableHlo.unary_bufs_sub .., StableHlo.reshape_bufs_sub .., StableHlo.nullary_bufs_sub .., StableHlo.unary_bufs_sub .., StableHlo.nary_bufs_sub .., StableHlo.nullary_bufs_sub .., StableHlo.unary_bufs_sub .., StableHlo.reshape_bufs_sub .., StableHlo.nullary_bufs_sub .., StableHlo.unary_bufs_sub .., StableHlo.nary_bufs_sub .., StableHlo.nullary_bufs_sub .., StableHlo.unary_bufs_sub .., StableHlo.reshape_bufs_sub .., StableHlo.nullary_bufs_sub .., StableHlo.unary_bufs_sub .., StableHlo.nary_bufs_sub .., StableHlo.nullary_bufs_sub .., StableHlo.unary_bufs_sub .., StableHlo.nary_bufs_sub .., StableHlo.binary_bufs_sub ..⟩
/-- 1 host operation of @main, window 0 (statements 1 … 60), in order. -/
abbrev main_part0_ops1 : List (HloOp τ sig (Elt F)) :=
  [ StableHlo.reshape main_v41 main_v44 (rfl : (.f32 : EltTy) = .f32) shapeCasts_S8192x2944_S8192x1x2944 ]
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  StableHlo.reshape_bufs_sub ..
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    Prog.lift (.customCall (Pipeline.entry 0) ()) ]
  (StableHlo.seq main_part0_ops1) : Prog (TpuEff nD τ sig (Elt F) (Pipeline.Sig Λ₀ (Fin 3) fun p => (pcfgs (F := F) p).Adm) .tc) PUnit) := by
  rewrite [StableHlo.chainK_seq_cons, Pipeline.chainK_cons]
  chain_rfl

/-- 2 host operations of @main, window 1 (statements 61 … 65), in order. -/
abbrev main_part1_ops0 : List (HloOp τ sig (Elt F)) :=
  [ StableHlo.reshape main_v45 main_v46 (rfl : (.f32 : EltTy) = .f32) shapeCasts_S8192x1x2944_S8192x2944,
    StableHlo.unary main_v46 main_v47 ((truncf .bf16 · bitsLt_bf16_f32) : (⟨S8192x2944, .f32⟩ : BufTy).Contents (Elt F) → (⟨S8192x2944, .bf16⟩ : BufTy).Contents (Elt F)) ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.reshape_bufs_sub .., StableHlo.unary_bufs_sub ..⟩
/-- The last window of `main` (`main_part1`, statements 61 … 65) is the chain of ITS items, each item aligned with the window's
    statements, then `chain_rfl`. -/
theorem main_part1_chain (c : Dev nD) : main_part1 (F := F) c = (Pipeline.chain
  [ Prog.lift (.customCall (Pipeline.entry 1) ()),
    StableHlo.seq main_part1_ops0,
    Prog.lift (.customCall (Pipeline.entry 2) ()) ] : Prog (TpuEff nD τ sig (Elt F) (Pipeline.Sig Λ₀ (Fin 3) fun p => (pcfgs (F := F) p).Adm) .tc) PUnit) := by
  rewrite [Pipeline.chain_cons, StableHlo.chain_seq_cons, Pipeline.chain_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    Prog.lift (.customCall (Pipeline.entry 0) ()),
    StableHlo.seq main_part0_ops1,
    Prog.lift (.customCall (Pipeline.entry 1) ()),
    StableHlo.seq main_part1_ops0,
    Prog.lift (.customCall (Pipeline.entry 2) ()) ] : Prog (TpuEff nD τ sig (Elt F) (Pipeline.Sig Λ₀ (Fin 3) fun p => (pcfgs (F := F) p).Adm) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (Pipeline.Sig Λ₀ (Fin 3) fun p => (pcfgs (F := F) p).Adm)) :=
  [ .ops [main_part0_ops0],
    .prog (Prog.lift (.customCall (Pipeline.entry 0) ())),
    .ops [main_part0_ops1],
    .prog (Prog.lift (.customCall (Pipeline.entry 1) ())),
    .ops [main_part1_ops0],
    .prog (Prog.lift (.customCall (Pipeline.entry 2) ())) ]

/-- The windows' item list is `main_groups` with each stretch cut into its window pieces (`StableHlo.Group.cut`): the two
    lists are the same, by `chain_rfl`. -/
theorem main_chain_cut (c : Dev nD) : (Pipeline.chain
  [ StableHlo.seq main_part0_ops0,
    Prog.lift (.customCall (Pipeline.entry 0) ()),
    StableHlo.seq main_part0_ops1,
    Prog.lift (.customCall (Pipeline.entry 1) ()),
    StableHlo.seq main_part1_ops0,
    Prog.lift (.customCall (Pipeline.entry 2) ()) ] : Prog (TpuEff nD τ sig (Elt F) (Pipeline.Sig Λ₀ (Fin 3) fun p => (pcfgs (F := F) p).Adm) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()) ] : Prog (TpuEff nD τ sig (Elt F) (Pipeline.Sig Λ₀ (Fin 3) fun p => (pcfgs (F := F) p).Adm) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()) ] : Prog (TpuEff nD τ sig (Elt F) (Pipeline.Sig Λ₀ (Fin 3) fun p => (pcfgs (F := F) p).Adm) .tc) PUnit) :=
  (main_chain_windows (F := F) c).trans <| (main_chain_cut (F := F) c).trans <|
    (StableHlo.chain_cut_eq_whole (main_groups (F := F) c)).trans (main_chain_whole (F := F) c)

end Cert.KernelIdeal.Gen

end
-- ==== Proof.Regions.lean ====
/- The run of @main from its three regions' records: the valuations between the items, the host stretches, and
   the theorem that the final memory is the last valuation at every unscoped buffer. -/
module

public import proofs.«01_k».proof.Proof.Launch
public import Idealize.ShloMosaic.Lib.Pipeline.Frame
public import Idealize.ShloMosaic.Lib.Pipeline.Regions

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The buffers' contents between items -/

/-- What one region leaves in the array `r`, per core. -/
abbrev Out (r : Ref sig .tc) : Type := (c : Dev nD) → Buf (Elt F) ((c : Thread nD τ).loc r)

variable (m : (ℓ : Loc nD τ sig) → Buf (Elt F) ℓ) (o2 : Out (F := F) main_v43) (o4 : Out (F := F) main_v45) (o6 : Out (F := F) main_v48)

/-- Core `c`'s unscoped buffers at launch. -/
abbrev V0 (c : Dev nD) : Valuation τ sig (Elt F) := fun b => m (c, b)
/-- Core `c`'s unscoped buffers after item 0, the host stretch `hostOps0`. -/
abbrev V1 (c : Dev nD) : Valuation τ sig (Elt F) := StableHlo.after hostOps0 (V0 m c)
/-- Core `c`'s unscoped buffers after item 1, region 0 (custom_call 0), which may change `main_v43`. -/
abbrev V2 (c : Dev nD) : Valuation τ sig (Elt F) := Function.update (V1 m c) main_v43 (o2 c)
/-- Core `c`'s unscoped buffers after item 2, the host stretch `hostOps1`. -/
abbrev V3 (c : Dev nD) : Valuation τ sig (Elt F) := StableHlo.after hostOps1 (V2 m o2 c)
/-- Core `c`'s unscoped buffers after item 3, region 1 (custom_call 1), which may change `main_v45`. -/
abbrev V4 (c : Dev nD) : Valuation τ sig (Elt F) := Function.update (V3 m o2 c) main_v45 (o4 c)
/-- Core `c`'s unscoped buffers after item 4, the host stretch `hostOps2`. -/
abbrev V5 (c : Dev nD) : Valuation τ sig (Elt F) := StableHlo.after hostOps2 (V4 m o2 o4 c)
/-- Core `c`'s unscoped buffers after item 5, region 2 (custom_call 2), which may change `main_v48`. -/
abbrev V6 (c : Dev nD) : Valuation τ sig (Elt F) := Function.update (V5 m o2 o4 c) main_v48 (o6 c)

/-! ## What the host stretches write -/

theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_c, main_v0, main_v1, main_v2, main_v3, main_v4, main_v5, main_v6, main_v7, main_v8, main_v9, main_v10, main_cst, main_v11, main_v12, main_v13, main_c_0, main_v14, main_v15, main_v16, main_v17, main_cst_1, main_v18, main_v19, main_cst_2, main_v20, main_v21, main_cst_3, main_v22, main_v23, main_cst_4, main_v24, main_v25, main_cst_5, main_v26, main_v27, main_cst_6, main_v28, main_v29, main_cst_7, main_v30, main_v31, main_cst_8, main_v32, main_v33, main_cst_9, main_v34, main_v35, main_cst_10, main_v36, main_v37, main_cst_11, main_v38, main_v39, main_cst_12, main_v40, main_v41, main_v42]
theorem hostOps0_writes : (hostOps0 : List (HloOp τ sig (Elt F))).Forall fun op => op.writes ⊆ (hostOps0_W.map (Proc.devRef (τ := τ) .tc)).toFinset :=
  StableHlo.forall_writes_sub_of_map rfl
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v44]
theorem hostOps1_writes : (hostOps1 : List (HloOp τ sig (Elt F))).Forall fun op => op.writes ⊆ (hostOps1_W.map (Proc.devRef (τ := τ) .tc)).toFinset :=
  StableHlo.forall_writes_sub_of_map rfl
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v46, main_v47]
theorem hostOps2_writes : (hostOps2 : List (HloOp τ sig (Elt F))).Forall fun op => op.writes ⊆ (hostOps2_W.map (Proc.devRef (τ := τ) .tc)).toFinset :=
  StableHlo.forall_writes_sub_of_map rfl

/-! ## What each item leaves unchanged -/

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v43] : List (Ref sig .tc))) : V2 m o2 c r = V1 m c r := by
  simp only [V2, Function.update_of_ne (StableHlo.devRef_ne_of_ne (List.ne_of_not_mem_cons h) : (Proc.devRef .tc r : DevRef τ sig) ≠ Proc.devRef .tc main_v43)]
theorem V3_of (c : Dev nD) (r : Ref sig .tc) (h : r ∉ hostOps1_W) : V3 m o2 c r = V2 m o2 c r :=
  StableHlo.after_of_writes_sub hostOps1 _ hostOps1_writes h
theorem V4_of (c : Dev nD) (r : Ref sig .tc) (h : r ∉ ([main_v45] : List (Ref sig .tc))) : V4 m o2 o4 c r = V3 m o2 c r := by
  simp only [V4, Function.update_of_ne (StableHlo.devRef_ne_of_ne (List.ne_of_not_mem_cons h) : (Proc.devRef .tc r : DevRef τ sig) ≠ Proc.devRef .tc main_v45)]
theorem V5_of (c : Dev nD) (r : Ref sig .tc) (h : r ∉ hostOps2_W) : V5 m o2 o4 c r = V4 m o2 o4 c r :=
  StableHlo.after_of_writes_sub hostOps2 _ hostOps2_writes h
theorem V6_of (c : Dev nD) (r : Ref sig .tc) (h : r ∉ ([main_v48] : List (Ref sig .tc))) : V6 m o2 o4 o6 c r = V5 m o2 o4 c r := by
  simp only [V6, Function.update_of_ne (StableHlo.devRef_ne_of_ne (List.ne_of_not_mem_cons h) : (Proc.devRef .tc r : DevRef τ sig) ≠ Proc.devRef .tc main_v48)]

/-! ## No item writes an argument -/

/-- `main_arg0` reaches the end as launched: no host stretch writes it, no region may change it. -/
theorem V6_main_arg0 (c : Dev nD) : V6 m o2 o4 o6 c main_arg0 = m ((c : Thread nD τ).loc main_arg0) :=
  (V6_of m o2 o4 o6 c main_arg0 (by decide)).trans <| (V5_of m o2 o4 c main_arg0 (by decide)).trans <| (V4_of m o2 o4 c main_arg0 (by decide)).trans <| (V3_of m o2 c main_arg0 (by decide)).trans <| (V2_of m o2 c main_arg0 (by decide)).trans <| (V1_of m c main_arg0 (by decide)).trans rfl
/-- `main_arg1` reaches the end as launched: no host stretch writes it, no region may change it. -/
theorem V6_main_arg1 (c : Dev nD) : V6 m o2 o4 o6 c main_arg1 = m ((c : Thread nD τ).loc main_arg1) :=
  (V6_of m o2 o4 o6 c main_arg1 (by decide)).trans <| (V5_of m o2 o4 c main_arg1 (by decide)).trans <| (V4_of m o2 o4 c main_arg1 (by decide)).trans <| (V3_of m o2 c main_arg1 (by decide)).trans <| (V2_of m o2 c main_arg1 (by decide)).trans <| (V1_of m c main_arg1 (by decide)).trans rfl
/-- `main_arg2` reaches the end as launched: no host stretch writes it, no region may change it. -/
theorem V6_main_arg2 (c : Dev nD) : V6 m o2 o4 o6 c main_arg2 = m ((c : Thread nD τ).loc main_arg2) :=
  (V6_of m o2 o4 o6 c main_arg2 (by decide)).trans <| (V5_of m o2 o4 c main_arg2 (by decide)).trans <| (V4_of m o2 o4 c main_arg2 (by decide)).trans <| (V3_of m o2 c main_arg2 (by decide)).trans <| (V2_of m o2 c main_arg2 (by decide)).trans <| (V1_of m c main_arg2 (by decide)).trans rfl
/-- `main_arg3` reaches the end as launched: no host stretch writes it, no region may change it. -/
theorem V6_main_arg3 (c : Dev nD) : V6 m o2 o4 o6 c main_arg3 = m ((c : Thread nD τ).loc main_arg3) :=
  (V6_of m o2 o4 o6 c main_arg3 (by decide)).trans <| (V5_of m o2 o4 c main_arg3 (by decide)).trans <| (V4_of m o2 o4 c main_arg3 (by decide)).trans <| (V3_of m o2 c main_arg3 (by decide)).trans <| (V2_of m o2 c main_arg3 (by decide)).trans <| (V1_of m c main_arg3 (by decide)).trans rfl
/-- `main_arg4` reaches the end as launched: no host stretch writes it, no region may change it. -/
theorem V6_main_arg4 (c : Dev nD) : V6 m o2 o4 o6 c main_arg4 = m ((c : Thread nD τ).loc main_arg4) :=
  (V6_of m o2 o4 o6 c main_arg4 (by decide)).trans <| (V5_of m o2 o4 c main_arg4 (by decide)).trans <| (V4_of m o2 o4 c main_arg4 (by decide)).trans <| (V3_of m o2 c main_arg4 (by decide)).trans <| (V2_of m o2 c main_arg4 (by decide)).trans <| (V1_of m c main_arg4 (by decide)).trans rfl
/-- `main_arg5` reaches the end as launched: no host stretch writes it, no region may change it. -/
theorem V6_main_arg5 (c : Dev nD) : V6 m o2 o4 o6 c main_arg5 = m ((c : Thread nD τ).loc main_arg5) :=
  (V6_of m o2 o4 o6 c main_arg5 (by decide)).trans <| (V5_of m o2 o4 c main_arg5 (by decide)).trans <| (V4_of m o2 o4 c main_arg5 (by decide)).trans <| (V3_of m o2 c main_arg5 (by decide)).trans <| (V2_of m o2 c main_arg5 (by decide)).trans <| (V1_of m c main_arg5 (by decide)).trans rfl
/-- `main_arg6` reaches the end as launched: no host stretch writes it, no region may change it. -/
theorem V6_main_arg6 (c : Dev nD) : V6 m o2 o4 o6 c main_arg6 = m ((c : Thread nD τ).loc main_arg6) :=
  (V6_of m o2 o4 o6 c main_arg6 (by decide)).trans <| (V5_of m o2 o4 c main_arg6 (by decide)).trans <| (V4_of m o2 o4 c main_arg6 (by decide)).trans <| (V3_of m o2 c main_arg6 (by decide)).trans <| (V2_of m o2 c main_arg6 (by decide)).trans <| (V1_of m c main_arg6 (by decide)).trans rfl
/-- `main_arg7` reaches the end as launched: no host stretch writes it, no region may change it. -/
theorem V6_main_arg7 (c : Dev nD) : V6 m o2 o4 o6 c main_arg7 = m ((c : Thread nD τ).loc main_arg7) :=
  (V6_of m o2 o4 o6 c main_arg7 (by decide)).trans <| (V5_of m o2 o4 c main_arg7 (by decide)).trans <| (V4_of m o2 o4 c main_arg7 (by decide)).trans <| (V3_of m o2 c main_arg7 (by decide)).trans <| (V2_of m o2 c main_arg7 (by decide)).trans <| (V1_of m c main_arg7 (by decide)).trans rfl
/-- `main_arg8` reaches the end as launched: no host stretch writes it, no region may change it. -/
theorem V6_main_arg8 (c : Dev nD) : V6 m o2 o4 o6 c main_arg8 = m ((c : Thread nD τ).loc main_arg8) :=
  (V6_of m o2 o4 o6 c main_arg8 (by decide)).trans <| (V5_of m o2 o4 c main_arg8 (by decide)).trans <| (V4_of m o2 o4 c main_arg8 (by decide)).trans <| (V3_of m o2 c main_arg8 (by decide)).trans <| (V2_of m o2 c main_arg8 (by decide)).trans <| (V1_of m c main_arg8 (by decide)).trans rfl
/-- `main_arg9` reaches the end as launched: no host stretch writes it, no region may change it. -/
theorem V6_main_arg9 (c : Dev nD) : V6 m o2 o4 o6 c main_arg9 = m ((c : Thread nD τ).loc main_arg9) :=
  (V6_of m o2 o4 o6 c main_arg9 (by decide)).trans <| (V5_of m o2 o4 c main_arg9 (by decide)).trans <| (V4_of m o2 o4 c main_arg9 (by decide)).trans <| (V3_of m o2 c main_arg9 (by decide)).trans <| (V2_of m o2 c main_arg9 (by decide)).trans <| (V1_of m c main_arg9 (by decide)).trans rfl
/-- `main_arg10` reaches the end as launched: no host stretch writes it, no region may change it. -/
theorem V6_main_arg10 (c : Dev nD) : V6 m o2 o4 o6 c main_arg10 = m ((c : Thread nD τ).loc main_arg10) :=
  (V6_of m o2 o4 o6 c main_arg10 (by decide)).trans <| (V5_of m o2 o4 c main_arg10 (by decide)).trans <| (V4_of m o2 o4 c main_arg10 (by decide)).trans <| (V3_of m o2 c main_arg10 (by decide)).trans <| (V2_of m o2 c main_arg10 (by decide)).trans <| (V1_of m c main_arg10 (by decide)).trans rfl
/-- `main_arg11` reaches the end as launched: no host stretch writes it, no region may change it. -/
theorem V6_main_arg11 (c : Dev nD) : V6 m o2 o4 o6 c main_arg11 = m ((c : Thread nD τ).loc main_arg11) :=
  (V6_of m o2 o4 o6 c main_arg11 (by decide)).trans <| (V5_of m o2 o4 c main_arg11 (by decide)).trans <| (V4_of m o2 o4 c main_arg11 (by decide)).trans <| (V3_of m o2 c main_arg11 (by decide)).trans <| (V2_of m o2 c main_arg11 (by decide)).trans <| (V1_of m c main_arg11 (by decide)).trans rfl
/-- `main_arg12` reaches the end as launched: no host stretch writes it, no region may change it. -/
theorem V6_main_arg12 (c : Dev nD) : V6 m o2 o4 o6 c main_arg12 = m ((c : Thread nD τ).loc main_arg12) :=
  (V6_of m o2 o4 o6 c main_arg12 (by decide)).trans <| (V5_of m o2 o4 c main_arg12 (by decide)).trans <| (V4_of m o2 o4 c main_arg12 (by decide)).trans <| (V3_of m o2 c main_arg12 (by decide)).trans <| (V2_of m o2 c main_arg12 (by decide)).trans <| (V1_of m c main_arg12 (by decide)).trans rfl
/-- `main_arg13` reaches the end as launched: no host stretch writes it, no region may change it. -/
theorem V6_main_arg13 (c : Dev nD) : V6 m o2 o4 o6 c main_arg13 = m ((c : Thread nD τ).loc main_arg13) :=
  (V6_of m o2 o4 o6 c main_arg13 (by decide)).trans <| (V5_of m o2 o4 c main_arg13 (by decide)).trans <| (V4_of m o2 o4 c main_arg13 (by decide)).trans <| (V3_of m o2 c main_arg13 (by decide)).trans <| (V2_of m o2 c main_arg13 (by decide)).trans <| (V1_of m c main_arg13 (by decide)).trans rfl

/-- The result array ends as region 2 leaves it. -/
theorem V6_main_v48 (c : Dev nD) : V6 m o2 o4 o6 c main_v48 = o6 c := Function.update_self _ _ _

/-! ## The items as segments -/

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 4 → Dev nD → sProp (MT nD τ sig Ix (Elt F) ℕ U Lvl))

/-- Item 0: the host stretch `hostOps0` over the unscoped buffers from `V0`, the rest `E 0` riding along
    (`HostSeg.ofOps`: `StableHlo.wp_seq`). -/
def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)
/-- Item 2: the host stretch `hostOps1` over the unscoped buffers from `V2`, the rest `E 1` riding along
    (`HostSeg.ofOps`: `StableHlo.wp_seq`). -/
def seg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m o2) (E 1)
/-- Item 4: the host stretch `hostOps2` over the unscoped buffers from `V4`, the rest `E 2` riding along
    (`HostSeg.ofOps`: `StableHlo.wp_seq`). -/
def seg4 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V4 m o2 o4) (E 2)

end Segs

section

variable {Ix : Type} [DecidableEq Ix] {U : Type} [URA U] {Lvl : Type} [Preorder Lvl]

/-- The prefetched tables' admissible contents: no pallas_call has a table. -/
abbrev adm : (p : Fin 3) → (pcfgs (F := F) p).Adm := fun p => (cfgs p).toPCfg_adm

/-- @main's items as the kit's segments on core `c` (the same list on every core: no stretch here reads the device): the host
    stretches' (`segJ`), the regions' the given records. -/
abbrev segs (𝒱₀ : Variants) (L : GSem nD τ sig → Finset Ix) (lv : GSem nD τ sig → Ix → Lvl) (E : Fin 4 → Dev nD → sProp (MT nD τ sig Ix (Elt F) ℕ U Lvl)) (ι : Ix)
    (pdats : (p : Fin 3) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (c : Dev nD) :
    List (Seg (pcfgs (F := F)) adm pdats ι defs₀ 𝒱₀ L lv) :=
  [.host (seg0 m 𝒱₀ L lv E), .region R0, .host (seg2 m o2 𝒱₀ L lv E), .region R1, .host (seg4 m o2 o4 𝒱₀ L lv E), .region R2]

end

/-! ## The frame, given the regions' records -/

/-- The TensorCore has no unscoped semaphore. -/
theorem regions_no_unscoped : ∀ sm : SemLoc sig, sm.isScoped .tc = true := by decide

-- `θ_run_regions_kit_dev_sems`'s implicit arguments are found by unifying its conclusion with this one, which takes unfolding
-- plain definitions in a metavariable's type
set_option backward.isDefEq.respectTransparency.types false in
/-- Given each region's record, entered from the thread state before it and left at the one after it, every weakly
    fair execution of @main from zero counters terminates with the result array holding what region 2 leaves, each
    argument as launched and every counter at zero. -/
theorem run_of_regions {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg)
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m o2 c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m o2 c) ∗ E 1 c) ⊢ R1.pre c)
    (hpost1 : ∀ c : Dev nD, R1.post c ⊢ iprop(StableHlo.held (c : Thread nD τ) (Pipeline.ucRefs τ sig) (V4 m o2 o4 c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m o2 o4 c) ∗ E 2 c) ⊢ R2.pre c)
    (hpost2 : ∀ c : Dev nD, R2.post c ⊢ iprop(StableHlo.held (c : Thread nD τ) (Pipeline.ucRefs τ sig) (V6 m o2 o4 o6 c) ∗ E 3 c)) :
    θ_run defs (onTc (τ := τ) (main (F := F))) ⟨m, fun _ => 0, ρ⟩ (fun r => (∀ c : Dev nD,
      r.2.mem ((c.tc : Thread nD τ).loc main_v48) = o6 c ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) := by
  refine Pipeline.θ_run_regions_kit_dev_sems (pcfgs (F := F)) adm pdats ι cellOf_inj EP defs₀ 𝒱₀ L lv m ρ main
    (segs m o2 o4 𝒱₀ L lv E ι pdats R0 R1 R2)
    (fun c Q => by
      rewrite [main_chain c, Seg.run_eq_chain,
        show (segs m o2 o4 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m o2 o4 o6 c))
    (hch := fun c => ⟨.rfl, hpre0 c, hpost0 c, hpre1 c, hpost1 c, hpre2 c, (hpost2 c).trans (sep_mono .rfl (hE3 c))⟩)
    (hinit := ?_) (QY := fun c s => s.mem ((c.tc : Thread nD τ).loc main_v48) = o6 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V6 m o2 o4 o6 c) s') $$ [Hh HSI]
    · isplitl [Hh] <;> iassumption
    icases Hr with ⟨%h, HSI⟩
    imodintro
    isplitr
    · ipureintro
      exact ⟨(h (Proc.devRef .tc main_v48) (Finset.mem_filter.mpr ⟨StableHlo.devRef_mem_tcRefs main_v48, by decide⟩)).trans (V6_main_v48 m o2 o4 o6 c),
        (h (Proc.devRef .tc main_arg0) (Finset.mem_filter.mpr ⟨StableHlo.devRef_mem_tcRefs main_arg0, by decide⟩)).trans (V6_main_arg0 m o2 o4 o6 c),
        (h (Proc.devRef .tc main_arg1) (Finset.mem_filter.mpr ⟨StableHlo.devRef_mem_tcRefs main_arg1, by decide⟩)).trans (V6_main_arg1 m o2 o4 o6 c),
        (h (Proc.devRef .tc main_arg2) (Finset.mem_filter.mpr ⟨StableHlo.devRef_mem_tcRefs main_arg2, by decide⟩)).trans (V6_main_arg2 m o2 o4 o6 c),
        (h (Proc.devRef .tc main_arg3) (Finset.mem_filter.mpr ⟨StableHlo.devRef_mem_tcRefs main_arg3, by decide⟩)).trans (V6_main_arg3 m o2 o4 o6 c),
        (h (Proc.devRef .tc main_arg4) (Finset.mem_filter.mpr ⟨StableHlo.devRef_mem_tcRefs main_arg4, by decide⟩)).trans (V6_main_arg4 m o2 o4 o6 c),
        (h (Proc.devRef .tc main_arg5) (Finset.mem_filter.mpr ⟨StableHlo.devRef_mem_tcRefs main_arg5, by decide⟩)).trans (V6_main_arg5 m o2 o4 o6 c),
        (h (Proc.devRef .tc main_arg6) (Finset.mem_filter.mpr ⟨StableHlo.devRef_mem_tcRefs main_arg6, by decide⟩)).trans (V6_main_arg6 m o2 o4 o6 c),
        (h (Proc.devRef .tc main_arg7) (Finset.mem_filter.mpr ⟨StableHlo.devRef_mem_tcRefs main_arg7, by decide⟩)).trans (V6_main_arg7 m o2 o4 o6 c),
        (h (Proc.devRef .tc main_arg8) (Finset.mem_filter.mpr ⟨StableHlo.devRef_mem_tcRefs main_arg8, by decide⟩)).trans (V6_main_arg8 m o2 o4 o6 c),
        (h (Proc.devRef .tc main_arg9) (Finset.mem_filter.mpr ⟨StableHlo.devRef_mem_tcRefs main_arg9, by decide⟩)).trans (V6_main_arg9 m o2 o4 o6 c),
        (h (Proc.devRef .tc main_arg10) (Finset.mem_filter.mpr ⟨StableHlo.devRef_mem_tcRefs main_arg10, by decide⟩)).trans (V6_main_arg10 m o2 o4 o6 c),
        (h (Proc.devRef .tc main_arg11) (Finset.mem_filter.mpr ⟨StableHlo.devRef_mem_tcRefs main_arg11, by decide⟩)).trans (V6_main_arg11 m o2 o4 o6 c),
        (h (Proc.devRef .tc main_arg12) (Finset.mem_filter.mpr ⟨StableHlo.devRef_mem_tcRefs main_arg12, by decide⟩)).trans (V6_main_arg12 m o2 o4 o6 c),
        (h (Proc.devRef .tc main_arg13) (Finset.mem_filter.mpr ⟨StableHlo.devRef_mem_tcRefs main_arg13, by decide⟩)).trans (V6_main_arg13 m o2 o4 o6 c)⟩
    · iexact HSI

end Cert.KernelIdeal.Gen

end
-- ==== Proof.Common.lean ====
/- What the three regions' modules share: the resource algebra of the certificate (the pipeline library's beside the
   transfers' counters), the levels (none), and what a region's proof data says of a window it only reads. -/
module

public import proofs.«01_k».proof.Proof.Regions
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The certificate's resource algebra: the pipeline library's beside the transfers' counters. -/
abbrev UU : Type := UR sig nD τ × Counters

variable {F : FTy → Type}

local notation "𝕄" => MT nD τ sig Unit (Elt F) ℕ UU ℕ

/-- The pipeline library's algebra is the left component. -/
abbrev EP : Emb (UR sig nD τ) (MT nD τ sig Unit (Elt F) ℕ UU ℕ) := embL

/-- No core owes another anything: no level is assigned. -/
abbrev L : GSem nD τ sig → Finset Unit := fun _ => ∅
abbrev lv : GSem nD τ sig → Unit → ℕ := fun _ _ => 0
abbrev 𝒱₀ : Variants := Variants.none

/-- What rides beside the buffers between the items: the core owes nothing. -/
abbrev R (c : Dev nD) : sProp 𝕄 := iprop(∃ W, owes (c : Thread nD τ) (0 : CellTallies nD τ sig Unit) W)

/-- Contents of every core's unscoped buffers. -/
abbrev Vals : Type := (c : Dev nD) → Valuation τ sig (Elt F)

end Cert.KernelIdeal.Gen

end
-- ==== Proof.Product.lean ====
/- Region 2, the product: what its body leaves in the result's staging buffer from the two input blocks, the proof
   data at any contents `V` of the buffers when the region is entered, and its body obligation. -/
module

public import proofs.«01_k».proof.Proof.Common
public import proofs.«01_k».proof.Proof.Gen.KernelIdeal.Skeleton

@[expose] public section

-- the long axes need deep recursion where membership in a rectangle is decided
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals (F := F))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1024x2944 := Rect.unit (s := S1024x2944) ![0, 0] S1024x2944.size inb_S1024x2944_S1024x2944_0_0
abbrev r2_1 : Rect S2048x2944 := Rect.unit (s := S2048x2944) ![0, 0] S2048x2944.size inb_S2048x2944_S2048x2944_0_0
abbrev r2_2 : Rect S1024x2048 := Rect.unit (s := S1024x2048) ![0, 0] S1024x2048.size inb_S1024x2048_S1024x2048_0_0

/-! ## What the body leaves in each output window's buffer -/

/-- Window 2's staging buffer after the body, from the input windows' blocks: its 1 store as pieces, LAST
    FIRST (Lib/Pipeline/FrameBody.lean `View.canon`; the payloads are the skeleton's). -/
def out2_2 (x0 : Vec F S1024x2944 .bf16) (x1 : Vec F S2048x2944 .bf16) : Vec F S1024x2048 .f32 :=
  View.canon [⟨r2_2, k2_pay1 (View.ld x0 r2_0) (View.ld x1 r2_1)⟩]

/-- Its stores tile the buffer (checked by evaluation), so they cover it. -/
theorem cover2_2 (p0 : Vec F S1024x2048 .f32) (y : S1024x2048.Idx) :
    ∃ pc ∈ ([⟨r2_2, p0⟩] : List (View.Piece (Elt F) S1024x2048 .f32)), y ∈ pc.1.set :=
  View.cover_of_tiled [⟨r2_2, p0⟩] S1024x2048.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel2 (c : Dev nD) (E : Set ℕ) (i : grid2.Coords) (arg2 : Memref sig .tc .vmem S1024x2944 .bf16) (harg2 : arg2.IsWhole) (arg3 : Memref sig .tc .vmem S2048x2944 .bf16) (harg3 : arg3.IsWhole) (arg4 : Memref sig .tc .vmem S1024x2048 .f32) (harg4 : arg4.IsWhole)
    (x0 : Vec F S1024x2944 .bf16) (x1 : Vec F S2048x2944 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) 𝒱₀ c none) E (cc2__matmul_kernel i arg2 harg2 arg3 harg3 arg4 harg4) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat2 (c : Dev nD) : Dat τ (Elt F) Unit ℕ UU ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.scopedRest spec2 c
  q _ := fullShare
  owed _ := 0

/-- The proof data's arrays are the region-entry contents: the proof data's definition projected (`dsimp`), so that
    `V` — a fold over @main's host prefix, long for some programs — is never unfolded to check it. -/
theorem A2_eq (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A2_eq V c 0) (after2_0 V c) t d
theorem before2_1 (c : Dev nD) (t : Fin cfg2.N) (d) : (dat2 V c).before 1 t d = iblk2 V c 1 t :=
  before2_1_of V (dat2 V c) (A2_eq V c 1) (after2_1 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) 𝒱₀ c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) 𝒱₀ () Set.univ := fun t => by
  rw [bigSep_W2, bigSep_W2, defs₀_row2]
  exact triple_restated (sound_body2 V c t) rfl .rfl fun _ => .rfl

end Cert.KernelIdeal.Gen

end
-- ==== Proof.PhaseARun.lean ====
/- Region 0, the features: each window's block at a point, and the run of the body from whole staging buffers (the
   pieces its stores leave in the result's buffer).
-/
module

public import proofs.«01_k».proof.Proof.Common
public import proofs.«01_k».proof.Proof.Gen.KernelIdeal.Skeleton

@[expose] public section

-- the long axes need deep recursion where membership in a rectangle is decided
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals (F := F))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ UU ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ UU ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ UU ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ UU ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ UU ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ UU ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ UU ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ UU ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ UU ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 11, through which its contents are stated (`View.read_writes_of_cover`: the
    choice does not matter). -/
abbrev VO0_11 : View sig .tc .vmem S256x2944 .bf16 := (Memref.whole cc0_stg11_0 : Memref sig .tc .vmem S256x2944 .bf16).view
/-- Each window's current staging memref at point `t`, spelled as the pipeline passes it (`bodyAt0`), and its wholeness. -/
abbrev ms0_0 (t : Fin cfg0.N) : Memref sig .tc .vmem S256x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x6 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x6 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S774x24 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x24 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S798x96 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x96 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S894x384 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x384 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1278x1536 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1536 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x2944 .bf16 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S256x1278 .f32 := Memref.whole cc0_scratch0

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S256x768 .f32) (harg1 : arg1.IsWhole) (arg2 : Memref sig .tc .vmem S768x6 .f32) (harg2 : arg2.IsWhole) (arg3 : Memref sig .tc .vmem S1x6 .f32) (harg3 : arg3.IsWhole) (arg4 : Memref sig .tc .vmem S774x24 .f32) (harg4 : arg4.IsWhole) (arg5 : Memref sig .tc .vmem S1x24 .f32) (harg5 : arg5.IsWhole) (arg6 : Memref sig .tc .vmem S798x96 .f32) (harg6 : arg6.IsWhole) (arg7 : Memref sig .tc .vmem S1x96 .f32) (harg7 : arg7.IsWhole) (arg8 : Memref sig .tc .vmem S894x384 .f32) (harg8 : arg8.IsWhole) (arg9 : Memref sig .tc .vmem S1x384 .f32) (harg9 : arg9.IsWhole) (arg10 : Memref sig .tc .vmem S1278x1536 .f32) (harg10 : arg10.IsWhole) (arg11 : Memref sig .tc .vmem S1x1536 .f32) (harg11 : arg11.IsWhole) (arg12 : Memref sig .tc .vmem S256x2944 .bf16) (harg12 : arg12.IsWhole) (arg13 : Memref sig .tc .vmem S256x1278 .f32) (harg13 : arg13.IsWhole)
    (x0 : Vec F S256x768 .f32) (x1 : Vec F S768x6 .f32) (x2 : Vec F S1x6 .f32) (x3 : Vec F S774x24 .f32) (x4 : Vec F S1x24 .f32) (x5 : Vec F S798x96 .f32) (x6 : Vec F S1x96 .f32) (x7 : Vec F S894x384 .f32) (x8 : Vec F S1x384 .f32) (x9 : Vec F S1278x1536 .f32) (x10 : Vec F S1x1536 .f32) :
    Σ' (L11 : List (View.Piece (Elt F) S256x2944 .bf16)), { LT0 : List (View.Piece (Elt F) S256x1278 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LT0)) -∗ K ⟨⟩))
          ⊢ wp frame (wpE (defs₀ (F := F)) 𝒱₀ c none) E (cc0__phase_a_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__phase_a_kernel_eq_skeleton]; unfold cc0__phase_a_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    iexists _; iexact HS0

end Cert.KernelIdeal.Gen

end
-- ==== Proof.PhaseA.lean ====
/- Region 0, the features: what the body leaves in the result's staging buffer, the proof data at any contents `V` of
   the buffers when the region is entered, and the body obligation.
-/
module

public import proofs.«01_k».proof.Proof.PhaseARun
public import proofs.«01_k».proof.Proof.Gen.KernelIdeal.Skeleton

@[expose] public section

-- the long axes need deep recursion where membership in a rectangle is decided
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals (F := F))

/-- The scoped buffers that stay with the region, the kernel's scratch first. -/
theorem scoped0_split (c : Dev nD) : (Pipeline.scopedRest spec0 c : sProp 𝕄)
    = iprop((∃ d, owns (c : Thread nD τ) scM0_0 fullShare d) ∗ Pipeline.scopedRestBut spec0 c [cc0_scratch0]) := by
  rw [Pipeline.scopedRest_split_of_list spec0 c [cc0_scratch0] (by decide) (by decide)]
  simp only [scM0_0, owns_whole, bigSepL_singleton]; rfl

/-- The run's pieces for output 11 are of SEVERAL sizes (9 stores of `S256x1`, `S256x1536`, `S256x24`, `S256x2944`, `S256x384`, `S256x6`, `S256x768`, `S256x96`): cut into blocks of `![256, 1]` they tile its block (checked by the kernel's evaluation: Lib/Ring.lean `Piece.tiledBy`), so they cover it. -/
theorem cover0_A_11 (c : Dev nD) (i : grid0.Coords) (arg1 : Memref sig .tc .vmem S256x768 .f32) (harg1 : arg1.IsWhole) (arg2 : Memref sig .tc .vmem S768x6 .f32) (harg2 : arg2.IsWhole) (arg3 : Memref sig .tc .vmem S1x6 .f32) (harg3 : arg3.IsWhole) (arg4 : Memref sig .tc .vmem S774x24 .f32) (harg4 : arg4.IsWhole) (arg5 : Memref sig .tc .vmem S1x24 .f32) (harg5 : arg5.IsWhole) (arg6 : Memref sig .tc .vmem S798x96 .f32) (harg6 : arg6.IsWhole) (arg7 : Memref sig .tc .vmem S1x96 .f32) (harg7 : arg7.IsWhole) (arg8 : Memref sig .tc .vmem S894x384 .f32) (harg8 : arg8.IsWhole) (arg9 : Memref sig .tc .vmem S1x384 .f32) (harg9 : arg9.IsWhole) (arg10 : Memref sig .tc .vmem S1278x1536 .f32) (harg10 : arg10.IsWhole) (arg11 : Memref sig .tc .vmem S1x1536 .f32) (harg11 : arg11.IsWhole) (arg12 : Memref sig .tc .vmem S256x2944 .bf16) (harg12 : arg12.IsWhole) (arg13 : Memref sig .tc .vmem S256x1278 .f32) (harg13 : arg13.IsWhole)
    (x0 : Vec F S256x768 .f32) (x1 : Vec F S768x6 .f32) (x2 : Vec F S1x6 .f32) (x3 : Vec F S774x24 .f32) (x4 : Vec F S1x24 .f32) (x5 : Vec F S798x96 .f32) (x6 : Vec F S1x96 .f32) (x7 : Vec F S894x384 .f32) (x8 : Vec F S1x384 .f32) (x9 : Vec F S1278x1536 .f32) (x10 : Vec F S1x1536 .f32) (y : S256x2944.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1 ![256, 1] (by sl_kernel_rfl) y

/-- What the run leaves in output 11's staging buffer: its pieces read back over junk. -/
def out0_A_11 (c : Dev nD) (i : grid0.Coords) (arg1 : Memref sig .tc .vmem S256x768 .f32) (harg1 : arg1.IsWhole) (arg2 : Memref sig .tc .vmem S768x6 .f32) (harg2 : arg2.IsWhole) (arg3 : Memref sig .tc .vmem S1x6 .f32) (harg3 : arg3.IsWhole) (arg4 : Memref sig .tc .vmem S774x24 .f32) (harg4 : arg4.IsWhole) (arg5 : Memref sig .tc .vmem S1x24 .f32) (harg5 : arg5.IsWhole) (arg6 : Memref sig .tc .vmem S798x96 .f32) (harg6 : arg6.IsWhole) (arg7 : Memref sig .tc .vmem S1x96 .f32) (harg7 : arg7.IsWhole) (arg8 : Memref sig .tc .vmem S894x384 .f32) (harg8 : arg8.IsWhole) (arg9 : Memref sig .tc .vmem S1x384 .f32) (harg9 : arg9.IsWhole) (arg10 : Memref sig .tc .vmem S1278x1536 .f32) (harg10 : arg10.IsWhole) (arg11 : Memref sig .tc .vmem S1x1536 .f32) (harg11 : arg11.IsWhole) (arg12 : Memref sig .tc .vmem S256x2944 .bf16) (harg12 : arg12.IsWhole) (arg13 : Memref sig .tc .vmem S256x1278 .f32) (harg13 : arg13.IsWhole)
    (x0 : Vec F S256x768 .f32) (x1 : Vec F S768x6 .f32) (x2 : Vec F S1x6 .f32) (x3 : Vec F S774x24 .f32) (x4 : Vec F S1x24 .f32) (x5 : Vec F S798x96 .f32) (x6 : Vec F S1x96 .f32) (x7 : Vec F S894x384 .f32) (x8 : Vec F S1x384 .f32) (x9 : Vec F S1278x1536 .f32) (x10 : Vec F S1x1536 .f32) : Vec F S256x2944 .bf16 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1)

/-! ## What the outputs hold after each point -/

/-- What the outputs' staging buffers hold after the body at point `t`: the run's contents at
    the point's memrefs and input blocks. -/
def outsAt0 (c : Dev nD) (t : Fin cfg0.N) : Vec F S256x2944 .bf16 :=
  out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => (outsAt0 V c t)
  Φ _ := Pipeline.scopedRest spec0 c
  q _ := fullShare
  owed _ := 0

/-- The proof data's arrays are the region-entry contents: the proof data's definition projected (`dsimp`), so that
    `V` — a fold over @main's host prefix, long for some programs — is never unfolded to check it. -/
theorem A0_eq (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A0_eq V c 0) (after0_0 V c) t d
theorem before0_1 (c : Dev nD) (t : Fin cfg0.N) (d) : (dat0 V c).before 1 t d = iblk0 V c 1 t :=
  before0_1_of V (dat0 V c) (A0_eq V c 1) (after0_1 V c) t d
theorem before0_2 (c : Dev nD) (t : Fin cfg0.N) (d) : (dat0 V c).before 2 t d = iblk0 V c 2 t :=
  before0_2_of V (dat0 V c) (A0_eq V c 2) (after0_2 V c) t d
theorem before0_3 (c : Dev nD) (t : Fin cfg0.N) (d) : (dat0 V c).before 3 t d = iblk0 V c 3 t :=
  before0_3_of V (dat0 V c) (A0_eq V c 3) (after0_3 V c) t d
theorem before0_4 (c : Dev nD) (t : Fin cfg0.N) (d) : (dat0 V c).before 4 t d = iblk0 V c 4 t :=
  before0_4_of V (dat0 V c) (A0_eq V c 4) (after0_4 V c) t d
theorem before0_5 (c : Dev nD) (t : Fin cfg0.N) (d) : (dat0 V c).before 5 t d = iblk0 V c 5 t :=
  before0_5_of V (dat0 V c) (A0_eq V c 5) (after0_5 V c) t d
theorem before0_6 (c : Dev nD) (t : Fin cfg0.N) (d) : (dat0 V c).before 6 t d = iblk0 V c 6 t :=
  before0_6_of V (dat0 V c) (A0_eq V c 6) (after0_6 V c) t d
theorem before0_7 (c : Dev nD) (t : Fin cfg0.N) (d) : (dat0 V c).before 7 t d = iblk0 V c 7 t :=
  before0_7_of V (dat0 V c) (A0_eq V c 7) (after0_7 V c) t d
theorem before0_8 (c : Dev nD) (t : Fin cfg0.N) (d) : (dat0 V c).before 8 t d = iblk0 V c 8 t :=
  before0_8_of V (dat0 V c) (A0_eq V c 8) (after0_8 V c) t d
theorem before0_9 (c : Dev nD) (t : Fin cfg0.N) (d) : (dat0 V c).before 9 t d = iblk0 V c 9 t :=
  before0_9_of V (dat0 V c) (A0_eq V c 9) (after0_9 V c) t d
theorem before0_10 (c : Dev nD) (t : Fin cfg0.N) (d) : (dat0 V c).before 10 t d = iblk0 V c 10 t :=
  before0_10_of V (dat0 V c) (A0_eq V c 10) (after0_10 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t))

set_option maxHeartbeats 1200000 in
/-- The body at any point: the inputs' memrefs hold their blocks (`before0_W`); so the
    run applies; the invariant hands the body its scratch buffers at some contents (and the generator register) and takes them back at some contents (`scoped0_split`); the core owes nothing throughout. -/
theorem sound_body0 (c : Dev nD) (t : Fin cfg0.N) :
    bodyPre0 V c t ⊢ wp frame (wpE (defs₀ (F := F)) 𝒱₀ c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  rw [show (dat0 V c).Φ t.castSucc = Pipeline.scopedRest spec0 c from rfl, scoped0_split]
  unfold outsAt0
  unfold out0_A_11
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  iintro ⟨H0, H1, H2, H3, H4, H5, H6, H7, H8, H9, H10, ⟨%e11, H11⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_of_cover _ _ _ _ _ (cover0_A_11 c _ _ _ _ _ _ _ _ _ _ _ _ _ _ _ _ _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) 𝒱₀ () Set.univ := fun t => by
  rw [bigSep_W0, bigSep_W0, defs₀_row0]
  exact triple_restated (sound_body0 V c t) rfl .rfl fun _ => .rfl

end Cert.KernelIdeal.Gen

end
-- ==== Proof.ScatterLoop.lean ====
/- Region 1, the scatter: the rows of the arrays it moves, what each of a block's transfers delivers, and one trip of
   each of its two issue loops.
-/
module

public import proofs.«01_k».proof.Proof.Common
public import proofs.«01_k».proof.Proof.Gen.KernelIdeal.Skeleton
public import proofs.«01_k».proof.Proof.Gen.KernelIdeal.Loops
public import Idealize.ShloMosaic.Lib.Batch
public import Idealize.ShloMosaic.Lib.Ring
public import Idealize.ShloMosaic.Lib.Transfers
public import Idealize.ShloMosaic.Lib.Tactic

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The transfers' counters are the right component. -/
abbrev EC : UEmb Counters (MT nD τ sig Unit (Elt F) ℕ UU ℕ) := countersEmb (U := UU)

/-! ## Rows -/

/-- Row `r` of the `[8192, 1, 2944]` arrays; -/
def rowSet (r : ℕ) : Finset S8192x1x2944.Idx := Finset.univ.filter fun y => (y 0).val = r
/-- the `1024` rows of block `b`; -/
def blkSet (b : ℕ) : Finset S8192x1x2944.Idx := Finset.univ.filter fun y => 1024 * b ≤ (y 0).val ∧ (y 0).val < 1024 * b + 1024
/-- row `r` of a stage. -/
def stRow (r : ℕ) : Finset S1024x1x2944.Idx := Finset.univ.filter fun y => (y 0).val = r

theorem mem_rowSet (r : ℕ) (y : S8192x1x2944.Idx) : y ∈ rowSet r ↔ (y 0).val = r := by simp [rowSet]
theorem mem_blkSet (b : ℕ) (y : S8192x1x2944.Idx) : y ∈ blkSet b ↔ 1024 * b ≤ (y 0).val ∧ (y 0).val < 1024 * b + 1024 := by simp [blkSet]
theorem mem_stRow (r : ℕ) (y : S1024x1x2944.Idx) : y ∈ stRow r ↔ (y 0).val = r := by simp [stRow]

/-- The index of a list of `8192` words. -/
def ix8 (j : Fin 8192) : S8192.Idx := fun a => ⟨j.val, by have : a = 0 := Subsingleton.elim _ _; subst this; exact j.isLt⟩

/-- Where source row `j` goes, by the list of labels. -/
def tgt (lab : S8192.Idx → BitVec 32) (j : Fin 8192) : ℕ := (lab (ix8 j)).toNat

/-- The labels name each row once. -/
structure LabOK (lab : S8192.Idx → BitVec 32) : Prop where
  lt : ∀ j, tgt lab j < 8192
  inj : ∀ j j', tgt lab j = tgt lab j' → j = j'

/-- Source row number `i` of block `b`. -/
def jx (b : Fin 8) (i : Fin 1024) : Fin 8192 := ⟨1024 * b.val + i.val, by have := b.isLt; have := i.isLt; omega⟩

/-- A stage's contents when it holds block `b` of the source. -/
def stOf (src : S8192x1x2944.Idx → Elt F .f32) (b : Fin 8) : S1024x1x2944.Idx → Elt F .f32 := fun y =>
  src (fun a => match a with
    | ⟨0, _⟩ => ⟨1024 * b.val + (y 0).val, by have := b.isLt; have h := (y 0).isLt; change (y 0).val < 1024 at h; show _ < 8192; omega⟩
    | ⟨1, _⟩ => y 1
    | ⟨2, _⟩ => y 2)

/-- The array with every source row at its target: `g` at row `tgt j` is `src` at row `j`. -/
def Scattered (lab : S8192.Idx → BitVec 32) (src g : S8192x1x2944.Idx → Elt F .f32) : Prop :=
  ∀ (j : Fin 8192) (y : S8192x1x2944.Idx), (y 0).val = tgt lab j →
    g y = src (fun a => match a with
      | ⟨0, _⟩ => (j : Fin 8192)
      | ⟨1, _⟩ => y 1
      | ⟨2, _⟩ => y 2)

/-- Source row `j`'s target row of the result, held at contents `g`. -/
abbrev outRow (c : Dev nD) (lab : S8192.Idx → BitVec 32) (g : S8192x1x2944.Idx → Elt F .f32) (j : Fin 8192) : sProp 𝕄 :=
  ((c : Thread nD τ).loc main_v45) ↦[rowSet (tgt lab j)]{fullShare} g

/-- One row's credit. -/
abbrev NR : ℕ := 368

theorem ret_bind'.{v} {E : Type → Type v} {α β : Type} (a : α) (k : α → Prog E β) : (Prog.ret a).bind k = k a := rfl

/-! ## One row as a transfer names it -/

/-- A row of the result, at offsets `o`; -/
def oRow (o : Fin 3 → ℕ) (h : ∀ a, o a + S1x1x2944.size a ≤ S8192x1x2944.size a) : Memref sig .tc .hbm S1x2944 .f32 :=
  ((Memref.whole main_v45 : Memref sig .tc .hbm S8192x1x2944 .f32).slice (Rect.unit (s := S8192x1x2944) o S1x1x2944.size h) (fun _ => rfl)).squeeze S1x2944 squeezes_S1x1x2944_S1x2944

theorem set_oRow {o : Fin 3 → ℕ} {h : ∀ a, o a + S1x1x2944.size a ≤ S8192x1x2944.size a} {r : ℕ} (ho : o = ![r, 0, 0]) : (oRow o h).view.set = rowSet r := by
  subst ho
  refine ((View.set_reshape _ _).trans (View.set_slice_whole _ _)).trans ?_
  ext y
  rw [Rect.mem_set_unit, mem_rowSet]
  constructor
  · intro hy; have := hy 0; change r ≤ (y 0).val ∧ (y 0).val < r + 1 at this; omega
  · intro hy a
    match a with
    | ⟨0, _⟩ => change r ≤ (y 0).val ∧ (y 0).val < r + 1; omega
    | ⟨1, _⟩ => exact ⟨Nat.zero_le _, Nat.lt_of_lt_of_eq (y 1).isLt (Nat.zero_add _).symm⟩
    | ⟨2, _⟩ => exact ⟨Nat.zero_le _, Nat.lt_of_lt_of_eq (y 2).isLt (Nat.zero_add _).symm⟩

/-- A row of stage A, at offsets `o`. -/
def sRowA (o : Fin 3 → ℕ) (h : ∀ a, o a + S1x1x2944.size a ≤ S1024x1x2944.size a) : Memref sig .tc .vmem S1x2944 .f32 :=
  ((Memref.whole cc1_scratch0 : Memref sig .tc .vmem S1024x1x2944 .f32).slice (Rect.unit (s := S1024x1x2944) o S1x1x2944.size h) (fun _ => rfl)).squeeze S1x2944 squeezes_S1x1x2944_S1x2944

theorem set_sRowA {o : Fin 3 → ℕ} {h : ∀ a, o a + S1x1x2944.size a ≤ S1024x1x2944.size a} {r : ℕ} (ho : o = ![r, 0, 0]) : (sRowA o h).view.set = stRow r := by
  subst ho
  refine ((View.set_reshape _ _).trans (View.set_slice_whole _ _)).trans ?_
  ext y
  rw [Rect.mem_set_unit, mem_stRow]
  constructor
  · intro hy; have := hy 0; change r ≤ (y 0).val ∧ (y 0).val < r + 1 at this; omega
  · intro hy a
    match a with
    | ⟨0, _⟩ => change r ≤ (y 0).val ∧ (y 0).val < r + 1; omega
    | ⟨1, _⟩ => exact ⟨Nat.zero_le _, Nat.lt_of_lt_of_eq (y 1).isLt (Nat.zero_add _).symm⟩
    | ⟨2, _⟩ => exact ⟨Nat.zero_le _, Nat.lt_of_lt_of_eq (y 2).isLt (Nat.zero_add _).symm⟩

/-- Row `k` of the stage written over row `r` of the result: there the result holds the stage's row. -/
theorem write_rowA {o : Fin 3 → ℕ} {h : ∀ a, o a + S1x1x2944.size a ≤ S8192x1x2944.size a} {r : ℕ} (ho : o = ![r, 0, 0])
    {o' : Fin 3 → ℕ} {h' : ∀ a, o' a + S1x1x2944.size a ≤ S1024x1x2944.size a} {k : ℕ} (ho' : o' = ![k, 0, 0]) (hk : k < 1024)
    (fd : S8192x1x2944.Idx → Elt F .f32) (fs : S1024x1x2944.Idx → Elt F .f32) (y : S8192x1x2944.Idx) (hy : y ∈ rowSet r) :
    (oRow o h).view.write (Elt F) fd ((sRowA o' h').view.read (Elt F) fs) Finset.univ y
      = fs (fun a => match a with
          | ⟨0, _⟩ => (⟨k, hk⟩ : Fin 1024)
          | ⟨1, _⟩ => y 1
          | ⟨2, _⟩ => y 2) := by
  rw [← set_oRow (h := h) ho] at hy
  obtain ⟨z, -, hz⟩ := Finset.mem_map.1 hy
  subst hz
  refine (View.write_emb_of_mem (v := (oRow o h).view) fd _ (Finset.mem_univ z)).trans ?_
  refine congrArg fs ?_
  subst ho; subst ho'
  have hw := (Shape.reshapeEquiv (Shape.Squeezes.numel_eq squeezes_S1x1x2944_S1x2944) z 0).isLt
  funext a
  match a with
  | ⟨0, _⟩ =>
    apply Fin.ext
    show k + 1 * (Shape.reshapeEquiv _ z 0).val = k
    change (Shape.reshapeEquiv _ z 0).val < 1 at hw
    omega
  | ⟨1, _⟩ => exact Fin.ext rfl
  | ⟨2, _⟩ => exact Fin.ext rfl

/-- Row `i` of stage A, held at contents `f`. -/
abbrev stAtA (c : Dev nD) (f : S1024x1x2944.Idx → Elt F .f32) (i : Fin 1024) : sProp 𝕄 :=
  ((c : Thread nD τ).loc cc1_scratch0) ↦[stRow i.val]{fullShare} f

/-- What transfer `i` of block `b` out of stage A delivers: the target row at the scattered contents, and the stage's row back. -/
def delA (c : Dev nD) (lab : S8192.Idx → BitVec 32) (src g : S8192x1x2944.Idx → Elt F .f32) (b : Fin 8) (i : Fin 1024) : sProp 𝕄 :=
  iprop(outRow c lab g (jx b i) ∗ stAtA c (stOf src b) i)

instance delA_storable (c : Dev nD) (lab : S8192.Idx → BitVec 32) (src g : S8192x1x2944.Idx → Elt F .f32) (b : Fin 8) (i : Fin 1024) :
    BI.Storable (upEmb : UEmb _ 𝕄) (delA c lab src g b i) := by unfold delA; infer_instance

/-- The batch of block `b`'s transfers out of stage A, `k` issued and none consumed. -/
abbrev batA (c : Dev nD) (lab : S8192.Idx → BitVec 32) (src g : S8192x1x2944.Idx → Elt F .f32) (b : Fin 8) (k : ℕ) : sProp 𝕄 :=
  Transfers.Batch (EC (F := F)) (c : Thread nD τ) (.dma cc1_scratch4.sem) () NR (delA c lab src g b) k 0

/-- Before trip `k` of the loop over block `b`: the labels; `k` transfers issued; the target rows and the stage's rows from `k` on. -/
def invA (c : Dev nD) (arg1 : Memref sig .tc .smem S8192 .i32) (lab : S8192.Idx → BitVec 32) (src g f0 : S8192x1x2944.Idx → Elt F .f32) (b : Fin 8)
    (k : ℕ) (_ : Unit) : sProp 𝕄 :=
  iprop(owns (c : Thread nD τ) arg1 fullShare lab ∗ batA c lab src g b k
    ∗ bigSep (Ring.rangeSet 8192 (1024 * b.val + k) (1024 * b.val + 1024)) (outRow c lab f0)
    ∗ bigSep (Ring.rangeSet 1024 k 1024) (stAtA c (stOf src b)))

set_option maxHeartbeats 4000000 in
/-- One trip: the label read, its check met, the row's transfer issued. -/
theorem stepA (c : Dev nD) (i : grid1.Coords) (b : Fin 8) (hb : b.val = (i 0).val)
    (arg1 : Memref sig .tc .smem S8192 .i32) (harg1 : arg1.IsWhole) (hc : k1_cond2 i = 1#1)
    (lab : S8192.Idx → BitVec 32) (hlab : LabOK lab) (src g f0 : S8192x1x2944.Idx → Elt F .f32) (hg : Scattered lab src g)
    (k : Fin k1_t1_loop.trips) (acc : Unit) :
    invA c arg1 lab src g f0 b k.val acc ⊢ wp frame (wpE (defs₀ (F := F)) 𝒱₀ c none) Set.univ
      (k1_t1_body (F := F) i arg1 harg1 (Memref.whole main_v44) (Memref.isWhole_whole _) (Memref.whole main_v45) (Memref.isWhole_whole _)
        (Memref.whole cc1_scratch0) (Memref.isWhole_whole _) (Memref.whole cc1_scratch1) (Memref.isWhole_whole _) cc1_scratch2 cc1_scratch3 cc1_scratch4 hc k acc)
      (invA c arg1 lab src g f0 b (k.val + 1)) := by
  have hk : k.val < 1024 := Nat.lt_of_lt_of_le k.isLt k1_t1_abs.2.1
  have hb8 := b.isLt
  unfold invA owns
  rw [Ring.bigSep_rangeSet_head (Φ := outRow c lab f0) (lo := 1024 * b.val + k.val) (by omega) (by omega),
    Ring.bigSep_rangeSet_head (Φ := stAtA c (stOf src b)) (lo := k.val) (by omega) (by omega)]
  iintro ⟨⟨%fl, %hfl, Hl⟩, HB, ⟨Ho, Hos⟩, ⟨Hs, Hss⟩⟩
  dsimp only [k1_t1_body]
  have hv : (arg1.access (Rect.unit (s := S8192) (k1_off3 i k) S1.size (k1_off3_inb i k hc))).read (Elt F) fl (Shape.Idx.first (numel1_S1.symm ▸ Nat.one_pos)) = lab (ix8 (jx b ⟨k.val, hk⟩)) := by
    subst hfl
    refine congrArg (arg1.view.read (Elt F) fl) ?_
    funext a
    have : a = 0 := Subsingleton.elim _ _
    subst this
    apply Fin.ext
    show k1_off3 i k 0 + 1 * 0 = 1024 * b.val + k.val
    rw [k1_off3_eq, hb]; rfl
  unfold smemLoad
  rw [smemLoadElt_bind]
  iapply (wp_smemLoadElt_named 𝒱₀ (c : Thread nD τ) none Set.univ (m := arg1) (S := arg1.view.set) (View.set_slice_subset _ _)) $$ Hl
  iintro Hl %v %hvv
  have hlt : v.toNat < 8192 := by rw [hvv, hv]; exact hlab.lt (jx b ⟨k.val, hk⟩)
  have hr : v.toNat = tgt lab (jx b ⟨k.val, hk⟩) := by rw [hvv, hv]; rfl
  have hoff : k1_off4 v = ![v.toNat, 0, 0] := rfl
  have hchk : k1_chk1 i v := by
    intro _ a
    rw [hoff]
    match a with
    | ⟨0, _⟩ => exact hlt
    | ⟨1, _⟩ => exact Nat.le_of_eq (Nat.zero_add _)
    | ⟨2, _⟩ => exact Nat.le_of_eq (Nat.zero_add _)
  iapply (wp_assume 𝒱₀ (c : Thread nD τ) none Set.univ hchk)
  iapply (Transfers.wp_dmaBatch (EC (F := F)) 𝒱₀ (c : Thread nD τ) none
    (src := sRowA (k1_off5 k) (k1_off5_inb i k hc)) (dst := oRow (k1_off4 v) (k1_off4_inb i v hchk hc))
    (q := fullShare) (fs := stOf src b) (Sd := rowSet (tgt lab (jx b ⟨k.val, hk⟩))) (fd := f0) (D := delA c lab src g b) (j := k.val) (u := 0)
    () NR rfl (((set_oRow hoff).trans (congrArg rowSet hr)).subset) hk (Nat.zero_le _) ?_) $$ [Hs Ho HB]
  · unfold delA
    rw [set_sRowA (k1_off5_eq k)]
    refine Laws.sep_mono (BIBase.Entails.of_eq ?_) (BIBase.Entails.of_eq rfl)
    refine pointsTo_congr fun y hy => ?_
    refine (write_rowA hoff (k1_off5_eq k) hk f0 (stOf src b) y (hr ▸ hy)).trans ?_
    exact (hg (jx b ⟨k.val, hk⟩) y ((mem_rowSet _ _).1 hy)).symm
  · rw [set_sRowA (k1_off5_eq k)]
    isplitl [Hs]; · iexact Hs
    isplitl [Ho]; · iexact Ho
    iexact HB
  iintro HB
  simp only [ret_bind']
  sl_step
  isplitl [Hl]
  · iexists fl; isplitr; · ipureintro; exact hfl
    iexact Hl
  isplitl [HB]; · iexact HB
  isplitl [Hos]; · iexact Hos
  iexact Hss

/-- A row of stage B, at offsets `o`. -/
def sRowB (o : Fin 3 → ℕ) (h : ∀ a, o a + S1x1x2944.size a ≤ S1024x1x2944.size a) : Memref sig .tc .vmem S1x2944 .f32 :=
  ((Memref.whole cc1_scratch1 : Memref sig .tc .vmem S1024x1x2944 .f32).slice (Rect.unit (s := S1024x1x2944) o S1x1x2944.size h) (fun _ => rfl)).squeeze S1x2944 squeezes_S1x1x2944_S1x2944

theorem set_sRowB {o : Fin 3 → ℕ} {h : ∀ a, o a + S1x1x2944.size a ≤ S1024x1x2944.size a} {r : ℕ} (ho : o = ![r, 0, 0]) : (sRowB o h).view.set = stRow r := by
  subst ho
  refine ((View.set_reshape _ _).trans (View.set_slice_whole _ _)).trans ?_
  ext y
  rw [Rect.mem_set_unit, mem_stRow]
  constructor
  · intro hy; have := hy 0; change r ≤ (y 0).val ∧ (y 0).val < r + 1 at this; omega
  · intro hy a
    match a with
    | ⟨0, _⟩ => change r ≤ (y 0).val ∧ (y 0).val < r + 1; omega
    | ⟨1, _⟩ => exact ⟨Nat.zero_le _, Nat.lt_of_lt_of_eq (y 1).isLt (Nat.zero_add _).symm⟩
    | ⟨2, _⟩ => exact ⟨Nat.zero_le _, Nat.lt_of_lt_of_eq (y 2).isLt (Nat.zero_add _).symm⟩

/-- Row `k` of the stage written over row `r` of the result: there the result holds the stage's row. -/
theorem write_rowB {o : Fin 3 → ℕ} {h : ∀ a, o a + S1x1x2944.size a ≤ S8192x1x2944.size a} {r : ℕ} (ho : o = ![r, 0, 0])
    {o' : Fin 3 → ℕ} {h' : ∀ a, o' a + S1x1x2944.size a ≤ S1024x1x2944.size a} {k : ℕ} (ho' : o' = ![k, 0, 0]) (hk : k < 1024)
    (fd : S8192x1x2944.Idx → Elt F .f32) (fs : S1024x1x2944.Idx → Elt F .f32) (y : S8192x1x2944.Idx) (hy : y ∈ rowSet r) :
    (oRow o h).view.write (Elt F) fd ((sRowB o' h').view.read (Elt F) fs) Finset.univ y
      = fs (fun a => match a with
          | ⟨0, _⟩ => (⟨k, hk⟩ : Fin 1024)
          | ⟨1, _⟩ => y 1
          | ⟨2, _⟩ => y 2) := by
  rw [← set_oRow (h := h) ho] at hy
  obtain ⟨z, -, hz⟩ := Finset.mem_map.1 hy
  subst hz
  refine (View.write_emb_of_mem (v := (oRow o h).view) fd _ (Finset.mem_univ z)).trans ?_
  refine congrArg fs ?_
  subst ho; subst ho'
  have hw := (Shape.reshapeEquiv (Shape.Squeezes.numel_eq squeezes_S1x1x2944_S1x2944) z 0).isLt
  funext a
  match a with
  | ⟨0, _⟩ =>
    apply Fin.ext
    show k + 1 * (Shape.reshapeEquiv _ z 0).val = k
    change (Shape.reshapeEquiv _ z 0).val < 1 at hw
    omega
  | ⟨1, _⟩ => exact Fin.ext rfl
  | ⟨2, _⟩ => exact Fin.ext rfl

/-- Row `i` of stage B, held at contents `f`. -/
abbrev stAtB (c : Dev nD) (f : S1024x1x2944.Idx → Elt F .f32) (i : Fin 1024) : sProp 𝕄 :=
  ((c : Thread nD τ).loc cc1_scratch1) ↦[stRow i.val]{fullShare} f

/-- What transfer `i` of block `b` out of stage B delivers: the target row at the scattered contents, and the stage's row back. -/
def delB (c : Dev nD) (lab : S8192.Idx → BitVec 32) (src g : S8192x1x2944.Idx → Elt F .f32) (b : Fin 8) (i : Fin 1024) : sProp 𝕄 :=
  iprop(outRow c lab g (jx b i) ∗ stAtB c (stOf src b) i)

instance delB_storable (c : Dev nD) (lab : S8192.Idx → BitVec 32) (src g : S8192x1x2944.Idx → Elt F .f32) (b : Fin 8) (i : Fin 1024) :
    BI.Storable (upEmb : UEmb _ 𝕄) (delB c lab src g b i) := by unfold delB; infer_instance

/-- The batch of block `b`'s transfers out of stage B, `k` issued and none consumed. -/
abbrev batB (c : Dev nD) (lab : S8192.Idx → BitVec 32) (src g : S8192x1x2944.Idx → Elt F .f32) (b : Fin 8) (k : ℕ) : sProp 𝕄 :=
  Transfers.Batch (EC (F := F)) (c : Thread nD τ) (.dma cc1_scratch4.sem) () NR (delB c lab src g b) k 0

/-- Before trip `k` of the loop over block `b`: the labels; `k` transfers issued; the target rows and the stage's rows from `k` on. -/
def invB (c : Dev nD) (arg1 : Memref sig .tc .smem S8192 .i32) (lab : S8192.Idx → BitVec 32) (src g f0 : S8192x1x2944.Idx → Elt F .f32) (b : Fin 8)
    (k : ℕ) (_ : Unit) : sProp 𝕄 :=
  iprop(owns (c : Thread nD τ) arg1 fullShare lab ∗ batB c lab src g b k
    ∗ bigSep (Ring.rangeSet 8192 (1024 * b.val + k) (1024 * b.val + 1024)) (outRow c lab f0)
    ∗ bigSep (Ring.rangeSet 1024 k 1024) (stAtB c (stOf src b)))

set_option maxHeartbeats 4000000 in
/-- One trip: the label read, its check met, the row's transfer issued. -/
theorem stepB (c : Dev nD) (i : grid1.Coords) (b : Fin 8) (hb : b.val = (i 0).val)
    (arg1 : Memref sig .tc .smem S8192 .i32) (harg1 : arg1.IsWhole) (hc : k1_cond6 i = 1#1)
    (lab : S8192.Idx → BitVec 32) (hlab : LabOK lab) (src g f0 : S8192x1x2944.Idx → Elt F .f32) (hg : Scattered lab src g)
    (k : Fin k1_t2_loop.trips) (acc : Unit) :
    invB c arg1 lab src g f0 b k.val acc ⊢ wp frame (wpE (defs₀ (F := F)) 𝒱₀ c none) Set.univ
      (k1_t2_body (F := F) i arg1 harg1 (Memref.whole main_v44) (Memref.isWhole_whole _) (Memref.whole main_v45) (Memref.isWhole_whole _)
        (Memref.whole cc1_scratch0) (Memref.isWhole_whole _) (Memref.whole cc1_scratch1) (Memref.isWhole_whole _) cc1_scratch2 cc1_scratch3 cc1_scratch4 hc k acc)
      (invB c arg1 lab src g f0 b (k.val + 1)) := by
  have hk : k.val < 1024 := Nat.lt_of_lt_of_le k.isLt k1_t2_abs.2.1
  have hb8 := b.isLt
  unfold invB owns
  rw [Ring.bigSep_rangeSet_head (Φ := outRow c lab f0) (lo := 1024 * b.val + k.val) (by omega) (by omega),
    Ring.bigSep_rangeSet_head (Φ := stAtB c (stOf src b)) (lo := k.val) (by omega) (by omega)]
  iintro ⟨⟨%fl, %hfl, Hl⟩, HB, ⟨Ho, Hos⟩, ⟨Hs, Hss⟩⟩
  dsimp only [k1_t2_body]
  have hv : (arg1.access (Rect.unit (s := S8192) (k1_off8 i k) S1.size (k1_off8_inb i k hc))).read (Elt F) fl (Shape.Idx.first (numel1_S1.symm ▸ Nat.one_pos)) = lab (ix8 (jx b ⟨k.val, hk⟩)) := by
    subst hfl
    refine congrArg (arg1.view.read (Elt F) fl) ?_
    funext a
    have : a = 0 := Subsingleton.elim _ _
    subst this
    apply Fin.ext
    show k1_off8 i k 0 + 1 * 0 = 1024 * b.val + k.val
    rw [k1_off8_eq, hb]; rfl
  unfold smemLoad
  rw [smemLoadElt_bind]
  iapply (wp_smemLoadElt_named 𝒱₀ (c : Thread nD τ) none Set.univ (m := arg1) (S := arg1.view.set) (View.set_slice_subset _ _)) $$ Hl
  iintro Hl %v %hvv
  have hlt : v.toNat < 8192 := by rw [hvv, hv]; exact hlab.lt (jx b ⟨k.val, hk⟩)
  have hr : v.toNat = tgt lab (jx b ⟨k.val, hk⟩) := by rw [hvv, hv]; rfl
  have hoff : k1_off9 v = ![v.toNat, 0, 0] := rfl
  have hchk : k1_chk2 i v := by
    intro _ a
    rw [hoff]
    match a with
    | ⟨0, _⟩ => exact hlt
    | ⟨1, _⟩ => exact Nat.le_of_eq (Nat.zero_add _)
    | ⟨2, _⟩ => exact Nat.le_of_eq (Nat.zero_add _)
  iapply (wp_assume 𝒱₀ (c : Thread nD τ) none Set.univ hchk)
  iapply (Transfers.wp_dmaBatch (EC (F := F)) 𝒱₀ (c : Thread nD τ) none
    (src := sRowB (k1_off10 k) (k1_off10_inb i k hc)) (dst := oRow (k1_off9 v) (k1_off9_inb i v hchk hc))
    (q := fullShare) (fs := stOf src b) (Sd := rowSet (tgt lab (jx b ⟨k.val, hk⟩))) (fd := f0) (D := delB c lab src g b) (j := k.val) (u := 0)
    () NR rfl (((set_oRow hoff).trans (congrArg rowSet hr)).subset) hk (Nat.zero_le _) ?_) $$ [Hs Ho HB]
  · unfold delB
    rw [set_sRowB (k1_off10_eq k)]
    refine Laws.sep_mono (BIBase.Entails.of_eq ?_) (BIBase.Entails.of_eq rfl)
    refine pointsTo_congr fun y hy => ?_
    refine (write_rowB hoff (k1_off10_eq k) hk f0 (stOf src b) y (hr ▸ hy)).trans ?_
    exact (hg (jx b ⟨k.val, hk⟩) y ((mem_rowSet _ _).1 hy)).symm
  · rw [set_sRowB (k1_off10_eq k)]
    isplitl [Hs]; · iexact Hs
    isplitl [Ho]; · iexact Ho
    iexact HB
  iintro HB
  simp only [ret_bind']
  sl_step
  isplitl [Hl]
  · iexists fl; isplitr; · ipureintro; exact hfl
    iexact Hl
  isplitl [HB]; · iexact HB
  isplitl [Hos]; · iexact Hos
  iexact Hss

end Cert.KernelIdeal.Gen

end
-- ==== Proof.ScatterRows.lean ====
/- Region 1, the scatter: its arrays as their rows, a block's transfers issued by a loop, and their deliveries
   collected.
-/
module

public import proofs.«01_k».proof.Proof.ScatterLoop
public import proofs.«01_k».proof.Proof.Gen.KernelIdeal.Skeleton
public import proofs.«01_k».proof.Proof.Gen.KernelIdeal.Loops
public import Idealize.ShloMosaic.Lib.Batch
public import Idealize.ShloMosaic.Lib.Ring
public import Idealize.ShloMosaic.Lib.Transfers
public import Idealize.ShloMosaic.Lib.Tactic

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The arrays by rows -/

/-- The labels reach every row. -/
theorem LabOK.surj {lab : S8192.Idx → BitVec 32} (h : LabOK lab) (r : ℕ) (hr : r < 8192) : ∃ j, tgt lab j = r := by
  have hi : Function.Injective (fun j : Fin 8192 => (⟨tgt lab j, h.lt j⟩ : Fin 8192)) := fun a b e => h.inj a b (show tgt lab a = tgt lab b from congrArg (fun x : Fin 8192 => x.val) e)
  obtain ⟨j, hj⟩ := (Finite.injective_iff_surjective.1 hi) ⟨r, hr⟩
  exact ⟨j, congrArg Fin.val hj⟩

theorem stRow_disjoint (j j' : Fin 1024) (hne : j ≠ j') : Disjoint (stRow j.val) (stRow j'.val) := by
  refine Finset.disjoint_left.2 fun y hy hy' => hne (Fin.ext ?_)
  exact ((mem_stRow _ _).1 hy).symm.trans ((mem_stRow _ _).1 hy')

set_option maxRecDepth 100000 in
theorem stRow_cover : Finset.univ.biUnion (fun j : Fin 1024 => stRow j.val) = Finset.univ := by
  refine Finset.eq_univ_iff_forall.2 fun y => ?_
  exact Finset.mem_biUnion.2 ⟨y 0, Finset.mem_univ _, (mem_stRow _ _).2 rfl⟩

set_option maxRecDepth 100000 in
theorem out_rows (c : Dev nD) {lab : S8192.Idx → BitVec 32} (hlab : LabOK lab) (g : S8192x1x2944.Idx → Elt F .f32) :
    (((c : Thread nD τ).loc main_v45) ↦{fullShare} g : sProp 𝕄) = bigSep (Ring.rangeSet 8192 0 8192) (outRow c lab g) := by
  have hd : ∀ j j' : Fin 8192, j ≠ j' → Disjoint (rowSet (tgt lab j)) (rowSet (tgt lab j')) := by
    intro j j' hne
    refine Finset.disjoint_left.2 fun y hy hy' => hne (hlab.inj j j' ?_)
    exact ((mem_rowSet _ _).1 hy).symm.trans ((mem_rowSet _ _).1 hy')
  have hc : Finset.univ.biUnion (fun j : Fin 8192 => rowSet (tgt lab j)) = Finset.univ := by
    refine Finset.eq_univ_iff_forall.2 fun y => ?_
    obtain ⟨j, hj⟩ := hlab.surj (y 0).val (y 0).isLt
    exact Finset.mem_biUnion.2 ⟨j, Finset.mem_univ j, (mem_rowSet _ _).2 hj.symm⟩
  rw [Ring.rangeSet_univ]
  exact Ring.pointsTo_blocks (ℓ := (c : Thread nD τ).loc main_v45) (fun j : Fin 8192 => rowSet (tgt lab j)) hd hc g

/-- A block's target rows, numbered in the block and among all source rows. -/
theorem blk_rows (c : Dev nD) (lab : S8192.Idx → BitVec 32) (g : S8192x1x2944.Idx → Elt F .f32) (b : Fin 8) :
    bigSep Finset.univ (fun i : Fin 1024 => (outRow c lab g (jx b i) : sProp 𝕄)) = bigSep (Ring.rangeSet 8192 (1024 * b.val) (1024 * b.val + 1024)) (outRow c lab g) := by
  have hb := b.isLt
  rw [← Ring.rangeSet_univ,
    Ring.bigSep_rangeSet_eq_range (Φ := fun i : Fin 1024 => (outRow c lab g (jx b i) : sProp 𝕄)) le_rfl (fun k => outRow c lab g (Fin.ofNat 8192 (1024 * b.val + k))) ?_,
    Ring.bigSep_rangeSet_eq_range (Φ := (outRow c lab g : Fin 8192 → sProp 𝕄)) (lo := 1024 * b.val) (hi := 1024 * b.val + 1024) (by omega) (fun k => outRow c lab g (Fin.ofNat 8192 (1024 * b.val + k))) ?_]
  · rw [Nat.add_sub_cancel_left]
  · intro k h
    exact congrArg (outRow c lab g) (Fin.ext (Nat.mod_eq_of_lt h))
  · intro k h
    refine congrArg (outRow c lab g) (Fin.ext ((Nat.mod_eq_of_lt (by omega)).trans ?_))
    show _ = 1024 * b.val + (0 + k)
    omega

/-- The source's block `b` and the rest of it. -/
theorem src_split (c : Dev nD) (f : S8192x1x2944.Idx → Elt F .f32) (b : ℕ) :
    (((c : Thread nD τ).loc main_v44) ↦{fullShare} f : sProp 𝕄)
      = iprop((((c : Thread nD τ).loc main_v44) ↦[blkSet b]{fullShare} f) ∗ (((c : Thread nD τ).loc main_v44) ↦[Finset.univ \ blkSet b]{fullShare} f)) := by
  have h := pointsTo_split_subset (Ix := Unit) (Name := ℕ) (U := UU) (Lvl := ℕ) (Val := Elt F) (ℓ := (c : Thread nD τ).loc main_v44) (q := fullShare) (f := f) (I := blkSet b) (S := Finset.univ) (Finset.subset_univ _)
  exact Entails.antisymm h.1 h.2

theorem st_rowsA (c : Dev nD) (f : S1024x1x2944.Idx → Elt F .f32) :
    (((c : Thread nD τ).loc cc1_scratch0) ↦{fullShare} f : sProp 𝕄) = bigSep (Ring.rangeSet 1024 0 1024) (stAtA c f) := by
  rw [Ring.rangeSet_univ]
  exact Ring.pointsTo_blocks (ℓ := (c : Thread nD τ).loc cc1_scratch0) (fun j : Fin 1024 => stRow j.val) stRow_disjoint stRow_cover f

/-- What all of a block's transfers deliver: its target rows at the scattered contents, and the stage whole. -/
theorem del_allA (c : Dev nD) (lab : S8192.Idx → BitVec 32) (src g : S8192x1x2944.Idx → Elt F .f32) (b : Fin 8) :
    bigSep Finset.univ (delA c lab src g b)
      = iprop(bigSep (Ring.rangeSet 8192 (1024 * b.val) (1024 * b.val + 1024)) (outRow c lab g) ∗ (((c : Thread nD τ).loc cc1_scratch0) ↦{fullShare} stOf src b)) := by
  rw [st_rowsA, Ring.rangeSet_univ, ← blk_rows]
  exact BI.bigSep_sep _ _ _

set_option maxHeartbeats 4000000 in
/-- The loop over block `b`: from the labels, the block's target rows, the stage holding the block and the semaphore at
    zero, to the block's `1024` transfers issued. -/
theorem loopA (c : Dev nD) (i : grid1.Coords) (b : Fin 8) (hb : b.val = (i 0).val)
    (arg1 : Memref sig .tc .smem S8192 .i32) (harg1 : arg1.IsWhole) (hc : k1_cond2 i = 1#1)
    (lab : S8192.Idx → BitVec 32) (hlab : LabOK lab) (src g f0 : S8192x1x2944.Idx → Elt F .f32) (hg : Scattered lab src g)
    (k : Unit → Prog (TpuEff nD τ sig (Elt F) Λ₀ .tc) PUnit) (Q : PUnit → sProp 𝕄) :
    iprop(owns (c : Thread nD τ) arg1 fullShare lab
        ∗ bigSep (Ring.rangeSet 8192 (1024 * b.val) (1024 * b.val + 1024)) (outRow c lab f0)
        ∗ (((c : Thread nD τ).loc cc1_scratch0) ↦{fullShare} stOf src b)
        ∗ semVal ((c : Thread nD τ), SemLoc.dma cc1_scratch4.sem) 0
        ∗ (iprop(owns (c : Thread nD τ) arg1 fullShare lab ∗ batA c lab src g b 1024) -∗ wp frame (wpE (defs₀ (F := F)) 𝒱₀ c none) Set.univ (k ⟨⟩) Q))
      ⊢ wp frame (wpE (defs₀ (F := F)) 𝒱₀ c none) Set.univ
      (Scf.Loop.for k1_t1_loop (k1_t1_ok i hc) ⟨⟩ (k1_t1_body (F := F) i arg1 harg1 (Memref.whole main_v44) (Memref.isWhole_whole _) (Memref.whole main_v45) (Memref.isWhole_whole _)
        (Memref.whole cc1_scratch0) (Memref.isWhole_whole _) (Memref.whole cc1_scratch1) (Memref.isWhole_whole _) cc1_scratch2 cc1_scratch3 cc1_scratch4 hc) >>= k) Q := by
  iintro ⟨Hl, Ho, Hs, Hd, Hk⟩
  imod (Transfers.batch_alloc' (Lvl := ℕ) (EC (F := F)) (c : Thread nD τ) () NR (delA c lab src g b) (sm := .dma cc1_scratch4.sem) (E := Set.univ)) $$ Hd with HB
  have htr : k1_t1_loop.trips = 1024 := (by decide)
  iapply (Scf.wp_for_bind frame (wpE (defs₀ (F := F)) 𝒱₀ c none) Set.univ k1_t1_loop.lb k1_t1_loop.ub k1_t1_loop.st _ _ _ (invA c arg1 lab src g f0 b)
    (fun kk acc => stepA c i b hb arg1 harg1 hc lab hlab src g f0 hg kk acc)) $$ [Hl Ho Hs HB]
  · unfold invA
    isplitl [Hl]; · iexact Hl
    isplitl [HB]; · iexact HB
    isplitl [Ho]; · iexact Ho
    rw [← st_rowsA]
    iexact Hs
  iintro %acc HI
  rw [show Scf.trips k1_t1_loop.lb k1_t1_loop.ub k1_t1_loop.st = 1024 from htr]
  unfold invA
  icases HI with ⟨Hl, HB, -, -⟩
  iapply Hk
  isplitl [Hl]; · iexact Hl
  iexact HB

theorem st_rowsB (c : Dev nD) (f : S1024x1x2944.Idx → Elt F .f32) :
    (((c : Thread nD τ).loc cc1_scratch1) ↦{fullShare} f : sProp 𝕄) = bigSep (Ring.rangeSet 1024 0 1024) (stAtB c f) := by
  rw [Ring.rangeSet_univ]
  exact Ring.pointsTo_blocks (ℓ := (c : Thread nD τ).loc cc1_scratch1) (fun j : Fin 1024 => stRow j.val) stRow_disjoint stRow_cover f

/-- What all of a block's transfers deliver: its target rows at the scattered contents, and the stage whole. -/
theorem del_allB (c : Dev nD) (lab : S8192.Idx → BitVec 32) (src g : S8192x1x2944.Idx → Elt F .f32) (b : Fin 8) :
    bigSep Finset.univ (delB c lab src g b)
      = iprop(bigSep (Ring.rangeSet 8192 (1024 * b.val) (1024 * b.val + 1024)) (outRow c lab g) ∗ (((c : Thread nD τ).loc cc1_scratch1) ↦{fullShare} stOf src b)) := by
  rw [st_rowsB, Ring.rangeSet_univ, ← blk_rows]
  exact BI.bigSep_sep _ _ _

set_option maxHeartbeats 4000000 in
/-- The loop over block `b`: from the labels, the block's target rows, the stage holding the block and the semaphore at
    zero, to the block's `1024` transfers issued. -/
theorem loopB (c : Dev nD) (i : grid1.Coords) (b : Fin 8) (hb : b.val = (i 0).val)
    (arg1 : Memref sig .tc .smem S8192 .i32) (harg1 : arg1.IsWhole) (hc : k1_cond6 i = 1#1)
    (lab : S8192.Idx → BitVec 32) (hlab : LabOK lab) (src g f0 : S8192x1x2944.Idx → Elt F .f32) (hg : Scattered lab src g)
    (k : Unit → Prog (TpuEff nD τ sig (Elt F) Λ₀ .tc) PUnit) (Q : PUnit → sProp 𝕄) :
    iprop(owns (c : Thread nD τ) arg1 fullShare lab
        ∗ bigSep (Ring.rangeSet 8192 (1024 * b.val) (1024 * b.val + 1024)) (outRow c lab f0)
        ∗ (((c : Thread nD τ).loc cc1_scratch1) ↦{fullShare} stOf src b)
        ∗ semVal ((c : Thread nD τ), SemLoc.dma cc1_scratch4.sem) 0
        ∗ (iprop(owns (c : Thread nD τ) arg1 fullShare lab ∗ batB c lab src g b 1024) -∗ wp frame (wpE (defs₀ (F := F)) 𝒱₀ c none) Set.univ (k ⟨⟩) Q))
      ⊢ wp frame (wpE (defs₀ (F := F)) 𝒱₀ c none) Set.univ
      (Scf.Loop.for k1_t2_loop (k1_t2_ok i hc) ⟨⟩ (k1_t2_body (F := F) i arg1 harg1 (Memref.whole main_v44) (Memref.isWhole_whole _) (Memref.whole main_v45) (Memref.isWhole_whole _)
        (Memref.whole cc1_scratch0) (Memref.isWhole_whole _) (Memref.whole cc1_scratch1) (Memref.isWhole_whole _) cc1_scratch2 cc1_scratch3 cc1_scratch4 hc) >>= k) Q := by
  iintro ⟨Hl, Ho, Hs, Hd, Hk⟩
  imod (Transfers.batch_alloc' (Lvl := ℕ) (EC (F := F)) (c : Thread nD τ) () NR (delB c lab src g b) (sm := .dma cc1_scratch4.sem) (E := Set.univ)) $$ Hd with HB
  have htr : k1_t2_loop.trips = 1024 := (by decide)
  iapply (Scf.wp_for_bind frame (wpE (defs₀ (F := F)) 𝒱₀ c none) Set.univ k1_t2_loop.lb k1_t2_loop.ub k1_t2_loop.st _ _ _ (invB c arg1 lab src g f0 b)
    (fun kk acc => stepB c i b hb arg1 harg1 hc lab hlab src g f0 hg kk acc)) $$ [Hl Ho Hs HB]
  · unfold invB
    isplitl [Hl]; · iexact Hl
    isplitl [HB]; · iexact HB
    isplitl [Ho]; · iexact Ho
    rw [← st_rowsB]
    iexact Hs
  iintro %acc HI
  rw [show Scf.trips k1_t2_loop.lb k1_t2_loop.ub k1_t2_loop.st = 1024 from htr]
  unfold invB
  icases HI with ⟨Hl, HB, -, -⟩
  iapply Hk
  isplitl [Hl]; · iexact Hl
  iexact HB

end Cert.KernelIdeal.Gen

end
-- ==== Proof.ScatterMoves.lean ====
/- Region 1, the scatter: the transfer that brings a block in and its wait, and the wait that collects a block's rows.
-/
module

public import proofs.«01_k».proof.Proof.ScatterRows
public import proofs.«01_k».proof.Proof.Gen.KernelIdeal.Skeleton
public import proofs.«01_k».proof.Proof.Gen.KernelIdeal.Loops
public import Idealize.ShloMosaic.Lib.Batch
public import Idealize.ShloMosaic.Lib.Ring
public import Idealize.ShloMosaic.Lib.Transfers
public import Idealize.ShloMosaic.Lib.Tactic

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A block's credit. -/
abbrev N1 : ℕ := 376832

/-- Block `b` of the source, at offsets `o`. -/
def sBlk (o : Fin 3 → ℕ) (h : ∀ a, o a + S1024x1x2944.size a ≤ S8192x1x2944.size a) : Memref sig .tc .hbm S1024x1x2944 .f32 :=
  (Memref.whole main_v44 : Memref sig .tc .hbm S8192x1x2944 .f32).slice (Rect.unit (s := S8192x1x2944) o S1024x1x2944.size h) (fun _ => rfl)

theorem set_sBlk {o : Fin 3 → ℕ} {h : ∀ a, o a + S1024x1x2944.size a ≤ S8192x1x2944.size a} {b : ℕ} (ho : o = ![1024 * b, 0, 0]) : (sBlk o h).view.set = blkSet b := by
  subst ho
  refine (View.set_slice_whole _ _).trans ?_
  ext y
  rw [Rect.mem_set_unit, mem_blkSet]
  constructor
  · intro hy; exact hy 0
  · intro hy a
    match a with
    | ⟨0, _⟩ => exact hy
    | ⟨1, _⟩ => exact ⟨Nat.zero_le _, Nat.lt_of_lt_of_eq (y 1).isLt (Nat.zero_add _).symm⟩
    | ⟨2, _⟩ => exact ⟨Nat.zero_le _, Nat.lt_of_lt_of_eq (y 2).isLt (Nat.zero_add _).symm⟩

theorem read_sBlk {o : Fin 3 → ℕ} {h : ∀ a, o a + S1024x1x2944.size a ≤ S8192x1x2944.size a} (b : Fin 8) (ho : o = ![1024 * b.val, 0, 0])
    (src : S8192x1x2944.Idx → Elt F .f32) : (sBlk o h).view.read (Elt F) src = stOf src b := by
  subst ho
  funext z
  refine congrArg src ?_
  funext a
  match a with
  | ⟨0, _⟩ => apply Fin.ext; show 1024 * b.val + 1 * (z 0).val = 1024 * b.val + (z 0).val; omega
  | ⟨1, _⟩ => apply Fin.ext; show 0 + 1 * (z 1).val = (z 1).val; omega
  | ⟨2, _⟩ => apply Fin.ext; show 0 + 1 * (z 2).val = (z 2).val; omega

/-- The rows of blocks before `m` at their final contents, those of blocks from `n` on at their first. -/
def outSt (c : Dev nD) (lab : S8192.Idx → BitVec 32) (g f0 : S8192x1x2944.Idx → Elt F .f32) (m n : ℕ) : sProp 𝕄 :=
  iprop(bigSep (Ring.rangeSet 8192 0 (1024 * m)) (outRow c lab g) ∗ bigSep (Ring.rangeSet 8192 (1024 * n) 8192) (outRow c lab f0))

/-- The source less block `b`. -/
abbrev srcRest (c : Dev nD) (src : S8192x1x2944.Idx → Elt F .f32) (b : ℕ) : sProp 𝕄 :=
  ((c : Thread nD τ).loc main_v44) ↦[Finset.univ \ blkSet b]{fullShare} src

/-- The next block's rows are taken off those not yet written; -/
theorem outSt_take (c : Dev nD) (lab : S8192.Idx → BitVec 32) (g f0 : S8192x1x2944.Idx → Elt F .f32) (m : ℕ) (b : Fin 8) :
    outSt c lab g f0 m b.val ⊢ iprop(bigSep (Ring.rangeSet 8192 (1024 * b.val) (1024 * b.val + 1024)) (outRow c lab f0) ∗ outSt c lab g f0 m (b.val + 1)) := by
  have hb := b.isLt
  unfold outSt
  rw [Ring.bigSep_rangeSet_split (a := 1024 * b.val) (b := 1024 * b.val + 1024) (by omega) (by omega), show 1024 * (b.val + 1) = 1024 * b.val + 1024 by omega]
  iintro ⟨Hg, Hb, Hr⟩
  isplitl [Hb]; · iexact Hb
  isplitl [Hg]; · iexact Hg
  iexact Hr

/-- a block's rows written are put with those written before. -/
theorem outSt_put (c : Dev nD) (lab : S8192.Idx → BitVec 32) (g f0 : S8192x1x2944.Idx → Elt F .f32) (n : ℕ) (b : Fin 8) :
    iprop(bigSep (Ring.rangeSet 8192 (1024 * b.val) (1024 * b.val + 1024)) (outRow c lab g) ∗ outSt c lab g f0 b.val n) ⊢ outSt c lab g f0 (b.val + 1) n := by
  have hb := b.isLt
  unfold outSt
  rw [show 1024 * (b.val + 1) = 1024 * b.val + 1024 by omega, Ring.bigSep_rangeSet_split (a := 0) (b := 1024 * b.val) (d := 1024 * b.val + 1024) (by omega) (by omega)]
  iintro ⟨Hb, Hg, Hr⟩
  isplitl [Hb Hg]
  · isplitl [Hg]; · iexact Hg
    iexact Hb
  iexact Hr

/-- Block `b` on its way into stage A: what arrives is the stage at the block, and the block of the source back. -/
abbrev inA (c : Dev nD) (src : S8192x1x2944.Idx → Elt F .f32) (b : Fin 8) : sProp 𝕄 :=
  Transfers.Flight (EC (F := F)) (c : Thread nD τ) (.dma cc1_scratch2.sem) () N1
    iprop((((c : Thread nD τ).loc cc1_scratch0) ↦{fullShare} stOf src b) ∗ (((c : Thread nD τ).loc main_v44) ↦[blkSet b.val]{fullShare} src))

/-- The transfer that brings block `b` into stage A. -/
theorem startA (c : Dev nD) (b : Fin 8) {o : Fin 3 → ℕ} {h : ∀ a, o a + S1024x1x2944.size a ≤ S8192x1x2944.size a} (ho : o = ![1024 * b.val, 0, 0])
    (src : S8192x1x2944.Idx → Elt F .f32) (f : S1024x1x2944.Idx → Elt F .f32)
    {hw : (sBlk o h).view.WordExact} {hd : (Memref.whole cc1_scratch0 : Memref sig .tc .vmem S1024x1x2944 .f32).view.WordExact}
    {ht : (DmaTarget.here (Memref.whole cc1_scratch0) : DmaTarget nD τ sig .tc .vmem S1024x1x2944 .f32).Typed .hbm (.dma cc1_scratch2.sem)}
    (k : PUnit → Prog (TpuEff nD τ sig (Elt F) Λ₀ .tc) PUnit) (Q : PUnit → sProp 𝕄) :
    iprop((((c : Thread nD τ).loc main_v44) ↦{fullShare} src) ∗ (((c : Thread nD τ).loc cc1_scratch0) ↦{fullShare} f) ∗ semVal ((c : Thread nD τ), SemLoc.dma cc1_scratch2.sem) 0)
      ⊢ iprop((iprop(inA c src b ∗ srcRest c src b.val) -∗ wp frame (wpE (defs₀ (F := F)) 𝒱₀ c none) Set.univ (k ⟨⟩) Q)
        -∗ wp frame (wpE (defs₀ (F := F)) 𝒱₀ c none) Set.univ
          (.op (.enqueueDma (sBlk o h) (.here (Memref.whole cc1_scratch0)) (.dma cc1_scratch2.sem) hw hd ht) k) Q) := by
  rw [src_split c src b.val]
  iintro ⟨⟨Hb, Hr⟩, Hs, Hd⟩ Hk
  iapply (Transfers.wp_dmaLocal (EC (F := F)) 𝒱₀ (c : Thread nD τ) none (src := sBlk o h) (dst := Memref.whole cc1_scratch0)
    (q := fullShare) (fs := src) (Sd := Finset.univ) (fd := f) () N1 rfl (by decide) (Finset.subset_univ _)) $$ [Hb Hs Hd]
  · rw [set_sBlk ho]
    isplitl [Hb]; · iexact Hb
    isplitl [Hs]; · iexact Hs
    iexact Hd
  iintro HF
  iapply Hk
  isplitl [HF]
  · iapply (Transfers.Flight_mono (EC (F := F)) (c : Thread nD τ) ?_) $$ HF
    rw [set_sBlk ho]
    refine Laws.sep_mono (BIBase.Entails.of_eq ?_) (BIBase.Entails.of_eq rfl)
    refine pointsTo_congr fun y _ => ?_
    have e := congrFun (View.write_whole_univ (Val := Elt F) cc1_scratch0 f ((sBlk o h).view.read (Elt F) src)) y
    exact e.trans (congrFun (read_sBlk (h := h) b ho src) y)
  iexact Hr

/-- Its wait. -/
theorem arriveA (c : Dev nD) (b : Fin 8) (src : S8192x1x2944.Idx → Elt F .f32)
    {srcw : Memref sig .tc .hbm S1024x1x2944 .f32} {hw : srcw.view.WordExact} {hd : (Memref.whole cc1_scratch0 : Memref sig .tc .vmem S1024x1x2944 .f32).view.WordExact}
    (k : PUnit → Prog (TpuEff nD τ sig (Elt F) Λ₀ .tc) PUnit) (Q : PUnit → sProp 𝕄) :
    iprop(inA c src b ∗ srcRest c src b.val ∗ R c)
      ⊢ iprop((iprop((((c : Thread nD τ).loc cc1_scratch0) ↦{fullShare} stOf src b) ∗ (((c : Thread nD τ).loc main_v44) ↦{fullShare} src)
            ∗ semVal ((c : Thread nD τ), SemLoc.dma cc1_scratch2.sem) 0 ∗ R c) -∗ wp frame (wpE (defs₀ (F := F)) 𝒱₀ c none) Set.univ (k ⟨⟩) Q)
        -∗ wp frame (wpE (defs₀ (F := F)) 𝒱₀ c none) Set.univ
          (.op (.waitDma2 cc1_scratch2.sem srcw (Memref.whole cc1_scratch0 : Memref sig .tc .vmem S1024x1x2944 .f32) hw hd) k) Q) := by
  iintro ⟨HF, Hr, ⟨%W, HO⟩⟩ Hk
  iapply (Transfers.wp_waitLocal (EC (F := F)) 𝒱₀ (c : Thread nD τ) none () (N := N1) rfl) $$ [HF HO]
  · isplitl [HF]; · iexact HF
    iexact HO
  iintro ⟨⟨Hs, Hb⟩, Hd, HO⟩
  iapply Hk
  isplitl [Hs]; · iexact Hs
  isplitl [Hb Hr]
  · rw [src_split c src b.val]
    isplitl [Hb]; · iexact Hb
    iexact Hr
  isplitl [Hd]; · iexact Hd
  iexists _; iexact HO

/-- The wait that collects all of block `b`'s rows, sent out of stage A. -/
theorem drainA (c : Dev nD) (b : Fin 8) (lab : S8192.Idx → BitVec 32) (src g : S8192x1x2944.Idx → Elt F .f32)
    {srcw : Memref sig .tc .vmem S1024x1x2944 .f32} {dstw : Memref sig .tc .hbm S1024x1x2944 .f32} (hJ : dstw.view.dmaCredit = N1) {hw : srcw.view.WordExact} {hd : dstw.view.WordExact}
    (k : PUnit → Prog (TpuEff nD τ sig (Elt F) Λ₀ .tc) PUnit) (Q : PUnit → sProp 𝕄) :
    iprop(batA c lab src g b 1024 ∗ R c)
      ⊢ iprop((iprop(bigSep (Ring.rangeSet 8192 (1024 * b.val) (1024 * b.val + 1024)) (outRow c lab g) ∗ (((c : Thread nD τ).loc cc1_scratch0) ↦{fullShare} stOf src b)
            ∗ semVal ((c : Thread nD τ), SemLoc.dma cc1_scratch4.sem) 0 ∗ R c) -∗ wp frame (wpE (defs₀ (F := F)) 𝒱₀ c none) Set.univ (k ⟨⟩) Q)
        -∗ wp frame (wpE (defs₀ (F := F)) 𝒱₀ c none) Set.univ
          (.op (.waitDma2 cc1_scratch4.sem srcw dstw hw hd) k) Q) := by
  iintro ⟨HB, ⟨%W, HO⟩⟩ Hk
  iapply (Transfers.wp_waitBatchAll (EC (F := F)) 𝒱₀ (c : Thread nD τ) none () (N := NR) (J := N1) hJ (by decide) (D := delA c lab src g b) (u := 0) (by decide)) $$ [HB HO]
  · isplitl [HB]; · iexact HB
    iexact HO
  rw [del_allA]
  iintro ⟨⟨Hg, Hs⟩, Hd, HO⟩
  iapply Hk
  isplitl [Hg]; · iexact Hg
  isplitl [Hs]; · iexact Hs
  isplitl [Hd]; · iexact Hd
  iexists _; iexact HO

/-- Block `b` on its way into stage B: what arrives is the stage at the block, and the block of the source back. -/
abbrev inB (c : Dev nD) (src : S8192x1x2944.Idx → Elt F .f32) (b : Fin 8) : sProp 𝕄 :=
  Transfers.Flight (EC (F := F)) (c : Thread nD τ) (.dma cc1_scratch3.sem) () N1
    iprop((((c : Thread nD τ).loc cc1_scratch1) ↦{fullShare} stOf src b) ∗ (((c : Thread nD τ).loc main_v44) ↦[blkSet b.val]{fullShare} src))

/-- The transfer that brings block `b` into stage B. -/
theorem startB (c : Dev nD) (b : Fin 8) {o : Fin 3 → ℕ} {h : ∀ a, o a + S1024x1x2944.size a ≤ S8192x1x2944.size a} (ho : o = ![1024 * b.val, 0, 0])
    (src : S8192x1x2944.Idx → Elt F .f32) (f : S1024x1x2944.Idx → Elt F .f32)
    {hw : (sBlk o h).view.WordExact} {hd : (Memref.whole cc1_scratch1 : Memref sig .tc .vmem S1024x1x2944 .f32).view.WordExact}
    {ht : (DmaTarget.here (Memref.whole cc1_scratch1) : DmaTarget nD τ sig .tc .vmem S1024x1x2944 .f32).Typed .hbm (.dma cc1_scratch3.sem)}
    (k : PUnit → Prog (TpuEff nD τ sig (Elt F) Λ₀ .tc) PUnit) (Q : PUnit → sProp 𝕄) :
    iprop((((c : Thread nD τ).loc main_v44) ↦{fullShare} src) ∗ (((c : Thread nD τ).loc cc1_scratch1) ↦{fullShare} f) ∗ semVal ((c : Thread nD τ), SemLoc.dma cc1_scratch3.sem) 0)
      ⊢ iprop((iprop(inB c src b ∗ srcRest c src b.val) -∗ wp frame (wpE (defs₀ (F := F)) 𝒱₀ c none) Set.univ (k ⟨⟩) Q)
        -∗ wp frame (wpE (defs₀ (F := F)) 𝒱₀ c none) Set.univ
          (.op (.enqueueDma (sBlk o h) (.here (Memref.whole cc1_scratch1)) (.dma cc1_scratch3.sem) hw hd ht) k) Q) := by
  rw [src_split c src b.val]
  iintro ⟨⟨Hb, Hr⟩, Hs, Hd⟩ Hk
  iapply (Transfers.wp_dmaLocal (EC (F := F)) 𝒱₀ (c : Thread nD τ) none (src := sBlk o h) (dst := Memref.whole cc1_scratch1)
    (q := fullShare) (fs := src) (Sd := Finset.univ) (fd := f) () N1 rfl (by decide) (Finset.subset_univ _)) $$ [Hb Hs Hd]
  · rw [set_sBlk ho]
    isplitl [Hb]; · iexact Hb
    isplitl [Hs]; · iexact Hs
    iexact Hd
  iintro HF
  iapply Hk
  isplitl [HF]
  · iapply (Transfers.Flight_mono (EC (F := F)) (c : Thread nD τ) ?_) $$ HF
    rw [set_sBlk ho]
    refine Laws.sep_mono (BIBase.Entails.of_eq ?_) (BIBase.Entails.of_eq rfl)
    refine pointsTo_congr fun y _ => ?_
    have e := congrFun (View.write_whole_univ (Val := Elt F) cc1_scratch1 f ((sBlk o h).view.read (Elt F) src)) y
    exact e.trans (congrFun (read_sBlk (h := h) b ho src) y)
  iexact Hr

/-- Its wait. -/
theorem arriveB (c : Dev nD) (b : Fin 8) (src : S8192x1x2944.Idx → Elt F .f32)
    {srcw : Memref sig .tc .hbm S1024x1x2944 .f32} {hw : srcw.view.WordExact} {hd : (Memref.whole cc1_scratch1 : Memref sig .tc .vmem S1024x1x2944 .f32).view.WordExact}
    (k : PUnit → Prog (TpuEff nD τ sig (Elt F) Λ₀ .tc) PUnit) (Q : PUnit → sProp 𝕄) :
    iprop(inB c src b ∗ srcRest c src b.val ∗ R c)
      ⊢ iprop((iprop((((c : Thread nD τ).loc cc1_scratch1) ↦{fullShare} stOf src b) ∗ (((c : Thread nD τ).loc main_v44) ↦{fullShare} src)
            ∗ semVal ((c : Thread nD τ), SemLoc.dma cc1_scratch3.sem) 0 ∗ R c) -∗ wp frame (wpE (defs₀ (F := F)) 𝒱₀ c none) Set.univ (k ⟨⟩) Q)
        -∗ wp frame (wpE (defs₀ (F := F)) 𝒱₀ c none) Set.univ
          (.op (.waitDma2 cc1_scratch3.sem srcw (Memref.whole cc1_scratch1 : Memref sig .tc .vmem S1024x1x2944 .f32) hw hd) k) Q) := by
  iintro ⟨HF, Hr, ⟨%W, HO⟩⟩ Hk
  iapply (Transfers.wp_waitLocal (EC (F := F)) 𝒱₀ (c : Thread nD τ) none () (N := N1) rfl) $$ [HF HO]
  · isplitl [HF]; · iexact HF
    iexact HO
  iintro ⟨⟨Hs, Hb⟩, Hd, HO⟩
  iapply Hk
  isplitl [Hs]; · iexact Hs
  isplitl [Hb Hr]
  · rw [src_split c src b.val]
    isplitl [Hb]; · iexact Hb
    iexact Hr
  isplitl [Hd]; · iexact Hd
  iexists _; iexact HO

/-- The wait that collects all of block `b`'s rows, sent out of stage B. -/
theorem drainB (c : Dev nD) (b : Fin 8) (lab : S8192.Idx → BitVec 32) (src g : S8192x1x2944.Idx → Elt F .f32)
    {srcw : Memref sig .tc .vmem S1024x1x2944 .f32} {dstw : Memref sig .tc .hbm S1024x1x2944 .f32} (hJ : dstw.view.dmaCredit = N1) {hw : srcw.view.WordExact} {hd : dstw.view.WordExact}
    (k : PUnit → Prog (TpuEff nD τ sig (Elt F) Λ₀ .tc) PUnit) (Q : PUnit → sProp 𝕄) :
    iprop(batB c lab src g b 1024 ∗ R c)
      ⊢ iprop((iprop(bigSep (Ring.rangeSet 8192 (1024 * b.val) (1024 * b.val + 1024)) (outRow c lab g) ∗ (((c : Thread nD τ).loc cc1_scratch1) ↦{fullShare} stOf src b)
            ∗ semVal ((c : Thread nD τ), SemLoc.dma cc1_scratch4.sem) 0 ∗ R c) -∗ wp frame (wpE (defs₀ (F := F)) 𝒱₀ c none) Set.univ (k ⟨⟩) Q)
        -∗ wp frame (wpE (defs₀ (F := F)) 𝒱₀ c none) Set.univ
          (.op (.waitDma2 cc1_scratch4.sem srcw dstw hw hd) k) Q) := by
  iintro ⟨HB, ⟨%W, HO⟩⟩ Hk
  iapply (Transfers.wp_waitBatchAll (EC (F := F)) 𝒱₀ (c : Thread nD τ) none () (N := NR) (J := N1) hJ (by decide) (D := delB c lab src g b) (u := 0) (by decide)) $$ [HB HO]
  · isplitl [HB]; · iexact HB
    iexact HO
  rw [del_allB]
  iintro ⟨⟨Hg, Hs⟩, Hd, HO⟩
  iapply Hk
  isplitl [Hg]; · iexact Hg
  isplitl [Hs]; · iexact Hs
  isplitl [Hd]; · iexact Hd
  iexists _; iexact HO

end Cert.KernelIdeal.Gen

end
-- ==== Proof.ScatterBody.lean ====
/- Region 1, the scatter: the body at each kind of grid point — the first, one between on either stage, the last.
-/
module

public import proofs.«01_k».proof.Proof.ScatterMoves
public import proofs.«01_k».proof.Proof.Gen.KernelIdeal.Skeleton
public import proofs.«01_k».proof.Proof.Gen.KernelIdeal.Loops
public import Idealize.ShloMosaic.Lib.Batch
public import Idealize.ShloMosaic.Lib.Ring
public import Idealize.ShloMosaic.Lib.Transfers
public import Idealize.ShloMosaic.Lib.Tactic

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The guards that compare the grid coordinate itself: at the first point, after it, at the last. -/
abbrev isFirst (i : grid1.Coords) : Prop := Scalar.cmpi .ne (Scalar.extui (Scalar.cmpi .eq (BitVec.ofNat 32 (i 0).val) 0#32) : BitVec 32) 0#32 = 1#1
abbrev isLater (i : grid1.Coords) : Prop := Scalar.cmpi .ne (Scalar.extui (Scalar.cmpi .sge (BitVec.ofNat 32 (i 0).val) 1#32) : BitVec 32) 0#32 = 1#1
abbrev isLast (i : grid1.Coords) : Prop := Scalar.cmpi .ne (Scalar.extui (Scalar.cmpi .eq (BitVec.ofNat 32 (i 0).val) 7#32) : BitVec 32) 0#32 = 1#1

/-- All three semaphores and both stages idle. -/
def idle1 (c : Dev nD) : sProp 𝕄 :=
  iprop((∃ f, ((c : Thread nD τ).loc cc1_scratch0) ↦{fullShare} f) ∗ (∃ f, ((c : Thread nD τ).loc cc1_scratch1) ↦{fullShare} f)
    ∗ semVal ((c : Thread nD τ), SemLoc.dma cc1_scratch2.sem) 0 ∗ semVal ((c : Thread nD τ), SemLoc.dma cc1_scratch3.sem) 0
    ∗ semVal ((c : Thread nD τ), SemLoc.dma cc1_scratch4.sem) 0)

/-- Between points, before block `b` is awaited in stage A: the block on its way, the block before it (`p`) sent out
    of the other stage, its rows not yet collected. -/
def midA (c : Dev nD) (lab : S8192.Idx → BitVec 32) (src g f0 : S8192x1x2944.Idx → Elt F .f32) (p b : Fin 8) : sProp 𝕄 :=
  iprop(inA c src b ∗ srcRest c src b.val ∗ semVal ((c : Thread nD τ), SemLoc.dma cc1_scratch3.sem) 0
    ∗ batB c lab src g p 1024 ∗ outSt c lab g f0 p.val b.val)

/-- Between points, before block `b` is awaited in stage B: the block on its way, the block before it (`p`) sent out
    of the other stage, its rows not yet collected. -/
def midB (c : Dev nD) (lab : S8192.Idx → BitVec 32) (src g f0 : S8192x1x2944.Idx → Elt F .f32) (p b : Fin 8) : sProp 𝕄 :=
  iprop(inB c src b ∗ srcRest c src b.val ∗ semVal ((c : Thread nD τ), SemLoc.dma cc1_scratch2.sem) 0
    ∗ batA c lab src g p 1024 ∗ outSt c lab g f0 p.val b.val)

set_option maxHeartbeats 8000000 in
/-- A point between on stage A. -/
theorem bodyMidA (c : Dev nD) (i : grid1.Coords) (p b n : Fin 8) (hb : b.val = (i 0).val) (hp : p.val + 1 = b.val) (hn : n.val = b.val + 1)
    (arg1 : Memref sig .tc .smem S8192 .i32) (harg1 : arg1.IsWhole)
    (lab : S8192.Idx → BitVec 32) (hlab : LabOK lab) (src g f0 : S8192x1x2944.Idx → Elt F .f32) (hg : Scattered lab src g)
    (K : PUnit → sProp 𝕄)
    (h1 : ¬ isFirst i) (h2 : k1_cond2 i = 1#1) (h3 : isLater i) (h4 : k1_cond4 i = 1#1) (h5 : ¬ isLast i) (h6 : ¬ k1_cond6 i = 1#1) :
    iprop(owns (c : Thread nD τ) arg1 fullShare lab ∗ midA c lab src g f0 p b ∗ R c
        ∗ (iprop(owns (c : Thread nD τ) arg1 fullShare lab ∗ midB c lab src g f0 b n ∗ R c) -∗ K ⟨⟩))
      ⊢ wp frame (wpE (defs₀ (F := F)) 𝒱₀ c none) Set.univ (cc1__scatter_kernel (F := F) i arg1 harg1 (Memref.whole main_v44) (Memref.isWhole_whole _) (Memref.whole main_v45) (Memref.isWhole_whole _)
        (Memref.whole cc1_scratch0) (Memref.isWhole_whole _) (Memref.whole cc1_scratch1) (Memref.isWhole_whole _) cc1_scratch2 cc1_scratch3 cc1_scratch4) K := by
  simp only [cc1__scatter_kernel_eq_skeleton]; unfold cc1__scatter_kernel_skel
  dsimp only
  simp only [dif_neg h1, dif_pos h2, dif_pos h3, dif_pos h4, dif_neg h5, dif_neg h6]
  simp only [Prog.lift, Prog.bind_op, Prog.bind_ret, Prog.pure_eq_ret, Prog.bind_assoc]
  unfold midA
  iintro ⟨Hl, ⟨HI, Hr, HsB, HB, Ho⟩, HO, Hk⟩
  iapply (arriveA c b src) $$ [HI Hr HO]
  · isplitl [HI]; · iexact HI
    isplitl [Hr]; · iexact Hr
    iexact HO
  iintro ⟨HA, Hsrc, HsA, HO⟩
  iapply (drainB c p lab src g rfl) $$ [HB HO]
  · isplitl [HB]; · iexact HB
    iexact HO
  iintro ⟨Hg, HS, Hd, HO⟩
  iapply (startB c n (o := k1_off2 i) (h := k1_off2_inb i h2 h4) (by rw [k1_off2_eq, ← hb, hn]; rfl) src (stOf src p)) $$ [Hsrc HS HsB]
  · isplitl [Hsrc]; · iexact Hsrc
    isplitl [HS]; · iexact HS
    iexact HsB
  iintro ⟨HI, Hr⟩
  ihave Ho := (outSt_put c lab g f0 b.val p) $$ [Hg Ho]
  · isplitl [Hg]; · iexact Hg
    iexact Ho
  ihave Ho := (outSt_take c lab g f0 (p.val + 1) b) $$ Ho
  icases Ho with ⟨Hb, Ho⟩
  iapply (loopA c i b hb arg1 harg1 h2 lab hlab src g f0 hg)
  isplitl [Hl]; · iexact Hl
  isplitl [Hb]; · iexact Hb
  isplitl [HA]; · iexact HA
  isplitl [Hd]; · iexact Hd
  iintro ⟨Hl, HB⟩
  sl_step
  iapply Hk
  isplitl [Hl]; · iexact Hl
  isplitr [HO]
  · unfold midB
    isplitl [HI]; · iexact HI
    isplitl [Hr]; · iexact Hr
    isplitl [HsA]; · iexact HsA
    isplitl [HB]; · iexact HB
    rw [← hn, hp]
    iexact Ho
  iexact HO

set_option maxHeartbeats 8000000 in
/-- A point between on stage B. -/
theorem bodyMidB (c : Dev nD) (i : grid1.Coords) (p b n : Fin 8) (hb : b.val = (i 0).val) (hp : p.val + 1 = b.val) (hn : n.val = b.val + 1)
    (arg1 : Memref sig .tc .smem S8192 .i32) (harg1 : arg1.IsWhole)
    (lab : S8192.Idx → BitVec 32) (hlab : LabOK lab) (src g f0 : S8192x1x2944.Idx → Elt F .f32) (hg : Scattered lab src g)
    (K : PUnit → sProp 𝕄)
    (h1 : ¬ isFirst i) (h6 : k1_cond6 i = 1#1) (h7 : isLater i) (h8 : k1_cond8 i = 1#1) (h9 : ¬ isLast i) (h2 : ¬ k1_cond2 i = 1#1) :
    iprop(owns (c : Thread nD τ) arg1 fullShare lab ∗ midB c lab src g f0 p b ∗ R c
        ∗ (iprop(owns (c : Thread nD τ) arg1 fullShare lab ∗ midA c lab src g f0 b n ∗ R c) -∗ K ⟨⟩))
      ⊢ wp frame (wpE (defs₀ (F := F)) 𝒱₀ c none) Set.univ (cc1__scatter_kernel (F := F) i arg1 harg1 (Memref.whole main_v44) (Memref.isWhole_whole _) (Memref.whole main_v45) (Memref.isWhole_whole _)
        (Memref.whole cc1_scratch0) (Memref.isWhole_whole _) (Memref.whole cc1_scratch1) (Memref.isWhole_whole _) cc1_scratch2 cc1_scratch3 cc1_scratch4) K := by
  simp only [cc1__scatter_kernel_eq_skeleton]; unfold cc1__scatter_kernel_skel
  dsimp only
  simp only [dif_neg h1, dif_pos h6, dif_pos h7, dif_pos h8, dif_neg h9, dif_neg h2]
  simp only [Prog.lift, Prog.bind_op, Prog.bind_ret, Prog.pure_eq_ret, Prog.bind_assoc]
  unfold midB
  iintro ⟨Hl, ⟨HI, Hr, HsB, HB, Ho⟩, HO, Hk⟩
  iapply (arriveB c b src) $$ [HI Hr HO]
  · isplitl [HI]; · iexact HI
    isplitl [Hr]; · iexact Hr
    iexact HO
  iintro ⟨HA, Hsrc, HsA, HO⟩
  iapply (drainA c p lab src g rfl) $$ [HB HO]
  · isplitl [HB]; · iexact HB
    iexact HO
  iintro ⟨Hg, HS, Hd, HO⟩
  iapply (startA c n (o := k1_off7 i) (h := k1_off7_inb i h6 h8) (by rw [k1_off7_eq, ← hb, hn]; rfl) src (stOf src p)) $$ [Hsrc HS HsB]
  · isplitl [Hsrc]; · iexact Hsrc
    isplitl [HS]; · iexact HS
    iexact HsB
  iintro ⟨HI, Hr⟩
  ihave Ho := (outSt_put c lab g f0 b.val p) $$ [Hg Ho]
  · isplitl [Hg]; · iexact Hg
    iexact Ho
  ihave Ho := (outSt_take c lab g f0 (p.val + 1) b) $$ Ho
  icases Ho with ⟨Hb, Ho⟩
  iapply (loopB c i b hb arg1 harg1 h6 lab hlab src g f0 hg)
  isplitl [Hl]; · iexact Hl
  isplitl [Hb]; · iexact Hb
  isplitl [HA]; · iexact HA
  isplitl [Hd]; · iexact Hd
  iintro ⟨Hl, HB⟩
  sl_step
  iapply Hk
  isplitl [Hl]; · iexact Hl
  isplitr [HO]
  · unfold midA
    isplitl [HI]; · iexact HI
    isplitl [Hr]; · iexact Hr
    isplitl [HsA]; · iexact HsA
    isplitl [HB]; · iexact HB
    rw [← hn, hp]
    iexact Ho
  iexact HO

set_option maxHeartbeats 8000000 in
/-- The first point. -/
theorem bodyFirst (c : Dev nD) (i : grid1.Coords) (b n : Fin 8) (hb : b.val = (i 0).val) (hb0 : b.val = 0) (hn : n.val = b.val + 1)
    (arg1 : Memref sig .tc .smem S8192 .i32) (harg1 : arg1.IsWhole)
    (lab : S8192.Idx → BitVec 32) (hlab : LabOK lab) (src g f0 : S8192x1x2944.Idx → Elt F .f32) (hg : Scattered lab src g)
    (K : PUnit → sProp 𝕄)
    (h1 : isFirst i) (h2 : k1_cond2 i = 1#1) (h3 : ¬ isLater i) (h4 : k1_cond4 i = 1#1) (h5 : ¬ isLast i) (h6 : ¬ k1_cond6 i = 1#1) :
    iprop(owns (c : Thread nD τ) arg1 fullShare lab ∗ (idle1 c ∗ (((c : Thread nD τ).loc main_v44) ↦{fullShare} src) ∗ (((c : Thread nD τ).loc main_v45) ↦{fullShare} f0)) ∗ R c
        ∗ (iprop(owns (c : Thread nD τ) arg1 fullShare lab ∗ midB c lab src g f0 b n ∗ R c) -∗ K ⟨⟩))
      ⊢ wp frame (wpE (defs₀ (F := F)) 𝒱₀ c none) Set.univ (cc1__scatter_kernel (F := F) i arg1 harg1 (Memref.whole main_v44) (Memref.isWhole_whole _) (Memref.whole main_v45) (Memref.isWhole_whole _)
        (Memref.whole cc1_scratch0) (Memref.isWhole_whole _) (Memref.whole cc1_scratch1) (Memref.isWhole_whole _) cc1_scratch2 cc1_scratch3 cc1_scratch4) K := by
  simp only [cc1__scatter_kernel_eq_skeleton]; unfold cc1__scatter_kernel_skel
  dsimp only
  simp only [dif_pos h1, dif_pos h2, dif_neg h3, dif_pos h4, dif_neg h5, dif_neg h6]
  simp only [Prog.lift, Prog.bind_op, Prog.bind_ret, Prog.pure_eq_ret, Prog.bind_assoc]
  unfold idle1
  rw [out_rows c hlab f0]
  iintro ⟨Hl, ⟨⟨⟨%fA, HA⟩, ⟨%fB, HS⟩, HsA, HsB, Hd⟩, Hsrc, Ho⟩, HO, Hk⟩
  iapply (startA c b (o := ![0, 0, 0]) (h := inb_S8192x1x2944_S1024x1x2944_0_0_0) (by rw [hb0]) src fA) $$ [Hsrc HA HsA]
  · isplitl [Hsrc]; · iexact Hsrc
    isplitl [HA]; · iexact HA
    iexact HsA
  iintro ⟨HI, Hr⟩
  iapply (arriveA c b src) $$ [HI Hr HO]
  · isplitl [HI]; · iexact HI
    isplitl [Hr]; · iexact Hr
    iexact HO
  iintro ⟨HA, Hsrc, HsA, HO⟩
  iapply (startB c n (o := k1_off2 i) (h := k1_off2_inb i h2 h4) (by rw [k1_off2_eq, ← hb, hn]; rfl) src fB) $$ [Hsrc HS HsB]
  · isplitl [Hsrc]; · iexact Hsrc
    isplitl [HS]; · iexact HS
    iexact HsB
  iintro ⟨HI, Hr⟩
  ihave Ho := (show bigSep (Ring.rangeSet 8192 0 8192) (outRow c lab f0) ⊢ outSt c lab g f0 b.val b.val from by
    unfold outSt
    rw [hb0, Ring.bigSep_rangeSet_empty (lo := 0) (hi := 1024 * 0) (by decide)]
    iintro H; isplitr; · iempintro
    iexact H) $$ Ho
  ihave Ho := (outSt_take c lab g f0 b.val b) $$ Ho
  icases Ho with ⟨Hb, Ho⟩
  iapply (loopA c i b hb arg1 harg1 h2 lab hlab src g f0 hg)
  isplitl [Hl]; · iexact Hl
  isplitl [Hb]; · iexact Hb
  isplitl [HA]; · iexact HA
  isplitl [Hd]; · iexact Hd
  iintro ⟨Hl, HB⟩
  sl_step
  iapply Hk
  isplitl [Hl]; · iexact Hl
  isplitr [HO]
  · unfold midB
    isplitl [HI]; · iexact HI
    isplitl [Hr]; · iexact Hr
    isplitl [HsA]; · iexact HsA
    isplitl [HB]; · iexact HB
    rw [← hn]
    iexact Ho
  iexact HO

set_option maxHeartbeats 8000000 in
/-- The last point. -/
theorem bodyLast (c : Dev nD) (i : grid1.Coords) (p b : Fin 8) (hb : b.val = (i 0).val) (hp : p.val + 1 = b.val) (hb7 : b.val = 7)
    (arg1 : Memref sig .tc .smem S8192 .i32) (harg1 : arg1.IsWhole)
    (lab : S8192.Idx → BitVec 32) (hlab : LabOK lab) (src g f0 : S8192x1x2944.Idx → Elt F .f32) (hg : Scattered lab src g)
    (K : PUnit → sProp 𝕄)
    (h1 : ¬ isFirst i) (h2 : ¬ k1_cond2 i = 1#1) (h6 : k1_cond6 i = 1#1) (h7 : isLater i) (h8 : ¬ k1_cond8 i = 1#1) (h9 : isLast i) :
    iprop(owns (c : Thread nD τ) arg1 fullShare lab ∗ midB c lab src g f0 p b ∗ R c
        ∗ (iprop(owns (c : Thread nD τ) arg1 fullShare lab ∗ (idle1 c ∗ (((c : Thread nD τ).loc main_v44) ↦{fullShare} src) ∗ (((c : Thread nD τ).loc main_v45) ↦{fullShare} g)) ∗ R c) -∗ K ⟨⟩))
      ⊢ wp frame (wpE (defs₀ (F := F)) 𝒱₀ c none) Set.univ (cc1__scatter_kernel (F := F) i arg1 harg1 (Memref.whole main_v44) (Memref.isWhole_whole _) (Memref.whole main_v45) (Memref.isWhole_whole _)
        (Memref.whole cc1_scratch0) (Memref.isWhole_whole _) (Memref.whole cc1_scratch1) (Memref.isWhole_whole _) cc1_scratch2 cc1_scratch3 cc1_scratch4) K := by
  simp only [cc1__scatter_kernel_eq_skeleton]; unfold cc1__scatter_kernel_skel
  dsimp only
  simp only [dif_neg h1, dif_neg h2, dif_pos h6, dif_pos h7, dif_neg h8, dif_pos h9]
  simp only [Prog.lift, Prog.bind_op, Prog.bind_ret, Prog.pure_eq_ret, Prog.bind_assoc]
  unfold midB
  iintro ⟨Hl, ⟨HI, Hr, HsA, HB, Ho⟩, HO, Hk⟩
  iapply (arriveB c b src) $$ [HI Hr HO]
  · isplitl [HI]; · iexact HI
    isplitl [Hr]; · iexact Hr
    iexact HO
  iintro ⟨HS, Hsrc, HsB, HO⟩
  iapply (drainA c p lab src g rfl) $$ [HB HO]
  · isplitl [HB]; · iexact HB
    iexact HO
  iintro ⟨Hg, HA, Hd, HO⟩
  ihave Ho := (outSt_put c lab g f0 b.val p) $$ [Hg Ho]
  · isplitl [Hg]; · iexact Hg
    iexact Ho
  ihave Ho := (outSt_take c lab g f0 (p.val + 1) b) $$ Ho
  icases Ho with ⟨Hb, Ho⟩
  iapply (loopB c i b hb arg1 harg1 h6 lab hlab src g f0 hg)
  isplitl [Hl]; · iexact Hl
  isplitl [Hb]; · iexact Hb
  isplitl [HS]; · iexact HS
  isplitl [Hd]; · iexact Hd
  iintro ⟨Hl, HB⟩
  iapply (drainB c b lab src g rfl) $$ [HB HO]
  · isplitl [HB]; · iexact HB
    iexact HO
  iintro ⟨Hg, HS, Hd, HO⟩
  rw [hp]
  ihave Ho := (outSt_put c lab g f0 (b.val + 1) b) $$ [Hg Ho]
  · isplitl [Hg]; · iexact Hg
    iexact Ho
  sl_step
  iapply Hk
  isplitl [Hl]; · iexact Hl
  isplitr [HO]
  · isplitl [HA HS HsA HsB Hd]
    · unfold idle1
      isplitl [HA]; · iexists _; iexact HA
      isplitl [HS]; · iexists _; iexact HS
      isplitl [HsA]; · iexact HsA
      isplitl [HsB]; · iexact HsB
      iexact Hd
    isplitl [Hsrc]; · iexact Hsrc
    rw [out_rows c hlab g]
    unfold outSt
    rw [hb7, Ring.bigSep_rangeSet_empty (lo := 1024 * (7 + 1)) (by decide)]
    icases Ho with ⟨Hg, -⟩
    iexact Hg
  iexact HO

end Cert.KernelIdeal.Gen

end
-- ==== Proof.Scatter.lean ====
/- Region 1, the scatter: the array it leaves, the invariant between its points, and the pipeline's proof data with the
   body obligation.
-/
module

public import proofs.«01_k».proof.Proof.ScatterBody
public import proofs.«01_k».proof.Proof.Gen.KernelIdeal.Skeleton
public import proofs.«01_k».proof.Proof.Gen.KernelIdeal.Loops
public import Idealize.ShloMosaic.Lib.Batch
public import Idealize.ShloMosaic.Lib.Ring
public import Idealize.ShloMosaic.Lib.Transfers
public import Idealize.ShloMosaic.Lib.Tactic

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals (F := F))

/-- What the region leaves: at each row, the source row whose label it is. -/
def scat (lab : S8192.Idx → BitVec 32) (src : S8192x1x2944.Idx → Elt F .f32) : S8192x1x2944.Idx → Elt F .f32 := by
  classical
  exact fun y => if h : ∃ j : Fin 8192, (y 0).val = tgt lab j then
      src (fun a => match a with
        | ⟨0, _⟩ => (h.choose : Fin 8192)
        | ⟨1, _⟩ => y 1
        | ⟨2, _⟩ => y 2)
    else src y

theorem scat_scattered {lab : S8192.Idx → BitVec 32} (hlab : LabOK lab) (src : S8192x1x2944.Idx → Elt F .f32) : Scattered lab src (scat lab src) := by
  intro j y hy
  have h : ∃ j : Fin 8192, (y 0).val = tgt lab j := ⟨j, hy⟩
  have e : h.choose = j := hlab.inj _ _ (h.choose_spec.symm.trans hy)
  unfold scat
  rw [dif_pos h, e]
  refine congrArg src (funext fun a => ?_)
  match a with
  | ⟨0, _⟩ => rfl
  | ⟨1, _⟩ => rfl
  | ⟨2, _⟩ => rfl

/-! ## The invariant -/

/-- Between points `t - 1` and `t`. -/
def phi1 (c : Dev nD) (lab : S8192.Idx → BitVec 32) (src f0 : S8192x1x2944.Idx → Elt F .f32) (t : ℕ) : sProp 𝕄 :=
  if t = 0 then iprop(idle1 c ∗ (((c : Thread nD τ).loc main_v44) ↦{fullShare} src) ∗ (((c : Thread nD τ).loc main_v45) ↦{fullShare} f0))
  else if t = 8 then iprop(idle1 c ∗ (((c : Thread nD τ).loc main_v44) ↦{fullShare} src) ∗ (((c : Thread nD τ).loc main_v45) ↦{fullShare} scat lab src))
  else if t % 2 = 0 then midA c lab src (scat lab src) f0 (Fin.ofNat 8 (t - 1)) (Fin.ofNat 8 t)
  else midB c lab src (scat lab src) f0 (Fin.ofNat 8 (t - 1)) (Fin.ofNat 8 t)

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The labels as the region finds them, the source and the result. -/
abbrev labV (c : Dev nD) : S8192.Idx → BitVec 32 := V c main_v42
abbrev srcV (c : Dev nD) : S8192x1x2944.Idx → Elt F .f32 := V c main_v44
abbrev resV (c : Dev nD) : S8192x1x2944.Idx → Elt F .f32 := V c main_v45

/-- The window is the whole list of labels at every point. -/
theorem iblk1_eq (c : Dev nD) (t : Fin cfg1.N) : iblk1 V c 0 t = labV V c := by
  funext x
  refine congrArg (V c main_v42) ?_
  funext a
  have : a = (0 : Fin 1) := Subsingleton.elim (α := Fin 1) _ _
  subst this
  apply Fin.ext
  rcases fin_N1 t with rfl | rfl | rfl | rfl | rfl | rfl | rfl | rfl <;> show 0 + 1 * (x 0).val = (x 0).val <;> omega

/-- The proof data of region 1 on core `c`. -/
def dat1 (c : Dev nD) : Dat τ (Elt F) Unit ℕ UU ℕ cfg1 c where
  A w := V c (Pipeline.arrRef spec1 w)
  after w t := match w with
    | ⟨0, _⟩ => iblk1 V c 0 t
  Φ t := iprop(phi1 c (labV V c) (srcV V c) (resV V c) t.val ∗ Pipeline.scopedRestBut spec1 c [cc1_scratch0, cc1_scratch1])
  q _ := fullShare
  owed _ := 0

theorem A1_eq (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]

/-- The window's buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)

/-! ## The body obligation -/

/-- What the body is called with at point `t`, -/
def bodyPre1 (c : Dev nD) (t : Fin cfg1.N) : sProp 𝕄 :=
  iprop((dat1 V c).Φ t.castSucc ∗ (dat1 V c).owesAt () t.castSucc ∗ (∃ d, owns (c : Thread nD τ) (st1_0 t) fullShare ((dat1 V c).before 0 t d)))

/-- and what it returns. -/
def bodyPost1 (c : Dev nD) (t : Fin cfg1.N) : sProp 𝕄 :=
  iprop((dat1 V c).Φ t.succ ∗ (dat1 V c).owesAt () t.succ ∗ owns (c : Thread nD τ) (st1_0 t) fullShare ((dat1 V c).after 0 t))

/-- The core owes nothing, as the pipeline says it and plainly. -/
theorem owes1_out (c : Dev nD) (t : Fin (cfg1.N + 1)) : (dat1 V c).owesAt () t ⊢ R c := by
  unfold Pipeline.Dat.owesAt Pipeline.owesWithin
  rw [show (dat1 V c).owed t = 0 from rfl]
  iintro ⟨%W, -, HO⟩; iexists W; iexact HO

theorem owes1_in (c : Dev nD) (t : Fin (cfg1.N + 1)) : R c ⊢ (dat1 V c).owesAt () t := by
  unfold Pipeline.Dat.owesAt Pipeline.owesWithin
  rw [show (dat1 V c).owed t = 0 from rfl]
  iintro ⟨%W, HO⟩; iexists W; isplitr; · ipureintro; exact fun _ _ => Or.inl trivial
  iexact HO

/-- A point whose body is known to take the invariant before it to the invariant after it. -/
theorem point1 (c : Dev nD) (t : Fin cfg1.N)
    (h : ∀ K : PUnit → sProp 𝕄, iprop(owns (c : Thread nD τ) (st1_0 t) fullShare (labV V c) ∗ phi1 c (labV V c) (srcV V c) (resV V c) t.val ∗ R c
        ∗ (iprop(owns (c : Thread nD τ) (st1_0 t) fullShare (labV V c) ∗ phi1 c (labV V c) (srcV V c) (resV V c) (t.val + 1) ∗ R c) -∗ K ⟨⟩))
      ⊢ wp frame (wpE (defs₀ (F := F)) 𝒱₀ c none) Set.univ (bodyAt1 t) K) :
    bodyPre1 V c t ⊢ wp frame (wpE (defs₀ (F := F)) 𝒱₀ c none) Set.univ (bodyAt1 t) (fun _ => bodyPost1 V c t) := by
  unfold bodyPre1 bodyPost1
  simp only [before1_0, after1_0, iblk1_eq]
  rw [show (dat1 V c).Φ t.castSucc = iprop(phi1 c (labV V c) (srcV V c) (resV V c) t.val ∗ Pipeline.scopedRestBut spec1 c [cc1_scratch0, cc1_scratch1]) from rfl,
    show (dat1 V c).Φ t.succ = iprop(phi1 c (labV V c) (srcV V c) (resV V c) (t.val + 1) ∗ Pipeline.scopedRestBut spec1 c [cc1_scratch0, cc1_scratch1]) from rfl]
  iintro ⟨⟨HΦ, Hrest⟩, Ho, ⟨%d, Hl⟩⟩
  iapply (h _)
  isplitl [Hl]; · iexact Hl
  isplitl [HΦ]; · iexact HΦ
  isplitl [Ho]; · iapply (owes1_out V c t.castSucc) $$ Ho
  iintro ⟨Hl, HΦ, Ho⟩
  isplitl [HΦ Hrest]
  · isplitl [HΦ]; · iexact HΦ
    iexact Hrest
  isplitl [Ho]; · iapply (owes1_in V c t.succ) $$ Ho
  iexact Hl

set_option maxHeartbeats 1000000 in
/-- The body at every point. -/
theorem sound_body1 (c : Dev nD) (hlab : LabOK (labV V c)) (t : Fin cfg1.N) :
    bodyPre1 V c t ⊢ wp frame (wpE (defs₀ (F := F)) 𝒱₀ c none) Set.univ (bodyAt1 t) (fun _ => bodyPost1 V c t) := by
  refine point1 V c t fun K => ?_
  have hs := scat_scattered hlab (srcV V c)
  unfold bodyAt1
  rcases fin_N1 t with rfl | rfl | rfl | rfl | rfl | rfl | rfl | rfl
  · exact bodyFirst c (grid1.coords t1_0) 0 1 (by decide +kernel) (by decide) (by decide) _ _ (labV V c) hlab (srcV V c) (scat (labV V c) (srcV V c)) (resV V c) hs K
      (by decide +kernel) (by decide +kernel) (by decide +kernel) (by decide +kernel) (by decide +kernel) (by decide +kernel)
  · exact bodyMidB c (grid1.coords t1_1) 0 1 2 (by decide +kernel) (by decide) (by decide) _ _ (labV V c) hlab (srcV V c) (scat (labV V c) (srcV V c)) (resV V c) hs K
      (by decide +kernel) (by decide +kernel) (by decide +kernel) (by decide +kernel) (by decide +kernel) (by decide +kernel)
  · exact bodyMidA c (grid1.coords t1_2) 1 2 3 (by decide +kernel) (by decide) (by decide) _ _ (labV V c) hlab (srcV V c) (scat (labV V c) (srcV V c)) (resV V c) hs K
      (by decide +kernel) (by decide +kernel) (by decide +kernel) (by decide +kernel) (by decide +kernel) (by decide +kernel)
  · exact bodyMidB c (grid1.coords t1_3) 2 3 4 (by decide +kernel) (by decide) (by decide) _ _ (labV V c) hlab (srcV V c) (scat (labV V c) (srcV V c)) (resV V c) hs K
      (by decide +kernel) (by decide +kernel) (by decide +kernel) (by decide +kernel) (by decide +kernel) (by decide +kernel)
  · exact bodyMidA c (grid1.coords t1_4) 3 4 5 (by decide +kernel) (by decide) (by decide) _ _ (labV V c) hlab (srcV V c) (scat (labV V c) (srcV V c)) (resV V c) hs K
      (by decide +kernel) (by decide +kernel) (by decide +kernel) (by decide +kernel) (by decide +kernel) (by decide +kernel)
  · exact bodyMidB c (grid1.coords t1_5) 4 5 6 (by decide +kernel) (by decide) (by decide) _ _ (labV V c) hlab (srcV V c) (scat (labV V c) (srcV V c)) (resV V c) hs K
      (by decide +kernel) (by decide +kernel) (by decide +kernel) (by decide +kernel) (by decide +kernel) (by decide +kernel)
  · exact bodyMidA c (grid1.coords t1_6) 5 6 7 (by decide +kernel) (by decide) (by decide) _ _ (labV V c) hlab (srcV V c) (scat (labV V c) (srcV V c)) (resV V c) hs K
      (by decide +kernel) (by decide +kernel) (by decide +kernel) (by decide +kernel) (by decide +kernel) (by decide +kernel)
  · exact bodyLast c (grid1.coords t1_7) 6 7 (by decide +kernel) (by decide) (by decide) _ _ (labV V c) hlab (srcV V c) (scat (labV V c) (srcV V c)) (resV V c) hs K
      (by decide +kernel) (by decide +kernel) (by decide +kernel) (by decide +kernel) (by decide +kernel) (by decide +kernel)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) (hlab : LabOK (labV V c)) : BodyObligation (dat1 (F := F) V c) (defs₀ (F := F)) 𝒱₀ () Set.univ := fun t => by
  rw [bigSep_W1, bigSep_W1, defs₀_row1]
  exact triple_restated (sound_body1 V c hlab t) rfl .rfl fun _ => .rfl

end Cert.KernelIdeal.Gen

end
-- ==== Proof.Run.lean ====
/- The three regions as segments of @main over every unscoped buffer, and the run of @main: what the result holds at the
   end, the arguments as launched, every counter at zero — given that the labels name each row once.
-/
module

public import proofs.«01_k».proof.Proof.Product
public import proofs.«01_k».proof.Proof.PhaseA
public import proofs.«01_k».proof.Proof.Scatter

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Records

variable (Va Vb Vc Vp : Vals (F := F))

/-- The three regions' proof data, each from the buffers it is entered with. -/
def pdats : (p : Fin 3) → (c : Dev nD) → Dat τ (Elt F) Unit ℕ UU ℕ (cfgs p) c
  | ⟨0, _⟩ => dat0 Va
  | ⟨1, _⟩ => dat1 Vb
  | ⟨2, _⟩ => dat2 Vc

/-- A valuation as the pipeline library takes it. -/
abbrev onRefs (V : Vals (F := F)) (c : Dev nD) (b : Ref sig .tc) : Buf (Elt F) ((c : Thread nD τ).loc b) := V c b

theorem in0_in : ∀ w : Fin 12, ¬w = 11 → (cfg0.win w).isOut = false := by decide
theorem in0_ne : ∀ w : Fin 12, ¬w = 11 → Pipeline.arrRef spec0 w ≠ main_v43 := by decide

set_option maxRecDepth 4000 in
set_option backward.isDefEq.respectTransparency.types false in
/-- Region 0: its windows' arrays into the pipeline, every other buffer past it; left with the result's array at its final contents. -/
def reg0 (hout : ∀ c, Vp c main_v43 = (dat0 Va c).arrAt 11 cfg0.N) (hne : ∀ c (b : Ref sig .tc), b ≠ main_v43 → Vp c b = Va c b) :
    Pipeline.RegionSeg (pcfgs (F := F)) adm (pdats Va Vb Vc) () defs₀ 𝒱₀ L lv 0 where
  win := (launch0).win.to₀
  block_pos := (launch0).block_pos
  stage_whole := (launch0).stage_whole
  K := PEmpty
  osem k := k.elim
  ho := Pipeline.OwnSemFacts.none _
  hbody c := (body_obligation0 Va c).loose
  hwaits := Pipeline.hwaits_of_owed_zero _ _ _ _ L lv 0 fun _ _ => rfl
  pre c := iprop(StableHlo.held (c : Thread nD τ) (Pipeline.ucRefs τ sig) (Va c) ∗ R c)
  post c := iprop(StableHlo.held (c : Thread nD τ) (Pipeline.ucRefs τ sig) (Vp c) ∗ R c)
  X _ := BI.emp
  Y _ := BI.emp
  Z c := Pipeline.unscopedRest (Ix := Unit) (Name := ℕ) (U := UU) (Lvl := ℕ) spec0 c (onRefs Va c)
  hentry c := by
    rw [show StableHlo.held (c : Thread nD τ) (Pipeline.ucRefs τ sig) (Va c) = (unscopedBufs c (onRefs Va c) : sProp 𝕄) from (Pipeline.unscopedBufs_held c _).symm,
      Pipeline.ownSems0_none]
    have hsplit := Pipeline.arrays_of_unscopedBufs (p := 0) (pcfgs (F := F)) adm (pdats Va Vb Vc) (launch0).win (launch0).arr_whole c
      ((pdats Va Vb Vc 0 c).share_full fun _ => rfl) (onRefs Va c) (A0_eq Va c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Va Vb Vc 0 c).Φ 0 = Pipeline.scopedRest spec0 c from rfl]
    iintro ⟨-, -, Hr⟩; iexact Hr
  hout c := by
    rw [Pipeline.ownSems0_none, show (pdats Va Vb Vc 0 c).Φ (Fin.last _) = Pipeline.scopedRest spec0 c from rfl]
    iintro Hr
    isplitr; · iempintro
    isplitr; · iempintro
    iexact Hr
  hexit c := by
    rw [show StableHlo.held (c : Thread nD τ) (Pipeline.ucRefs τ sig) (Vp c) = (unscopedBufs c (onRefs Vp c) : sProp 𝕄) from (Pipeline.unscopedBufs_held c _).symm]
    have hjoin := Pipeline.unscopedBufs_of_arrays (p := 0) (pcfgs (F := F)) adm (Ix := Unit) (Name := ℕ) (U := UU) (Lvl := ℕ) (launch0).win (launch0).arr_whole c
      (pdats Va Vb Vc) ((pdats Va Vb Vc 0 c).share_full fun _ => rfl) (onRefs Va c) (onRefs Vp c) ((pdats Va Vb Vc 0 c).arrAt · cfg0.N)
      (fun w => by
        by_cases hw : w = (11 : Fin 12)
        · subst hw; exact (hout c).symm
        · refine ((dat0 Va c).arrAt_in w ?_ _).trans ((A0_eq Va c w).trans (hne c _ ?_).symm)
          · exact in0_in w hw
          · exact in0_ne w hw)
      (fun b hb => hne c b fun h => hb (h ▸ Finset.mem_image.mpr ⟨(11 : Fin 12), Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

theorem in2_in : ∀ w : Fin 3, ¬w = 2 → (cfg2.win w).isOut = false := by decide
theorem in2_ne : ∀ w : Fin 3, ¬w = 2 → Pipeline.arrRef spec2 w ≠ main_v48 := by decide

set_option maxRecDepth 4000 in
set_option backward.isDefEq.respectTransparency.types false in
/-- Region 2, likewise. -/
def reg2 (hout : ∀ c, Vp c main_v48 = (dat2 Vc c).arrAt 2 cfg2.N) (hne : ∀ c (b : Ref sig .tc), b ≠ main_v48 → Vp c b = Vc c b) :
    Pipeline.RegionSeg (pcfgs (F := F)) adm (pdats Va Vb Vc) () defs₀ 𝒱₀ L lv 2 where
  win := (launch2).win.to₀
  block_pos := (launch2).block_pos
  stage_whole := (launch2).stage_whole
  K := PEmpty
  osem k := k.elim
  ho := Pipeline.OwnSemFacts.none _
  hbody c := (body_obligation2 Vc c).loose
  hwaits := Pipeline.hwaits_of_owed_zero _ _ _ _ L lv 2 fun _ _ => rfl
  pre c := iprop(StableHlo.held (c : Thread nD τ) (Pipeline.ucRefs τ sig) (Vc c) ∗ R c)
  post c := iprop(StableHlo.held (c : Thread nD τ) (Pipeline.ucRefs τ sig) (Vp c) ∗ R c)
  X _ := BI.emp
  Y _ := BI.emp
  Z c := Pipeline.unscopedRest (Ix := Unit) (Name := ℕ) (U := UU) (Lvl := ℕ) spec2 c (onRefs Vc c)
  hentry c := by
    rw [show StableHlo.held (c : Thread nD τ) (Pipeline.ucRefs τ sig) (Vc c) = (unscopedBufs c (onRefs Vc c) : sProp 𝕄) from (Pipeline.unscopedBufs_held c _).symm,
      Pipeline.ownSems0_none]
    have hsplit := Pipeline.arrays_of_unscopedBufs (p := 2) (pcfgs (F := F)) adm (pdats Va Vb Vc) (launch2).win (launch2).arr_whole c
      ((pdats Va Vb Vc 2 c).share_full fun _ => rfl) (onRefs Vc c) (A2_eq Vc c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Va Vb Vc 2 c).Φ 0 = Pipeline.scopedRest spec2 c from rfl]
    iintro ⟨-, -, Hr⟩; iexact Hr
  hout c := by
    rw [Pipeline.ownSems0_none, show (pdats Va Vb Vc 2 c).Φ (Fin.last _) = Pipeline.scopedRest spec2 c from rfl]
    iintro Hr
    isplitr; · iempintro
    isplitr; · iempintro
    iexact Hr
  hexit c := by
    rw [show StableHlo.held (c : Thread nD τ) (Pipeline.ucRefs τ sig) (Vp c) = (unscopedBufs c (onRefs Vp c) : sProp 𝕄) from (Pipeline.unscopedBufs_held c _).symm]
    have hjoin := Pipeline.unscopedBufs_of_arrays (p := 2) (pcfgs (F := F)) adm (Ix := Unit) (Name := ℕ) (U := UU) (Lvl := ℕ) (launch2).win (launch2).arr_whole c
      (pdats Va Vb Vc) ((pdats Va Vb Vc 2 c).share_full fun _ => rfl) (onRefs Vc c) (onRefs Vp c) ((pdats Va Vb Vc 2 c).arrAt · cfg2.N)
      (fun w => by
        by_cases hw : w = (2 : Fin 3)
        · subst hw; exact (hout c).symm
        · refine ((dat2 Vc c).arrAt_in w ?_ _).trans ((A2_eq Vc c w).trans (hne c _ ?_).symm)
          · exact in2_in w hw
          · exact in2_ne w hw)
      (fun b hb => hne c b fun h => hb (h ▸ Finset.mem_image.mpr ⟨(2 : Fin 3), Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The scatter region -/

/-- The kernel's own semaphores. -/
abbrev osem1 : Fin 3 → SemLoc sig := fun
  | 0 => .dma cc1_scratch2.sem
  | 1 => .dma cc1_scratch3.sem
  | 2 => .dma cc1_scratch4.sem

theorem ownSemFacts1 : Pipeline.OwnSemFacts spec1 osem1 := by decide

/-- The kernel's own cells at zero, listed. -/
theorem ownSems1_eq (c : Dev nD) :
    (Pipeline.ownSems0 (Ix := Unit) (Name := ℕ) (U := UU) (Lvl := ℕ) (Val := Elt F) (τ := τ) osem1 c : sProp 𝕄)
      = iprop(semVal ((c : Thread nD τ), SemLoc.dma cc1_scratch2.sem) 0 ∗ semVal ((c : Thread nD τ), SemLoc.dma cc1_scratch3.sem) 0
          ∗ semVal ((c : Thread nD τ), SemLoc.dma cc1_scratch4.sem) 0) :=
  Pipeline.ownSems0_eq_of_list c osem1 [0, 1, 2] (by decide) (by decide)

/-- The two stages apart from the rest of the scoped buffers. -/
theorem scoped1_split (c : Dev nD) : (Pipeline.scopedRest spec1 c : sProp 𝕄)
    = iprop(((∃ f : Buf (Elt F) ((c : Thread nD τ).loc cc1_scratch0), ((c : Thread nD τ).loc cc1_scratch0) ↦{fullShare} f)
        ∗ (∃ f : Buf (Elt F) ((c : Thread nD τ).loc cc1_scratch1), ((c : Thread nD τ).loc cc1_scratch1) ↦{fullShare} f))
      ∗ Pipeline.scopedRestBut spec1 c [cc1_scratch0, cc1_scratch1]) := by
  rw [Pipeline.scopedRest_split_of_list spec1 c [cc1_scratch0, cc1_scratch1] (by decide) (by decide)]
  simp only [bigSepL_cons_cons, bigSepL_singleton]; rfl

/-- The source and the result apart from the rest of the buffers the region's window does not stage. -/
theorem rest1_split (c : Dev nD) (V : (b : Ref sig .tc) → Buf (Elt F) ((c : Thread nD τ).loc b)) :
    (Pipeline.unscopedRest (Ix := Unit) (Name := ℕ) (U := UU) (Lvl := ℕ) spec1 c V : sProp 𝕄)
      = iprop(((((c : Thread nD τ).loc main_v44) ↦{fullShare} V main_v44) ∗ (((c : Thread nD τ).loc main_v45) ↦{fullShare} V main_v45))
          ∗ bigSep (Pipeline.restRefs sig spec1 \ [main_v44, main_v45].toFinset) fun b => ((c : Thread nD τ).loc b) ↦{fullShare} V b) := by
  rw [Pipeline.unscopedRest_sdiff spec1 [main_v44, main_v45].toFinset (by decide) c V, bigSep_eq_bigSepL _ (by decide)]
  simp only [bigSepL_cons_cons, bigSepL_singleton]; rfl

theorem in1_in : ∀ w : Fin 1, (cfg1.win w).isOut = false := by decide
theorem in1_ne : ∀ w : Fin 1, Pipeline.arrRef spec1 w ≠ main_v45 := by decide

theorem phi1_first (c : Dev nD) (lab : S8192.Idx → BitVec 32) (src f0 : S8192x1x2944.Idx → Elt F .f32) :
    phi1 c lab src f0 0 = iprop(idle1 c ∗ (((c : Thread nD τ).loc main_v44) ↦{fullShare} src) ∗ (((c : Thread nD τ).loc main_v45) ↦{fullShare} f0)) := by
  unfold phi1; rw [if_pos rfl]

theorem phi1_last (c : Dev nD) (lab : S8192.Idx → BitVec 32) (src f0 : S8192x1x2944.Idx → Elt F .f32) :
    phi1 c lab src f0 8 = iprop(idle1 c ∗ (((c : Thread nD τ).loc main_v44) ↦{fullShare} src) ∗ (((c : Thread nD τ).loc main_v45) ↦{fullShare} scat lab src)) := by
  unfold phi1; rw [if_neg (by decide), if_pos rfl]

set_option maxRecDepth 4000 in
set_option backward.isDefEq.respectTransparency.types false in
/-- Region 1: the labels into the pipeline; the source, the result, the stages and the three semaphores into the
    invariant; left with the result at the scattered rows. -/
def reg1 (hlab : ∀ c, LabOK (labV Vb c)) (hout : ∀ c, Vp c main_v45 = scat (labV Vb c) (srcV Vb c)) (hne : ∀ c (b : Ref sig .tc), b ≠ main_v45 → Vp c b = Vb c b) :
    Pipeline.RegionSeg (pcfgs (F := F)) adm (pdats Va Vb Vc) () defs₀ 𝒱₀ L lv 1 where
  win := (launch1).win.to₀
  block_pos := (launch1).block_pos
  stage_whole := (launch1).stage_whole
  K := Fin 3
  osem := osem1
  ho := ownSemFacts1
  hbody c := (body_obligation1 Vb c (hlab c)).loose
  hwaits := Pipeline.hwaits_of_owed_zero _ _ _ _ L lv 1 fun _ _ => rfl
  pre c := iprop(StableHlo.held (c : Thread nD τ) (Pipeline.ucRefs τ sig) (Vb c) ∗ R c)
  post c := iprop(StableHlo.held (c : Thread nD τ) (Pipeline.ucRefs τ sig) (Vp c) ∗ R c)
  X c := iprop(((((c : Thread nD τ).loc main_v44) ↦{fullShare} srcV Vb c) ∗ (((c : Thread nD τ).loc main_v45) ↦{fullShare} resV Vb c))
    ∗ semVal ((c : Thread nD τ), SemLoc.dma cc1_scratch2.sem) 0 ∗ semVal ((c : Thread nD τ), SemLoc.dma cc1_scratch3.sem) 0
    ∗ semVal ((c : Thread nD τ), SemLoc.dma cc1_scratch4.sem) 0)
  Y c := iprop((((c : Thread nD τ).loc main_v44) ↦{fullShare} srcV Vb c) ∗ (((c : Thread nD τ).loc main_v45) ↦{fullShare} scat (labV Vb c) (srcV Vb c)))
  Z c := bigSep (Pipeline.restRefs sig spec1 \ [main_v44, main_v45].toFinset) fun b => ((c : Thread nD τ).loc b) ↦{fullShare} onRefs Vb c b
  hentry c := by
    rw [show StableHlo.held (c : Thread nD τ) (Pipeline.ucRefs τ sig) (Vb c) = (unscopedBufs c (onRefs Vb c) : sProp 𝕄) from (Pipeline.unscopedBufs_held c _).symm,
      ownSems1_eq]
    have hsplit := (Pipeline.arrays_of_unscopedBufs (p := 1) (pcfgs (F := F)) adm (pdats Va Vb Vc) (launch1).win (launch1).arr_whole c
      ((pdats Va Vb Vc 1 c).share_full fun _ => rfl) (onRefs Vb c) (A1_eq Vb c)).trans (sep_mono .rfl (Entails.of_eq (rest1_split c (onRefs Vb c))))
    iintro ⟨⟨Hub, HO⟩, Hos, -⟩
    ihave H := hsplit $$ Hub
    icases H with ⟨Ha, H45, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [H45 Hos]
    · isplitl [H45]; · iexact H45
      iexact Hos
    iexact Hrest
  hin c := by
    rw [show (pdats Va Vb Vc 1 c).Φ 0 = iprop(phi1 c (labV Vb c) (srcV Vb c) (resV Vb c) 0 ∗ Pipeline.scopedRestBut spec1 c [cc1_scratch0, cc1_scratch1]) from rfl, phi1_first]
    have hs := Entails.of_eq (scoped1_split (F := F) c)
    unfold idle1
    iintro ⟨⟨⟨H4, H5⟩, Ha, Hb, Hc⟩, -, Hr⟩
    ihave Hr := hs $$ Hr
    icases Hr with ⟨⟨Hs0, Hs1⟩, Hr⟩
    isplitr [Hr]
    · isplitr [H4 H5]
      · isplitl [Hs0]; · iexact Hs0
        isplitl [Hs1]; · iexact Hs1
        isplitl [Ha]; · iexact Ha
        isplitl [Hb]; · iexact Hb
        iexact Hc
      isplitl [H4]; · iexact H4
      iexact H5
    iexact Hr
  hout c := by
    rw [ownSems1_eq, show (pdats Va Vb Vc 1 c).Φ (Fin.last _) = iprop(phi1 c (labV Vb c) (srcV Vb c) (resV Vb c) 8 ∗ Pipeline.scopedRestBut spec1 c [cc1_scratch0, cc1_scratch1]) from rfl, phi1_last]
    have hs := Entails.of_eq (scoped1_split (F := F) c).symm
    unfold idle1
    iintro ⟨⟨⟨Hs0, Hs1, Ha, Hb, Hc⟩, H4, H5⟩, Hr⟩
    isplitl [H4 H5]
    · isplitl [H4]; · iexact H4
      iexact H5
    isplitl [Ha Hb Hc]
    · isplitl [Ha]; · iexact Ha
      isplitl [Hb]; · iexact Hb
      iexact Hc
    iapply hs
    isplitl [Hs0 Hs1]
    · isplitl [Hs0]; · iexact Hs0
      iexact Hs1
    iexact Hr
  hexit c := by
    rw [show StableHlo.held (c : Thread nD τ) (Pipeline.ucRefs τ sig) (Vp c) = (unscopedBufs c (onRefs Vp c) : sProp 𝕄) from (Pipeline.unscopedBufs_held c _).symm]
    have hjoin := Pipeline.unscopedBufs_of_arrays (p := 1) (pcfgs (F := F)) adm (Ix := Unit) (Name := ℕ) (U := UU) (Lvl := ℕ) (launch1).win (launch1).arr_whole c
      (pdats Va Vb Vc) ((pdats Va Vb Vc 1 c).share_full fun _ => rfl) (onRefs Vp c) (onRefs Vp c) ((pdats Va Vb Vc 1 c).arrAt · cfg1.N)
      (fun w => ((dat1 Vb c).arrAt_in w (in1_in w) _).trans ((A1_eq Vb c w).trans (hne c _ (in1_ne w)).symm))
      (fun b _ => rfl)
    have hrest : (bigSep (Pipeline.restRefs sig spec1 \ [main_v44, main_v45].toFinset) fun b => (((c : Thread nD τ).loc b) ↦{fullShare} onRefs Vb c b : sProp 𝕄))
        ⊢ bigSep (Pipeline.restRefs sig spec1 \ [main_v44, main_v45].toFinset) fun b => ((c : Thread nD τ).loc b) ↦{fullShare} onRefs Vp c b :=
      Entails.of_eq (bigSep_congr fun b hb => by
        rw [show onRefs Vp c b = onRefs Vb c b from hne c b fun h => (Finset.mem_sdiff.mp hb).2 (by subst h; decide)])
    have h4 : (((c : Thread nD τ).loc main_v44) ↦{fullShare} srcV Vb c : sProp 𝕄) ⊢ (((c : Thread nD τ).loc main_v44) ↦{fullShare} onRefs Vp c main_v44) :=
      Entails.of_eq (by rw [show onRefs Vp c main_v44 = srcV Vb c from hne c main_v44 (by decide)])
    have h5 : (((c : Thread nD τ).loc main_v45) ↦{fullShare} scat (labV Vb c) (srcV Vb c) : sProp 𝕄) ⊢ (((c : Thread nD τ).loc main_v45) ↦{fullShare} onRefs Vp c main_v45) :=
      Entails.of_eq (by rw [show onRefs Vp c main_v45 = scat (labV Vb c) (srcV Vb c) from hout c])
    have hback := Entails.of_eq (rest1_split c (onRefs Vp c)).symm
    iintro ⟨Ha, HO, ⟨H4, H5⟩, Hrest⟩
    imodintro
    isplitl [Ha H4 H5 Hrest]
    · iapply hjoin
      isplitl [Ha]; · iexact Ha
      iapply hback
      isplitl [H4 H5]
      · isplitl [H4]; · iapply h4 $$ H4
        iapply h5 $$ H5
      iapply hrest $$ Hrest
    unfold Pipeline.Dat.owesAt Pipeline.owesWithin
    icases HO with ⟨%W, -, HO⟩; iexists W; iexact HO

end Records

/-! ## The run -/

section Whole

variable (m : (ℓ : Loc nD τ sig) → Buf (Elt F) ℓ) (ρ : Dev nD → PrngReg)

/-- What region 0 leaves in its array, -/
def o2 : Out (F := F) main_v43 := fun c => (dat0 (V1 m) c).arrAt 11 cfg0.N
/-- region 1 in its, -/
def o4 : Out (F := F) main_v45 := fun c => scat (labV (V3 m (o2 m)) c) (srcV (V3 m (o2 m)) c)
/-- and region 2 in the result. -/
def o6 : Out (F := F) main_v48 := fun c => (dat2 (V5 m (o2 m) (o4 m)) c).arrAt 2 cfg2.N

/-- The launch element: the pipeline library's at the staging cells and the pipelines' transfers; no counter yet. -/
def u₀ : UU := (initOf (Pipeline.cells cfgs cellOf_inj) (Pipeline.launchToks cfgs cellOf_inj), 1)

set_option maxRecDepth 4000 in
/-- @main from any memory whose labels name each row once: it ends, the result at `o6`, the arguments as launched, every
    counter at zero. -/
theorem run_whole (hlab : ∀ c, LabOK (labV (V3 m (o2 m)) c)) :
    θ_run defs (onTc (τ := τ) (main (F := F))) ⟨m, fun _ => 0, ρ⟩ (fun r => (∀ c : Dev nD,
      r.2.mem ((c.tc : Thread nD τ).loc main_v48) = o6 m c ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  run_of_regions m (o2 m) (o4 m) (o6 m) EP () 𝒱₀ L lv (fun _ _ => rfl) ρ (pdats (V1 m) (V3 m (o2 m)) (V5 m (o2 m) (o4 m))) (fun _ => 0) (fun _ => iprop(emp)) u₀
    (by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => R c)
    (by
      have h : (bigSep Finset.univ fun c : Dev nD => iprop(unscopedSems0 c ∗ owes (c : Thread nD τ) (0 : CellTallies nD τ sig Unit) ∅ ∗ Pipeline.launchCred (fun _ => 0) c ∗ prngReg c (ρ c) ∗ emp))
          ⊢ (bigSep Finset.univ fun c : Dev nD => R c : sProp 𝕄) := bigSep_mono fun c _ => by
        show (iprop(unscopedSems0 c ∗ owes (c : Thread nD τ) (0 : CellTallies nD τ sig Unit) ∅ ∗ Pipeline.launchCred (fun _ => 0) c ∗ prngReg c (ρ c) ∗ emp) : sProp 𝕄) ⊢ R c
        iintro ⟨-, HO, -, -, -⟩
        iexists ∅; iexact HO
      iintro ⟨H, -⟩
      imodintro
      iapply h $$ H)
    (fun _ => .rfl)
    (reg0 (V1 m) (V3 m (o2 m)) (V5 m (o2 m) (o4 m)) (V2 m (o2 m)) (fun c => Function.update_self _ _ _) (fun c b h => V2_of m (o2 m) c b (by simpa using h)))
    (fun _ => .rfl) (fun _ => .rfl)
    (reg1 (V1 m) (V3 m (o2 m)) (V5 m (o2 m) (o4 m)) (V4 m (o2 m) (o4 m)) hlab (fun c => Function.update_self _ _ _) (fun c b h => V4_of m (o2 m) (o4 m) c b (by simpa using h)))
    (fun _ => .rfl) (fun _ => .rfl)
    (reg2 (V1 m) (V3 m (o2 m)) (V5 m (o2 m) (o4 m)) (V6 m (o2 m) (o4 m) (o6 m)) (fun c => Function.update_self _ _ _) (fun c b h => V6_of m (o2 m) (o4 m) (o6 m) c b (by simpa using h)))
    (fun _ => .rfl) (fun _ => .rfl)

end Whole

end Cert.KernelIdeal.Gen

end
-- ==== Proof.Labels.lean ====
/- The precondition read: every label below 8190 and no two alike; and what it gives the scatter, the list of labels
   followed by 8190 and 8191 naming each row once.
-/
module

public import proofs.«01_k».proof.Pre_labels_permuted
public import proofs.«01_k».proof.Proof.ScatterLoop
public import Idealize.ShloMosaic.Lib.ReduceAll
public import Idealize.ShloMosaic.Lib.Affine
public import Idealize.ShloMosaic.Lib.PointwiseCore

@[expose] public section

noncomputable section

/-- The precondition's shape relations. -/
instance Cert.Pre_labels_permuted.facts : Cert.Pre_labels_permuted.Facts where
  bcast_S8190_S8190x1_0 := by decide
  bcast_S8190_S1x8190_1 := by decide
  bcast_S8190x1_S8190x8190_0_1 := by decide
  bcast_S1x8190_S8190x8190_0_1 := by decide
  bcast_S_S8190 := by decide
  reducesTo_S8190_S_d0 := by decide
  h_S_ := by decide
  reducesTo_S8190x8190_S_d0_1 := by decide

namespace Cert.KernelIdeal.Gen

open Idealize.ShloMosaic Idealize.ShloMosaic.TcCoe

/-- The labels as the precondition has them: in range, no two alike. -/
structure Distinct (a : S8190.Idx → BitVec 32) : Prop where
  lt : ∀ i : Fin 8190, (a (ix1 i)).toNat < 8190
  inj : ∀ i j : Fin 8190, a (ix1 i) = a (ix1 j) → i = j

theorem distinct_of_pre {F : FTy → Type} [FloatOps F] (a0 a1 a2 a3 a4 a5 a6 a7 a8 a9 a10 a11 a12) (a : S8190.Idx → BitVec 32)
    (h : Cert.Pre_labels_permuted.fn (F := F) a0 a1 a2 a3 a4 a5 a6 a7 a8 a9 a10 a11 a12 a = fun _ => 1#1) : Distinct a := by
  have h0 := congrFun h ix0
  dsimp only [Cert.Pre_labels_permuted.fn] at h0
  have hs : Subsingleton Cert.Pre_labels_permuted.S_.Idx := ⟨fun x y => funext fun k => k.elim0⟩
  obtain ⟨hr, hd⟩ := IntOp.andi_eq_one.1 h0
  have hr' := fun i : Fin 8190 => Host.reduce_andi_all _ _ _ _ _ hr (ix1 i)
  have hd' := fun i j : Fin 8190 => Host.reduce_andi_all _ _ _ _ _ hd (ix2 i j)
  constructor
  · intro i
    obtain ⟨h1, h2⟩ := IntOp.andi_eq_one.1 (hr' i)
    have h1 := IntOp.cmpi_sge.1 h1
    have h2 := IntOp.cmpi_slt.1 h2
    pointwise at h1 h2
    have e0 : (0#32 : BitVec 32).toInt = 0 := by decide
    have e1 : (8190#32 : BitVec 32).toInt = 8190 := by decide
    rw [e0] at h1; rw [e1] at h2
    have := BitVec.toInt_eq_toNat_cond (a (ix1 i))
    have := (a (ix1 i)).isLt
    split at * <;> omega
  · intro i j hij
    rcases IntOp.ori_eq_one.1 (hd' i j) with h1 | h1
    · have h1 := IntOp.cmpi_ne.1 h1
      pointwise at h1
      exact absurd hij h1
    · have h1 := IntOp.cmpi_eq.1 h1
      pointwise at h1
      have h2 := congrArg BitVec.toNat h1
      simp only [BitVec.toNat_ofNat] at h2
      have := i.isLt; have := j.isLt
      rw [Nat.mod_eq_of_lt (by omega), Nat.mod_eq_of_lt (by omega)] at h2
      exact Fin.ext h2

variable {F : FTy → Type} [FloatOps F]

/-- The list the scatter reads. -/
def labExt (a : S8190.Idx → BitVec 32) : S8192.Idx → BitVec 32 :=
  concatenate S8192 0 [⟨S8190, a⟩, ⟨S2, fun i => lit0 (S2.rowMajor i)⟩] concatenates_S8190_S2_S8192_d0

theorem tgt_lo (a : S8190.Idx → BitVec 32) (j : Fin 8192) (h : j.val < 8190) : tgt (labExt a) j = (a (ix1 ⟨j.val, h⟩)).toNat := by
  have e : ix8 j = ix1 j := by funext x; have : x = 0 := Subsingleton.elim _ _; subst this; rfl
  unfold tgt labExt
  rw [e]
  pointwise
  rw [dif_pos h]

theorem lit0_val : ∀ k : Fin 2, (lit0 (S2.rowMajor (ix1 k))).toNat = 8190 + k.val := by decide

theorem tgt_hi (a : S8190.Idx → BitVec 32) (j : Fin 8192) (h : ¬ j.val < 8190) : tgt (labExt a) j = j.val := by
  have e : ix8 j = ix1 j := by funext x; have : x = 0 := Subsingleton.elim _ _; subst this; rfl
  unfold tgt labExt
  rw [e]
  pointwise
  rw [dif_neg h]
  refine (lit0_val _).trans ?_
  show 8190 + (j.val - 8190) = j.val
  omega

theorem labOK_ext {a : S8190.Idx → BitVec 32} (h : Distinct a) : LabOK (labExt a) := by
  constructor
  · intro j
    by_cases hj : j.val < 8190
    · rw [tgt_lo a j hj]; exact (h.lt _).trans (by decide)
    · rw [tgt_hi a j hj]; exact j.isLt
  · intro j j' e
    by_cases hj : j.val < 8190 <;> by_cases hj' : j'.val < 8190
    · rw [tgt_lo a j hj, tgt_lo a j' hj'] at e
      exact Fin.ext (Fin.mk.inj (h.inj _ _ (BitVec.eq_of_toNat_eq e)))
    · rw [tgt_lo a j hj, tgt_hi a j' hj'] at e
      have := h.lt ⟨j.val, hj⟩; omega
    · rw [tgt_hi a j hj, tgt_lo a j' hj'] at e
      have := h.lt ⟨j'.val, hj'⟩; omega
    · rw [tgt_hi a j hj, tgt_hi a j' hj'] at e
      exact Fin.ext e

variable (m : (ℓ : Loc nD τ sig) → Buf (Elt F) ℓ) (o : Out (F := F) main_v43)

set_option maxRecDepth 8192 in
set_option maxHeartbeats 4000000 in
theorem V1_v42 (c : Dev nD) : V1 m c main_v42 = labExt (m ((c : Thread nD τ).loc main_arg13)) := by
  simp only [V1, hostOps0]; after_results_simp <;> rfl

theorem V3_v42 (c : Dev nD) : V3 m o c main_v42 = labExt (m ((c : Thread nD τ).loc main_arg13)) :=
  (V3_of m o c main_v42 (by decide)).trans ((V2_of m o c main_v42 (by decide)).trans (V1_v42 m c))

end Cert.KernelIdeal.Gen

end
-- ==== Proof.Transfer.lean ====
/- The kernel as printed is the idealized kernel at another number type, text for text: the run proved of the one is the
   run of the other.
-/
module

public import proofs.«01_k».proof.Proof.Gen.Kernel
public import proofs.«01_k».proof.Proof.Run
public import proofs.«01_k».proof.Proof.Labels

@[expose] public section

noncomputable section

namespace Cert

open Idealize.ShloMosaic Idealize.ShloMosaic.TcCoe Idealize.SL.Sem

variable {F : FTy → Type} [FloatOps F]

set_option maxHeartbeats 4000000

/-- The bodies of the three regions are the same. -/
theorem defs0_eq : (@Kernel.defs₀ F _ Kernel.Gen.facts) = (@KernelIdeal.defs₀ F _ KernelIdeal.Gen.facts) := by
  unfold Kernel.defs₀ KernelIdeal.defs₀
  refine congrArg Defs.onTc ?_
  funext l x
  match l, x with
  | 0, (t, s) => with_unfolding_all rfl
  | 1, (t, s) => with_unfolding_all rfl
  | 2, (t, s) => with_unfolding_all rfl
  | ⟨_ + 3, h⟩, _ => exact absurd h (Nat.not_lt.2 (Nat.le_add_left _ _))

/-- The run of a kernel made of a pipeline family, bodies and a main program, from `m`. -/
def Runs (pc : Fin 3 → Pipeline.PCfg KernelIdeal.sig KernelIdeal.Λ₀ (Elt F)) (d : Defs KernelIdeal.nD KernelIdeal.τ KernelIdeal.sig (Elt F) KernelIdeal.Λ₀)
    (mn : (c : Dev KernelIdeal.nD) → Prog (TpuEff KernelIdeal.nD KernelIdeal.τ KernelIdeal.sig (Elt F) (Pipeline.Sig KernelIdeal.Λ₀ (Fin 3) fun p => (pc p).Adm) .tc) PUnit)
    (s : MemSt KernelIdeal.nD KernelIdeal.τ KernelIdeal.sig (Elt F)) (Q : PUnit × MemSt KernelIdeal.nD KernelIdeal.τ KernelIdeal.sig (Elt F) → Prop) : Prop :=
  θ_run (Pipeline.defs pc d) (onTc (τ := KernelIdeal.τ) mn) s Q

/-- A run of the idealized kernel at `F` is a run of the printed one at `F`. -/
theorem runs_kernel (s) (Q) (h : Runs (F := F) (KernelIdeal.pcfgs (F := F)) (KernelIdeal.defs₀ (F := F)) (KernelIdeal.main (F := F)) s Q) :
    θ_run (Kernel.defs (F := F)) (onTc (τ := Kernel.τ) (Kernel.main (F := F))) s Q := by
  rw [← defs0_eq] at h
  with_unfolding_all exact h

end Cert

end
-- ==== Proof.Model.lean ====
/- The classifier's mathematics, one row of the batch at a time: the levels' outputs and the features they read, as functions
   of the numbers of columns; and the one sum over all the kernel's columns, split into what each level's row selects.
-/
module

public import Idealize.ShloMosaic.Lib.Pointwise

@[expose] public section

noncomputable section

namespace Cert.Model

open Idealize.ShloMosaic

/-- A vector as a function of numbers, zero past its end. -/
def at1 {n : ℕ} (v : (⟨1, ![n]⟩ : Shape).Idx → EReal) (i : ℕ) : EReal := if h : i < n then v (ix1 ⟨i, h⟩) else 0

/-- A matrix as a function of numbers, zero outside. -/
def at2 {n m : ℕ} (v : (⟨2, ![n, m]⟩ : Shape).Idx → EReal) (i j : ℕ) : EReal :=
  if h : i < n then if h' : j < m then v (ix2 ⟨i, h⟩ ⟨j, h'⟩) else 0 else 0

theorem at1_val {n : ℕ} (v : (⟨1, ![n]⟩ : Shape).Idx → EReal) (i : ℕ) (h : i < n) : v (ix1 ⟨i, h⟩) = at1 v i := by
  rw [at1, dif_pos h]

theorem at2_val {n m : ℕ} (v : (⟨2, ![n, m]⟩ : Shape).Idx → EReal) (i j : ℕ) (h : i < n) (h' : j < m) :
    v (ix2 ⟨i, h⟩ ⟨j, h'⟩) = at2 v i j := by
  rw [at2, dif_pos h, dif_pos h']

/-- A linear layer on the first `n` features. -/
def lin (n : ℕ) (f : ℕ → EReal) (W : ℕ → ℕ → EReal) (b : ℕ → EReal) (j : ℕ) : EReal := (∑ k : Fin n, f k * W j k) + b j

/-- The features `f` up to column `n`, then the layer's outputs cut at zero. -/
def ext (n : ℕ) (f y : ℕ → EReal) (k : ℕ) : EReal := if k < n then f k else max (y (k - n)) 0

theorem lin_congr (n : ℕ) {f g : ℕ → EReal} (h : ∀ k, k < n → f k = g k) (W b j) : lin n f W b j = lin n g W b j := by
  unfold lin
  exact congrArg (· + b j) (Finset.sum_congr rfl fun k _ => by rw [h k k.isLt])

theorem ext_lt {n k : ℕ} (f y : ℕ → EReal) (h : k < n) : ext n f y k = f k := if_pos h

theorem ext_nonneg {n : ℕ} {f : ℕ → EReal} (y) (h : ∀ k, 0 ≤ f k) (k : ℕ) : 0 ≤ ext n f y k := by
  unfold ext; split
  · exact h k
  · exact le_max_right _ _

/-- One row of the batch with the six layers' weights. -/
structure Net where
  x : ℕ → EReal
  W : ℕ → ℕ → ℕ → EReal
  b : ℕ → ℕ → EReal

namespace Net

variable (N : Net)

def y0 : ℕ → EReal := lin 768 N.x (N.W 0) (N.b 0)
def f1 : ℕ → EReal := ext 768 (fun k => max (N.x k) 0) N.y0
def y1 : ℕ → EReal := lin 774 N.f1 (N.W 1) (N.b 1)
def f2 : ℕ → EReal := ext 774 N.f1 N.y1
def y2 : ℕ → EReal := lin 798 N.f2 (N.W 2) (N.b 2)
def f3 : ℕ → EReal := ext 798 N.f2 N.y2
def y3 : ℕ → EReal := lin 894 N.f3 (N.W 3) (N.b 3)
def f4 : ℕ → EReal := ext 894 N.f3 N.y3
def y4 : ℕ → EReal := lin 1278 N.f4 (N.W 4) (N.b 4)
def f5 : ℕ → EReal := ext 1278 N.f4 N.y4
def y5 : ℕ → EReal := lin 2814 N.f5 (N.W 5) (N.b 5)

theorem f1_nonneg (k : ℕ) : 0 ≤ N.f1 k := ext_nonneg _ (fun _ => le_max_right _ _) k
theorem f2_nonneg (k : ℕ) : 0 ≤ N.f2 k := ext_nonneg _ N.f1_nonneg k
theorem f3_nonneg (k : ℕ) : 0 ≤ N.f3 k := ext_nonneg _ N.f2_nonneg k
theorem f4_nonneg (k : ℕ) : 0 ≤ N.f4 k := ext_nonneg _ N.f3_nonneg k

theorem f5_f4 {k : ℕ} (h : k < 1278) : N.f5 k = N.f4 k := ext_lt _ _ h
theorem f5_f3 {k : ℕ} (h : k < 894) : N.f5 k = N.f3 k := (N.f5_f4 (by omega)).trans (ext_lt _ _ h)
theorem f5_f2 {k : ℕ} (h : k < 798) : N.f5 k = N.f2 k := (N.f5_f3 (by omega)).trans (ext_lt _ _ h)
theorem f5_f1 {k : ℕ} (h : k < 774) : N.f5 k = N.f1 k := (N.f5_f2 (by omega)).trans (ext_lt _ _ h)

/-- The output of the layers end to end: entry `j` of the 8190. -/
def out (j : ℕ) : EReal :=
  if j < 6 then N.y0 j else if j < 30 then N.y1 (j - 6) else if j < 126 then N.y2 (j - 30)
  else if j < 510 then N.y3 (j - 126) else if j < 2046 then N.y4 (j - 510) else N.y5 (j - 2046)

/-- What the kernel's first region leaves in a row: the features, a one, the first layer's outputs uncut, zeros. -/
def cols (k : ℕ) : EReal := if k < 2814 then N.f5 k else if k = 2814 then 1 else if k < 2821 then N.y0 (k - 2815) else 0

/-- A row of the kernel's weights for a level that reads `n` features: the weights, zeros, the bias at the column of ones, zeros. -/
def wrow (n : ℕ) (w : ℕ → EReal) (b : EReal) (k : ℕ) : EReal :=
  if k < n then w k else if k < 2814 then 0 else if k = 2814 then b else 0

/-- A row of the kernel's weights for the first level: a one at the column of its own output. -/
def erow (j k : ℕ) : EReal := if k = 2815 + j then 1 else 0

/-- The sum over all columns against a level's row is the level's output. -/
theorem sum_wrow (n : ℕ) (hn : n ≤ 2814) (w : ℕ → EReal) (b : EReal) :
    (∑ k : Fin 2944, N.cols k * wrow n w b k) = (∑ k : Fin n, N.f5 k * w k) + b := by
  rw [Fin.sum_univ_eq_sum_range (fun k => N.cols k * wrow n w b k) 2944, Fin.sum_univ_eq_sum_range (fun k => N.f5 k * w k) n]
  have hd : ∀ k ∈ Finset.range 2944, k ∉ Finset.range 2815 → N.cols k * wrow n w b k = 0 := by
    intro k _ hk
    have hk : ¬ k < 2815 := fun h => hk (Finset.mem_range.2 h)
    rw [wrow, if_neg (by omega), if_neg (by omega), if_neg (by omega), mul_zero]
  rw [← Finset.sum_subset (Finset.range_subset_range.2 (by omega)) hd, Finset.sum_range_succ]
  have hm : ∀ k ∈ Finset.range 2814, k ∉ Finset.range n → N.cols k * wrow n w b k = 0 := by
    intro k h1 hk
    have h1 := Finset.mem_range.1 h1
    have hk : ¬ k < n := fun h => hk (Finset.mem_range.2 h)
    rw [wrow, if_neg hk, if_pos h1, mul_zero]
  rw [← Finset.sum_subset (Finset.range_subset_range.2 hn) hm]
  congr 1
  · refine Finset.sum_congr rfl fun k hk => ?_
    have hk := Finset.mem_range.1 hk
    rw [cols, wrow, if_pos (by omega), if_pos hk]
  · rw [cols, wrow, if_neg (by omega), if_pos rfl, if_neg (by omega), if_neg (by omega), if_pos rfl, one_mul]

/-- The sum over all columns against a row of the first level is that level's output. -/
theorem sum_erow (j : ℕ) (hj : j < 6) : (∑ k : Fin 2944, N.cols k * erow j k) = N.y0 j := by
  rw [Fin.sum_univ_eq_sum_range (fun k => N.cols k * erow j k) 2944, Finset.sum_eq_single_of_mem (2815 + j) (Finset.mem_range.2 (by omega))]
  · rw [cols, erow, if_neg (by omega), if_neg (by omega), if_pos (by omega), if_pos rfl, mul_one, Nat.add_sub_cancel_left]
  · intro k _ hk; rw [erow, if_neg hk, mul_zero]

/-- Row `j` of the kernel's weights. -/
def wext (j k : ℕ) : EReal :=
  if j < 6 then erow j k else if j < 30 then wrow 774 (N.W 1 (j - 6)) (N.b 1 (j - 6)) k
  else if j < 126 then wrow 798 (N.W 2 (j - 30)) (N.b 2 (j - 30)) k else if j < 510 then wrow 894 (N.W 3 (j - 126)) (N.b 3 (j - 126)) k
  else if j < 2046 then wrow 1278 (N.W 4 (j - 510)) (N.b 4 (j - 510)) k else wrow 2814 (N.W 5 (j - 2046)) (N.b 5 (j - 2046)) k

/-- The kernel's one product computes every level's output. -/
theorem sum_wext (j : ℕ) : (∑ k : Fin 2944, N.cols k * N.wext j k) = N.out j := by
  unfold wext out
  split
  · next h => exact N.sum_erow j h
  split
  · exact (N.sum_wrow 774 (by omega) _ _).trans (lin_congr 774 (fun k h => N.f5_f1 h) (N.W 1) (N.b 1) _)
  split
  · exact (N.sum_wrow 798 (by omega) _ _).trans (lin_congr 798 (fun k h => N.f5_f2 h) (N.W 2) (N.b 2) _)
  split
  · exact (N.sum_wrow 894 (by omega) _ _).trans (lin_congr 894 (fun k h => N.f5_f3 h) (N.W 3) (N.b 3) _)
  split
  · exact (N.sum_wrow 1278 (by omega) _ _).trans (lin_congr 1278 (fun k h => N.f5_f4 h) (N.W 4) (N.b 4) _)
  · exact N.sum_wrow 2814 (by omega) _ _

end Net

end Cert.Model

end
-- ==== Proof.RefValue.lean ====
/- The reference read at an index: each level's layer, the features it reads, the labels it scatters by, and the six scatters
   together, on labels that are distinct and in range.
-/
module

public import proofs.«01_k».proof.Proof.Gen.ReferenceIdeal.Run
public import proofs.«01_k».proof.Proof.Model
public import proofs.«01_k».proof.Proof.Labels
public import Idealize.ShloMosaic.Lib.Pointwise
public import Idealize.ShloMosaic.Lib.Routing.OpsSet
public import Idealize.ShloMosaic.Lib.Routing.OpsPair

@[expose] public section

set_option maxRecDepth 16384

noncomputable section

namespace Cert.ReferenceIdeal.Value

open Cert.ReferenceIdeal Cert.ReferenceIdeal.Gen Idealize.ShloMosaic Idealize.ShloMosaic.TcCoe Cert.Model
open Cert.KernelIdeal.Gen (Distinct)

/-! ## One scatter of columns -/

/-- Where the update at row `r`, column `j` lands: row `r`, the column that `j`'s index word names. -/
theorem lands {w : ℕ} (d : ScatterDims ⟨2, ![8192, 8190]⟩ ⟨2, ![w, 1]⟩ ⟨2, ![8192, w]⟩) (h1 : d.updateWindowDims = [0])
    (h2 : d.insertedWindowDims = [1]) (h3 : d.scatterDimsToOperandDims = [1]) (h4 : d.indexVectorDim = 1) (idx : IVec ⟨2, ![w, 1]⟩ 32)
    (r : Fin 8192) (j : Fin w) (r' : Fin 8192) (c : Fin 8190) :
    d.resultIdx? (ix2 r j) idx = some (ix2 r' c) ↔ r = r' ∧ (idx (ix2 j 0)).toInt = (c.val : ℤ) := by
  rw [Routing.resultIdx?_eq_some]
  obtain ⟨a1, a2, a3, a4, wf⟩ := d
  subst h1 h2 h3 h4
  have e : ∀ q, ScatterDims.siIdx (⟨[0], [1], [1], 1, wf⟩ : ScatterDims ⟨2, ![8192, 8190]⟩ ⟨2, ![w, 1]⟩ ⟨2, ![8192, w]⟩) (ix2 r j) q = ix2 j 0 := by
    intro q
    funext a
    match a with
    | ⟨0, _⟩ => rfl
    | ⟨1, _⟩ => exact Subsingleton.elim (α := Fin 1) _ _
  have s0 : ScatterDims.start (⟨[0], [1], [1], 1, wf⟩ : ScatterDims ⟨2, ![8192, 8190]⟩ ⟨2, ![w, 1]⟩ ⟨2, ![8192, w]⟩) (ix2 r j) idx 0 = 0 := rfl
  have s1 : ScatterDims.start (⟨[0], [1], [1], 1, wf⟩ : ScatterDims ⟨2, ![8192, 8190]⟩ ⟨2, ![w, 1]⟩ ⟨2, ![8192, w]⟩) (ix2 r j) idx 1 = (idx (ix2 j 0)).toInt :=
    congrArg (fun i => (idx i).toInt) (e _)
  have w0 : ScatterDims.window (⟨[0], [1], [1], 1, wf⟩ : ScatterDims ⟨2, ![8192, 8190]⟩ ⟨2, ![w, 1]⟩ ⟨2, ![8192, w]⟩) (ix2 r j) 0 = r.val := rfl
  have w1 : ScatterDims.window (⟨[0], [1], [1], 1, wf⟩ : ScatterDims ⟨2, ![8192, 8190]⟩ ⟨2, ![w, 1]⟩ ⟨2, ![8192, w]⟩) (ix2 r j) 1 = 0 := rfl
  constructor
  · intro h
    have g0 := h 0
    have g1 := h 1
    rw [s0, w0] at g0
    rw [s1, w1] at g1
    refine ⟨Fin.ext ?_, ?_⟩
    · have : ((ix2 r' c : (⟨2, ![8192, 8190]⟩ : Shape).Idx) 0).val = r'.val := rfl
      omega
    · have : ((ix2 r' c : (⟨2, ![8192, 8190]⟩ : Shape).Idx) 1).val = c.val := rfl
      omega
  · rintro ⟨rfl, h⟩ a
    match a with
    | ⟨0, _⟩ => exact (congrArg₂ (fun p (q : ℕ) => p + (q : ℤ)) s0 w0).trans (zero_add _)
    | ⟨1, _⟩ => exact (congrArg₂ (fun p (q : ℕ) => p + (q : ℤ)) s1 w1).trans ((add_zero _).trans h)

/-- A scatter of the columns that labels `o`, …, `o + w - 1` name, read at the column that label `J` names. -/
theorem scatter_read {w : ℕ} (d : ScatterDims ⟨2, ![8192, 8190]⟩ ⟨2, ![w, 1]⟩ ⟨2, ![8192, w]⟩) (h1 : d.updateWindowDims = [0])
    (h2 : d.insertedWindowDims = [1]) (h3 : d.scatterDimsToOperandDims = [1]) (h4 : d.indexVectorDim = 1) (o : ℕ) (how : o + w ≤ 8190)
    (a : S8190.Idx → BitVec 32) (hd : Distinct a) (x0 : (⟨2, ![8192, 8190]⟩ : Shape).Idx → EReal) (idx : IVec ⟨2, ![w, 1]⟩ 32)
    (hidx : ∀ j : Fin w, idx (ix2 j 0) = a (ix1 ⟨o + j, by omega⟩)) (upd : (⟨2, ![8192, w]⟩ : Shape).Idx → EReal) (J c : Fin 8190) (r : Fin 8192)
    (hJ : (a (ix1 J)).toNat = c.val) :
    Host.scatter d (fun _ b => b) x0 idx upd (ix2 r c) = if h : o ≤ J.val ∧ J.val < o + w then upd (ix2 r ⟨J.val - o, by omega⟩) else x0 (ix2 r c) := by
  have key : ∀ (r' : Fin 8192) (j : Fin w), d.resultIdx? (ix2 r' j) idx = some (ix2 r c) → r' = r ∧ o + j.val = J.val := by
    intro r' j h
    obtain ⟨e, h⟩ := (lands d h1 h2 h3 h4 idx r' j r c).1 h
    refine ⟨e, ?_⟩
    have hl := hd.lt ⟨o + j, by omega⟩
    rw [hidx, BitVec.toInt_eq_toNat_of_lt (by omega)] at h
    have e2 : a (ix1 ⟨o + j, by omega⟩) = a (ix1 J) := BitVec.eq_of_toNat_eq (by omega)
    exact congrArg Fin.val (hd.inj _ J e2)
  split
  · next h =>
    refine Routing.scatter_set_hit d x0 idx upd (ix2 r c) _ (fun k hk => ?_) (ix2 r ⟨J.val - o, by omega⟩) ?_
    · obtain ⟨k0, k1, rfl⟩ : ∃ (p : Fin 8192) (q : Fin w), k = ix2 p q := ⟨k 0, k 1, eq_ix2 k⟩
      obtain ⟨e, e'⟩ := key _ _ hk
      subst e
      exact congrArg upd (congrArg (ix2 _) (Fin.ext (by show _ = J.val - o; omega)))
    · refine (lands d h1 h2 h3 h4 idx r _ r c).2 ⟨rfl, ?_⟩
      have e : (⟨o + (J.val - o), by omega⟩ : Fin 8190) = J := Fin.ext (by show o + (J.val - o) = J.val; omega)
      have hl := hd.lt J
      rw [hidx, show a (ix1 ⟨o + (⟨J.val - o, by omega⟩ : Fin w).val, by show o + (J.val - o) < 8190; omega⟩) = a (ix1 J) from congrArg (fun q => a (ix1 q)) e,
        BitVec.toInt_eq_toNat_of_lt (by omega), hJ]
  · next h =>
    refine Routing.scatter_set_miss d x0 idx upd (ix2 r c) fun k hk => h ?_
    obtain ⟨k0, k1, rfl⟩ : ∃ (p : Fin 8192) (q : Fin w), k = ix2 p q := ⟨k 0, k 1, eq_ix2 k⟩
    obtain ⟨_, e'⟩ := key _ _ hk
    omega

/-- The sum of a layer's products, from reads that agree. -/
theorem lin_read {n : ℕ} {g : Fin n → EReal} {f : ℕ → EReal} {w : Fin n → EReal} {W : ℕ → ℕ → EReal} {v : EReal} {b : ℕ → EReal} {j : ℕ}
    (hg : ∀ k : Fin n, g k = f k) (hw : ∀ k : Fin n, w k = W j k) (hb : v = b j) : (∑ k, g k * w k) + v = lin n f W b j := by
  unfold lin
  rw [hb]
  exact congrArg (· + b j) (Finset.sum_congr rfl fun k _ => by rw [hg, hw])

/-- The features extended, from reads that agree. -/
theorem ext_read {n : ℕ} {f y : ℕ → EReal} (hf : ∀ k, 0 ≤ f k) {k : ℕ} {p : k < n → EReal} {q : ¬ k < n → EReal}
    (hp : ∀ h, p h = f k) (hq : ∀ h, q h = y (k - n)) : max (if h : k < n then p h else q h) 0 = ext n f y k := by
  unfold ext
  split
  · next h => rw [hp]; exact max_eq_left (hf k)
  · next h => rw [hq]

/-! ## The levels -/

/-- Level 0's layer. -/
def lay0 (C : FVec Ideal S8192x768 .f32) (W : FVec Ideal S6x768 .f32) (b : FVec Ideal S6 .f32) : FVec Ideal S8192x6 .f32 :=
  addf (Host.dotGeneral dot_S8192x768_S768x6_S8192x6_1_0_0_1_n_n none C (transpose S768x6 [1, 0] W transposes_S6x768_S768x6_1_0)) (broadcastInDim S8192x6 ![0, 1] bcast_S1x6_S8192x6_0_1 (broadcastInDim S1x6 ![1] bcast_S6_S1x6_1 b))

theorem lay0_read (C : FVec Ideal S8192x768 .f32) (W : FVec Ideal S6x768 .f32) (b : FVec Ideal S6 .f32) (f : ℕ → EReal) (r : Fin 8192)
    (hC : ∀ k : Fin 768, C (ix2 r k) = f k) (j : Fin 6) : lay0 C W b (ix2 r j) = lin 768 f (at2 W) (at1 b) j := by
  pointwise [lay0]
  exact lin_read hC (fun k => at2_val W _ _ j.2 k.2) (at1_val b _ j.2)

/-- The column words of level 0: its labels, negative ones counted from the end. -/
def idx0 (a : IVec S8190 32) : IVec S6x1 32 :=
  broadcastInDim S6x1 ![0] bcast_S6_S6x1_0 (select (cmpi .slt (extractStridedSlice S6 ![0] a slices_S8190_S6_0) (broadcastInDim S6 ![] bcast_S_S6 (constantI S_ 32 0#32))) (addi (extractStridedSlice S6 ![0] a slices_S8190_S6_0) (broadcastInDim S6 ![] bcast_S_S6 (constantI S_ 32 8190#32))) (extractStridedSlice S6 ![0] a slices_S8190_S6_0))

theorem idx0_read (a : IVec S8190 32) (hd : Distinct a) (j : Fin 6) : idx0 a (ix2 j 0) = a (ix1 ⟨0 + j, by omega⟩) := by
  have e : (⟨0 + j.val, by omega⟩ : Fin 8190) = ⟨j, by omega⟩ := Fin.ext (Nat.zero_add _)
  rw [e]
  pointwise [idx0]
  exact Routing.wrap_of_lt _ _ (by have := hd.lt ⟨j, by omega⟩; omega)

/-- The features after level 0. -/
def feat1 (C : FVec Ideal S8192x768 .f32) (y : FVec Ideal S8192x6 .f32) : FVec Ideal S8192x774 .f32 :=
  maximumf (concatenate S8192x774 1 [⟨S8192x768, C⟩, ⟨S8192x6, y⟩] concatenates_S8192x768_S8192x6_S8192x774_d1) (broadcastInDim S8192x774 ![] bcast_S_S8192x774 (constant S_ .f32 0x00000000#32))

theorem feat1_read (C : FVec Ideal S8192x768 .f32) (y : FVec Ideal S8192x6 .f32) (f g : ℕ → EReal) (r : Fin 8192)
    (hC : ∀ k : Fin 768, C (ix2 r k) = f k) (hy : ∀ k : Fin 6, y (ix2 r k) = g k) (k : Fin 774) :
    feat1 C y (ix2 r k) = ext 768 (fun k => max (f k) 0) g k := by
  pointwise [feat1]
  unfold ext
  split
  · rw [hC]
  · rw [hy]

/-- Level 1's layer. -/
def lay1 (C : FVec Ideal S8192x774 .f32) (W : FVec Ideal S24x774 .f32) (b : FVec Ideal S24 .f32) : FVec Ideal S8192x24 .f32 :=
  addf (Host.dotGeneral dot_S8192x774_S774x24_S8192x24_1_0_0_1_n_n none C (transpose S774x24 [1, 0] W transposes_S24x774_S774x24_1_0)) (broadcastInDim S8192x24 ![0, 1] bcast_S1x24_S8192x24_0_1 (broadcastInDim S1x24 ![1] bcast_S24_S1x24_1 b))

theorem lay1_read (C : FVec Ideal S8192x774 .f32) (W : FVec Ideal S24x774 .f32) (b : FVec Ideal S24 .f32) (f : ℕ → EReal) (r : Fin 8192)
    (hC : ∀ k : Fin 774, C (ix2 r k) = f k) (j : Fin 24) : lay1 C W b (ix2 r j) = lin 774 f (at2 W) (at1 b) j := by
  pointwise [lay1]
  exact lin_read hC (fun k => at2_val W _ _ j.2 k.2) (at1_val b _ j.2)

/-- The column words of level 1: its labels, negative ones counted from the end. -/
def idx1 (a : IVec S8190 32) : IVec S24x1 32 :=
  broadcastInDim S24x1 ![0] bcast_S24_S24x1_0 (select (cmpi .slt (extractStridedSlice S24 ![6] a slices_S8190_S24_6) (broadcastInDim S24 ![] bcast_S_S24 (constantI S_ 32 0#32))) (addi (extractStridedSlice S24 ![6] a slices_S8190_S24_6) (broadcastInDim S24 ![] bcast_S_S24 (constantI S_ 32 8190#32))) (extractStridedSlice S24 ![6] a slices_S8190_S24_6))

theorem idx1_read (a : IVec S8190 32) (hd : Distinct a) (j : Fin 24) : idx1 a (ix2 j 0) = a (ix1 ⟨6 + j, by omega⟩) := by
  pointwise [idx1]
  exact Routing.wrap_of_lt _ _ (by have := hd.lt ⟨6 + j, by omega⟩; omega)

/-- The features after level 1. -/
def feat2 (C : FVec Ideal S8192x774 .f32) (y : FVec Ideal S8192x24 .f32) : FVec Ideal S8192x798 .f32 :=
  maximumf (concatenate S8192x798 1 [⟨S8192x774, C⟩, ⟨S8192x24, y⟩] concatenates_S8192x774_S8192x24_S8192x798_d1) (broadcastInDim S8192x798 ![] bcast_S_S8192x798 (constant S_ .f32 0x00000000#32))

theorem feat2_read (C : FVec Ideal S8192x774 .f32) (y : FVec Ideal S8192x24 .f32) (f g : ℕ → EReal) (r : Fin 8192) (hf : ∀ k, 0 ≤ f k)
    (hC : ∀ k : Fin 774, C (ix2 r k) = f k) (hy : ∀ k : Fin 24, y (ix2 r k) = g k) (k : Fin 798) : feat2 C y (ix2 r k) = ext 774 f g k := by
  pointwise [feat2]
  exact ext_read hf (fun _ => hC _) (fun _ => hy _)

/-- Level 2's layer. -/
def lay2 (C : FVec Ideal S8192x798 .f32) (W : FVec Ideal S96x798 .f32) (b : FVec Ideal S96 .f32) : FVec Ideal S8192x96 .f32 :=
  addf (Host.dotGeneral dot_S8192x798_S798x96_S8192x96_1_0_0_1_n_n none C (transpose S798x96 [1, 0] W transposes_S96x798_S798x96_1_0)) (broadcastInDim S8192x96 ![0, 1] bcast_S1x96_S8192x96_0_1 (broadcastInDim S1x96 ![1] bcast_S96_S1x96_1 b))

theorem lay2_read (C : FVec Ideal S8192x798 .f32) (W : FVec Ideal S96x798 .f32) (b : FVec Ideal S96 .f32) (f : ℕ → EReal) (r : Fin 8192)
    (hC : ∀ k : Fin 798, C (ix2 r k) = f k) (j : Fin 96) : lay2 C W b (ix2 r j) = lin 798 f (at2 W) (at1 b) j := by
  pointwise [lay2]
  exact lin_read hC (fun k => at2_val W _ _ j.2 k.2) (at1_val b _ j.2)

/-- The column words of level 2: its labels, negative ones counted from the end. -/
def idx2 (a : IVec S8190 32) : IVec S96x1 32 :=
  broadcastInDim S96x1 ![0] bcast_S96_S96x1_0 (select (cmpi .slt (extractStridedSlice S96 ![30] a slices_S8190_S96_30) (broadcastInDim S96 ![] bcast_S_S96 (constantI S_ 32 0#32))) (addi (extractStridedSlice S96 ![30] a slices_S8190_S96_30) (broadcastInDim S96 ![] bcast_S_S96 (constantI S_ 32 8190#32))) (extractStridedSlice S96 ![30] a slices_S8190_S96_30))

theorem idx2_read (a : IVec S8190 32) (hd : Distinct a) (j : Fin 96) : idx2 a (ix2 j 0) = a (ix1 ⟨30 + j, by omega⟩) := by
  pointwise [idx2]
  exact Routing.wrap_of_lt _ _ (by have := hd.lt ⟨30 + j, by omega⟩; omega)

/-- The features after level 2. -/
def feat3 (C : FVec Ideal S8192x798 .f32) (y : FVec Ideal S8192x96 .f32) : FVec Ideal S8192x894 .f32 :=
  maximumf (concatenate S8192x894 1 [⟨S8192x798, C⟩, ⟨S8192x96, y⟩] concatenates_S8192x798_S8192x96_S8192x894_d1) (broadcastInDim S8192x894 ![] bcast_S_S8192x894 (constant S_ .f32 0x00000000#32))

theorem feat3_read (C : FVec Ideal S8192x798 .f32) (y : FVec Ideal S8192x96 .f32) (f g : ℕ → EReal) (r : Fin 8192) (hf : ∀ k, 0 ≤ f k)
    (hC : ∀ k : Fin 798, C (ix2 r k) = f k) (hy : ∀ k : Fin 96, y (ix2 r k) = g k) (k : Fin 894) : feat3 C y (ix2 r k) = ext 798 f g k := by
  pointwise [feat3]
  exact ext_read hf (fun _ => hC _) (fun _ => hy _)

/-- Level 3's layer. -/
def lay3 (C : FVec Ideal S8192x894 .f32) (W : FVec Ideal S384x894 .f32) (b : FVec Ideal S384 .f32) : FVec Ideal S8192x384 .f32 :=
  addf (Host.dotGeneral dot_S8192x894_S894x384_S8192x384_1_0_0_1_n_n none C (transpose S894x384 [1, 0] W transposes_S384x894_S894x384_1_0)) (broadcastInDim S8192x384 ![0, 1] bcast_S1x384_S8192x384_0_1 (broadcastInDim S1x384 ![1] bcast_S384_S1x384_1 b))

theorem lay3_read (C : FVec Ideal S8192x894 .f32) (W : FVec Ideal S384x894 .f32) (b : FVec Ideal S384 .f32) (f : ℕ → EReal) (r : Fin 8192)
    (hC : ∀ k : Fin 894, C (ix2 r k) = f k) (j : Fin 384) : lay3 C W b (ix2 r j) = lin 894 f (at2 W) (at1 b) j := by
  pointwise [lay3]
  exact lin_read hC (fun k => at2_val W _ _ j.2 k.2) (at1_val b _ j.2)

/-- The column words of level 3: its labels, negative ones counted from the end. -/
def idx3 (a : IVec S8190 32) : IVec S384x1 32 :=
  broadcastInDim S384x1 ![0] bcast_S384_S384x1_0 (select (cmpi .slt (extractStridedSlice S384 ![126] a slices_S8190_S384_126) (broadcastInDim S384 ![] bcast_S_S384 (constantI S_ 32 0#32))) (addi (extractStridedSlice S384 ![126] a slices_S8190_S384_126) (broadcastInDim S384 ![] bcast_S_S384 (constantI S_ 32 8190#32))) (extractStridedSlice S384 ![126] a slices_S8190_S384_126))

theorem idx3_read (a : IVec S8190 32) (hd : Distinct a) (j : Fin 384) : idx3 a (ix2 j 0) = a (ix1 ⟨126 + j, by omega⟩) := by
  pointwise [idx3]
  exact Routing.wrap_of_lt _ _ (by have := hd.lt ⟨126 + j, by omega⟩; omega)

/-- The features after level 3. -/
def feat4 (C : FVec Ideal S8192x894 .f32) (y : FVec Ideal S8192x384 .f32) : FVec Ideal S8192x1278 .f32 :=
  maximumf (concatenate S8192x1278 1 [⟨S8192x894, C⟩, ⟨S8192x384, y⟩] concatenates_S8192x894_S8192x384_S8192x1278_d1) (broadcastInDim S8192x1278 ![] bcast_S_S8192x1278 (constant S_ .f32 0x00000000#32))

theorem feat4_read (C : FVec Ideal S8192x894 .f32) (y : FVec Ideal S8192x384 .f32) (f g : ℕ → EReal) (r : Fin 8192) (hf : ∀ k, 0 ≤ f k)
    (hC : ∀ k : Fin 894, C (ix2 r k) = f k) (hy : ∀ k : Fin 384, y (ix2 r k) = g k) (k : Fin 1278) : feat4 C y (ix2 r k) = ext 894 f g k := by
  pointwise [feat4]
  exact ext_read hf (fun _ => hC _) (fun _ => hy _)

/-- Level 4's layer. -/
def lay4 (C : FVec Ideal S8192x1278 .f32) (W : FVec Ideal S1536x1278 .f32) (b : FVec Ideal S1536 .f32) : FVec Ideal S8192x1536 .f32 :=
  addf (Host.dotGeneral dot_S8192x1278_S1278x1536_S8192x1536_1_0_0_1_n_n none C (transpose S1278x1536 [1, 0] W transposes_S1536x1278_S1278x1536_1_0)) (broadcastInDim S8192x1536 ![0, 1] bcast_S1x1536_S8192x1536_0_1 (broadcastInDim S1x1536 ![1] bcast_S1536_S1x1536_1 b))

theorem lay4_read (C : FVec Ideal S8192x1278 .f32) (W : FVec Ideal S1536x1278 .f32) (b : FVec Ideal S1536 .f32) (f : ℕ → EReal) (r : Fin 8192)
    (hC : ∀ k : Fin 1278, C (ix2 r k) = f k) (j : Fin 1536) : lay4 C W b (ix2 r j) = lin 1278 f (at2 W) (at1 b) j := by
  pointwise [lay4]
  exact lin_read hC (fun k => at2_val W _ _ j.2 k.2) (at1_val b _ j.2)

/-- The column words of level 4: its labels, negative ones counted from the end. -/
def idx4 (a : IVec S8190 32) : IVec S1536x1 32 :=
  broadcastInDim S1536x1 ![0] bcast_S1536_S1536x1_0 (select (cmpi .slt (extractStridedSlice S1536 ![510] a slices_S8190_S1536_510) (broadcastInDim S1536 ![] bcast_S_S1536 (constantI S_ 32 0#32))) (addi (extractStridedSlice S1536 ![510] a slices_S8190_S1536_510) (broadcastInDim S1536 ![] bcast_S_S1536 (constantI S_ 32 8190#32))) (extractStridedSlice S1536 ![510] a slices_S8190_S1536_510))

theorem idx4_read (a : IVec S8190 32) (hd : Distinct a) (j : Fin 1536) : idx4 a (ix2 j 0) = a (ix1 ⟨510 + j, by omega⟩) := by
  pointwise [idx4]
  exact Routing.wrap_of_lt _ _ (by have := hd.lt ⟨510 + j, by omega⟩; omega)

/-- The features after level 4. -/
def feat5 (C : FVec Ideal S8192x1278 .f32) (y : FVec Ideal S8192x1536 .f32) : FVec Ideal S8192x2814 .f32 :=
  maximumf (concatenate S8192x2814 1 [⟨S8192x1278, C⟩, ⟨S8192x1536, y⟩] concatenates_S8192x1278_S8192x1536_S8192x2814_d1) (broadcastInDim S8192x2814 ![] bcast_S_S8192x2814 (constant S_ .f32 0x00000000#32))

theorem feat5_read (C : FVec Ideal S8192x1278 .f32) (y : FVec Ideal S8192x1536 .f32) (f g : ℕ → EReal) (r : Fin 8192) (hf : ∀ k, 0 ≤ f k)
    (hC : ∀ k : Fin 1278, C (ix2 r k) = f k) (hy : ∀ k : Fin 1536, y (ix2 r k) = g k) (k : Fin 2814) : feat5 C y (ix2 r k) = ext 1278 f g k := by
  pointwise [feat5]
  exact ext_read hf (fun _ => hC _) (fun _ => hy _)

/-- Level 5's layer. -/
def lay5 (C : FVec Ideal S8192x2814 .f32) (W : FVec Ideal S6144x2814 .f32) (b : FVec Ideal S6144 .f32) : FVec Ideal S8192x6144 .f32 :=
  addf (Host.dotGeneral dot_S8192x2814_S2814x6144_S8192x6144_1_0_0_1_n_n none C (transpose S2814x6144 [1, 0] W transposes_S6144x2814_S2814x6144_1_0)) (broadcastInDim S8192x6144 ![0, 1] bcast_S1x6144_S8192x6144_0_1 (broadcastInDim S1x6144 ![1] bcast_S6144_S1x6144_1 b))

theorem lay5_read (C : FVec Ideal S8192x2814 .f32) (W : FVec Ideal S6144x2814 .f32) (b : FVec Ideal S6144 .f32) (f : ℕ → EReal) (r : Fin 8192)
    (hC : ∀ k : Fin 2814, C (ix2 r k) = f k) (j : Fin 6144) : lay5 C W b (ix2 r j) = lin 2814 f (at2 W) (at1 b) j := by
  pointwise [lay5]
  exact lin_read hC (fun k => at2_val W _ _ j.2 k.2) (at1_val b _ j.2)

/-- The column words of level 5: its labels, negative ones counted from the end. -/
def idx5 (a : IVec S8190 32) : IVec S6144x1 32 :=
  broadcastInDim S6144x1 ![0] bcast_S6144_S6144x1_0 (select (cmpi .slt (extractStridedSlice S6144 ![2046] a slices_S8190_S6144_2046) (broadcastInDim S6144 ![] bcast_S_S6144 (constantI S_ 32 0#32))) (addi (extractStridedSlice S6144 ![2046] a slices_S8190_S6144_2046) (broadcastInDim S6144 ![] bcast_S_S6144 (constantI S_ 32 8190#32))) (extractStridedSlice S6144 ![2046] a slices_S8190_S6144_2046))

theorem idx5_read (a : IVec S8190 32) (hd : Distinct a) (j : Fin 6144) : idx5 a (ix2 j 0) = a (ix1 ⟨2046 + j, by omega⟩) := by
  pointwise [idx5]
  exact Routing.wrap_of_lt _ _ (by have := hd.lt ⟨2046 + j, by omega⟩; omega)

/-! ## The whole -/

variable (m : (ℓ : Loc nD τ sig) → Buf (Elt Ideal) ℓ) (c : Dev nD)

def Y0 : FVec Ideal S8192x6 .f32 := lay0 (m ((c.tc : Thread nD τ).loc main_arg0)) (m ((c.tc : Thread nD τ).loc main_arg1)) (m ((c.tc : Thread nD τ).loc main_arg2))
def C1 : FVec Ideal S8192x774 .f32 := feat1 (m ((c.tc : Thread nD τ).loc main_arg0)) (Y0 m c)
def Y1 : FVec Ideal S8192x24 .f32 := lay1 (C1 m c) (m ((c.tc : Thread nD τ).loc main_arg3)) (m ((c.tc : Thread nD τ).loc main_arg4))
def C2 : FVec Ideal S8192x798 .f32 := feat2 (C1 m c) (Y1 m c)
def Y2 : FVec Ideal S8192x96 .f32 := lay2 (C2 m c) (m ((c.tc : Thread nD τ).loc main_arg5)) (m ((c.tc : Thread nD τ).loc main_arg6))
def C3 : FVec Ideal S8192x894 .f32 := feat3 (C2 m c) (Y2 m c)
def Y3 : FVec Ideal S8192x384 .f32 := lay3 (C3 m c) (m ((c.tc : Thread nD τ).loc main_arg7)) (m ((c.tc : Thread nD τ).loc main_arg8))
def C4 : FVec Ideal S8192x1278 .f32 := feat4 (C3 m c) (Y3 m c)
def Y4 : FVec Ideal S8192x1536 .f32 := lay4 (C4 m c) (m ((c.tc : Thread nD τ).loc main_arg9)) (m ((c.tc : Thread nD τ).loc main_arg10))
def C5 : FVec Ideal S8192x2814 .f32 := feat5 (C4 m c) (Y4 m c)
def Y5 : FVec Ideal S8192x6144 .f32 := lay5 (C5 m c) (m ((c.tc : Thread nD τ).loc main_arg11)) (m ((c.tc : Thread nD τ).loc main_arg12))

/-- The reference's result is the six scatters over the levels' outputs. -/
theorem res_eq : res_main_v88 m c = Host.scatter scatter_S8192x8190_S6144x1_S8192x6144_0_1_1_1 (fun _ b => b) (Host.scatter scatter_S8192x8190_S1536x1_S8192x1536_0_1_1_1 (fun _ b => b) (Host.scatter scatter_S8192x8190_S384x1_S8192x384_0_1_1_1 (fun _ b => b) (Host.scatter scatter_S8192x8190_S96x1_S8192x96_0_1_1_1 (fun _ b => b) (Host.scatter scatter_S8192x8190_S24x1_S8192x24_0_1_1_1 (fun _ b => b) (Host.scatter scatter_S8192x8190_S6x1_S8192x6_0_1_1_1 (fun _ b => b) (broadcastInDim S8192x8190 ![] bcast_S_S8192x8190 (constant S_ .f32 0x00000000#32)) (idx0 (m ((c.tc : Thread nD τ).loc main_arg13))) (Y0 m c)) (idx1 (m ((c.tc : Thread nD τ).loc main_arg13))) (Y1 m c)) (idx2 (m ((c.tc : Thread nD τ).loc main_arg13))) (Y2 m c)) (idx3 (m ((c.tc : Thread nD τ).loc main_arg13))) (Y3 m c)) (idx4 (m ((c.tc : Thread nD τ).loc main_arg13))) (Y4 m c)) (idx5 (m ((c.tc : Thread nD τ).loc main_arg13))) (Y5 m c) := rfl

/-- Row `r` of the batch with the weights, as the arguments hold them. -/
def net (r : ℕ) : Net where
  x := at2 (n := 8192) (m := 768) (m ((c.tc : Thread nD τ).loc main_arg0)) r
  W l := match l with
    | 0 => at2 (n := 6) (m := 768) (m ((c.tc : Thread nD τ).loc main_arg1))
    | 1 => at2 (n := 24) (m := 774) (m ((c.tc : Thread nD τ).loc main_arg3))
    | 2 => at2 (n := 96) (m := 798) (m ((c.tc : Thread nD τ).loc main_arg5))
    | 3 => at2 (n := 384) (m := 894) (m ((c.tc : Thread nD τ).loc main_arg7))
    | 4 => at2 (n := 1536) (m := 1278) (m ((c.tc : Thread nD τ).loc main_arg9))
    | _ => at2 (n := 6144) (m := 2814) (m ((c.tc : Thread nD τ).loc main_arg11))
  b l := match l with
    | 0 => at1 (n := 6) (m ((c.tc : Thread nD τ).loc main_arg2))
    | 1 => at1 (n := 24) (m ((c.tc : Thread nD τ).loc main_arg4))
    | 2 => at1 (n := 96) (m ((c.tc : Thread nD τ).loc main_arg6))
    | 3 => at1 (n := 384) (m ((c.tc : Thread nD τ).loc main_arg8))
    | 4 => at1 (n := 1536) (m ((c.tc : Thread nD τ).loc main_arg10))
    | _ => at1 (n := 6144) (m ((c.tc : Thread nD τ).loc main_arg12))

variable (r : Fin 8192)

theorem X_read (k : Fin 768) : (show FVec Ideal S8192x768 .f32 from (m ((c.tc : Thread nD τ).loc main_arg0))) (ix2 r k) = (net m c r).x k := at2_val _ _ _ r.2 k.2
theorem Y0_read (j : Fin 6) : Y0 m c (ix2 r j) = (net m c r).y0 j := lay0_read _ _ _ (net m c r).x r (X_read m c r) j
theorem C1_read (k : Fin 774) : C1 m c (ix2 r k) = (net m c r).f1 k := feat1_read _ _ (net m c r).x (net m c r).y0 r (X_read m c r) (Y0_read m c r) k
theorem Y1_read (j : Fin 24) : Y1 m c (ix2 r j) = (net m c r).y1 j := lay1_read _ _ _ (net m c r).f1 r (C1_read m c r) j
theorem C2_read (k : Fin 798) : C2 m c (ix2 r k) = (net m c r).f2 k := feat2_read _ _ (net m c r).f1 (net m c r).y1 r (net m c r).f1_nonneg (C1_read m c r) (Y1_read m c r) k
theorem Y2_read (j : Fin 96) : Y2 m c (ix2 r j) = (net m c r).y2 j := lay2_read _ _ _ (net m c r).f2 r (C2_read m c r) j
theorem C3_read (k : Fin 894) : C3 m c (ix2 r k) = (net m c r).f3 k := feat3_read _ _ (net m c r).f2 (net m c r).y2 r (net m c r).f2_nonneg (C2_read m c r) (Y2_read m c r) k
theorem Y3_read (j : Fin 384) : Y3 m c (ix2 r j) = (net m c r).y3 j := lay3_read _ _ _ (net m c r).f3 r (C3_read m c r) j
theorem C4_read (k : Fin 1278) : C4 m c (ix2 r k) = (net m c r).f4 k := feat4_read _ _ (net m c r).f3 (net m c r).y3 r (net m c r).f3_nonneg (C3_read m c r) (Y3_read m c r) k
theorem Y4_read (j : Fin 1536) : Y4 m c (ix2 r j) = (net m c r).y4 j := lay4_read _ _ _ (net m c r).f4 r (C4_read m c r) j
theorem C5_read (k : Fin 2814) : C5 m c (ix2 r k) = (net m c r).f5 k := feat5_read _ _ (net m c r).f4 (net m c r).y4 r (net m c r).f4_nonneg (C4_read m c r) (Y4_read m c r) k
theorem Y5_read (j : Fin 6144) : Y5 m c (ix2 r j) = (net m c r).y5 j := lay5_read _ _ _ (net m c r).f5 r (C5_read m c r) j

theorem sc0 (hd : Distinct (m ((c.tc : Thread nD τ).loc main_arg13))) (x0 : S8192x8190.Idx → EReal) (J j : Fin 8190) (r : Fin 8192) (hJ : (((m ((c.tc : Thread nD τ).loc main_arg13)) : IVec S8190 32) (ix1 J)).toNat = j.val) :
    Host.scatter scatter_S8192x8190_S6x1_S8192x6_0_1_1_1 (fun _ b => b) x0 (idx0 (m ((c.tc : Thread nD τ).loc main_arg13))) (Y0 m c) (ix2 r j)
      = if h : 0 ≤ J.val ∧ J.val < 0 + 6 then Y0 m c (ix2 r ⟨J.val - 0, by omega⟩) else x0 (ix2 r j) :=
  scatter_read scatter_S8192x8190_S6x1_S8192x6_0_1_1_1 rfl rfl rfl rfl 0 (by omega) _ hd x0 _ (idx0_read _ hd) (Y0 m c) J j r hJ

theorem sc1 (hd : Distinct (m ((c.tc : Thread nD τ).loc main_arg13))) (x0 : S8192x8190.Idx → EReal) (J j : Fin 8190) (r : Fin 8192) (hJ : (((m ((c.tc : Thread nD τ).loc main_arg13)) : IVec S8190 32) (ix1 J)).toNat = j.val) :
    Host.scatter scatter_S8192x8190_S24x1_S8192x24_0_1_1_1 (fun _ b => b) x0 (idx1 (m ((c.tc : Thread nD τ).loc main_arg13))) (Y1 m c) (ix2 r j)
      = if h : 6 ≤ J.val ∧ J.val < 6 + 24 then Y1 m c (ix2 r ⟨J.val - 6, by omega⟩) else x0 (ix2 r j) :=
  scatter_read scatter_S8192x8190_S24x1_S8192x24_0_1_1_1 rfl rfl rfl rfl 6 (by omega) _ hd x0 _ (idx1_read _ hd) (Y1 m c) J j r hJ

theorem sc2 (hd : Distinct (m ((c.tc : Thread nD τ).loc main_arg13))) (x0 : S8192x8190.Idx → EReal) (J j : Fin 8190) (r : Fin 8192) (hJ : (((m ((c.tc : Thread nD τ).loc main_arg13)) : IVec S8190 32) (ix1 J)).toNat = j.val) :
    Host.scatter scatter_S8192x8190_S96x1_S8192x96_0_1_1_1 (fun _ b => b) x0 (idx2 (m ((c.tc : Thread nD τ).loc main_arg13))) (Y2 m c) (ix2 r j)
      = if h : 30 ≤ J.val ∧ J.val < 30 + 96 then Y2 m c (ix2 r ⟨J.val - 30, by omega⟩) else x0 (ix2 r j) :=
  scatter_read scatter_S8192x8190_S96x1_S8192x96_0_1_1_1 rfl rfl rfl rfl 30 (by omega) _ hd x0 _ (idx2_read _ hd) (Y2 m c) J j r hJ

theorem sc3 (hd : Distinct (m ((c.tc : Thread nD τ).loc main_arg13))) (x0 : S8192x8190.Idx → EReal) (J j : Fin 8190) (r : Fin 8192) (hJ : (((m ((c.tc : Thread nD τ).loc main_arg13)) : IVec S8190 32) (ix1 J)).toNat = j.val) :
    Host.scatter scatter_S8192x8190_S384x1_S8192x384_0_1_1_1 (fun _ b => b) x0 (idx3 (m ((c.tc : Thread nD τ).loc main_arg13))) (Y3 m c) (ix2 r j)
      = if h : 126 ≤ J.val ∧ J.val < 126 + 384 then Y3 m c (ix2 r ⟨J.val - 126, by omega⟩) else x0 (ix2 r j) :=
  scatter_read scatter_S8192x8190_S384x1_S8192x384_0_1_1_1 rfl rfl rfl rfl 126 (by omega) _ hd x0 _ (idx3_read _ hd) (Y3 m c) J j r hJ

theorem sc4 (hd : Distinct (m ((c.tc : Thread nD τ).loc main_arg13))) (x0 : S8192x8190.Idx → EReal) (J j : Fin 8190) (r : Fin 8192) (hJ : (((m ((c.tc : Thread nD τ).loc main_arg13)) : IVec S8190 32) (ix1 J)).toNat = j.val) :
    Host.scatter scatter_S8192x8190_S1536x1_S8192x1536_0_1_1_1 (fun _ b => b) x0 (idx4 (m ((c.tc : Thread nD τ).loc main_arg13))) (Y4 m c) (ix2 r j)
      = if h : 510 ≤ J.val ∧ J.val < 510 + 1536 then Y4 m c (ix2 r ⟨J.val - 510, by omega⟩) else x0 (ix2 r j) :=
  scatter_read scatter_S8192x8190_S1536x1_S8192x1536_0_1_1_1 rfl rfl rfl rfl 510 (by omega) _ hd x0 _ (idx4_read _ hd) (Y4 m c) J j r hJ

theorem sc5 (hd : Distinct (m ((c.tc : Thread nD τ).loc main_arg13))) (x0 : S8192x8190.Idx → EReal) (J j : Fin 8190) (r : Fin 8192) (hJ : (((m ((c.tc : Thread nD τ).loc main_arg13)) : IVec S8190 32) (ix1 J)).toNat = j.val) :
    Host.scatter scatter_S8192x8190_S6144x1_S8192x6144_0_1_1_1 (fun _ b => b) x0 (idx5 (m ((c.tc : Thread nD τ).loc main_arg13))) (Y5 m c) (ix2 r j)
      = if h : 2046 ≤ J.val ∧ J.val < 2046 + 6144 then Y5 m c (ix2 r ⟨J.val - 2046, by omega⟩) else x0 (ix2 r j) :=
  scatter_read scatter_S8192x8190_S6144x1_S8192x6144_0_1_1_1 rfl rfl rfl rfl 2046 (by omega) _ hd x0 _ (idx5_read _ hd) (Y5 m c) J j r hJ

/-- The reference at row `r` and the column that label `J` names. -/
theorem res_read (hd : Distinct (m ((c.tc : Thread nD τ).loc main_arg13))) (J j : Fin 8190) (hJ : (((m ((c.tc : Thread nD τ).loc main_arg13)) : IVec S8190 32) (ix1 J)).toNat = j.val) :
    res_main_v88 m c (ix2 r j) = (net m c r).out J := by
  rw [res_eq]
  rw [sc5 m c hd _ J j r hJ]
  split
  · next h => rw [Y5_read]; unfold Net.out; split_ifs <;> first | omega | rfl
  next h5 =>
  rw [sc4 m c hd _ J j r hJ]
  split
  · next h => rw [Y4_read]; unfold Net.out; split_ifs <;> first | omega | rfl
  next h4 =>
  rw [sc3 m c hd _ J j r hJ]
  split
  · next h => rw [Y3_read]; unfold Net.out; split_ifs <;> first | omega | rfl
  next h3 =>
  rw [sc2 m c hd _ J j r hJ]
  split
  · next h => rw [Y2_read]; unfold Net.out; split_ifs <;> first | omega | rfl
  next h2 =>
  rw [sc1 m c hd _ J j r hJ]
  split
  · next h => rw [Y1_read]; unfold Net.out; split_ifs <;> first | omega | rfl
  next h1 =>
  rw [sc0 m c hd _ J j r hJ]
  split
  · next h => rw [Y0_read]; unfold Net.out; split_ifs <;> first | omega | rfl
  next h0 =>
  have := J.2; omega

end Cert.ReferenceIdeal.Value

end
-- ==== Proof.HostValue.lean ====
/- What the host computes before the first region, read at an index: the layers' weights transposed and biases as rows
   (the first region's operands), and the rows of the one weight matrix of the last region (`Net.wext`).
-/
module

public import proofs.«01_k».proof.Proof.Regions
public import proofs.«01_k».proof.Proof.Model
public import Idealize.ShloMosaic.Lib.Pointwise

@[expose] public section

set_option maxRecDepth 16384

noncomputable section

namespace Cert.KernelIdeal.Gen

open Idealize.ShloMosaic Idealize.ShloMosaic.TcCoe
open Cert.Model

/-! ## Rows of the weight matrix -/

/-- An index given coordinate by coordinate is the pair of its coordinates. -/
theorem norm_ix2 {a b : ℕ} (i : (⟨2, ![a, b]⟩ : Shape).Idx) (p : Fin a) (q : Fin b) (h0 : (i 0).val = p.val) (h1 : (i 1).val = q.val) :
    Shape.Idx.norm i = ix2 p q := by
  funext x
  match x with
  | ⟨0, _⟩ => exact Fin.ext h0
  | ⟨1, _⟩ => exact Fin.ext h1

/-- A level's rows: its weights, zeros, the bias at column 2814, zeros. -/
theorem level_row {w n z : ℕ} (hz : n + z = 2814) (W : (⟨2, ![w, n]⟩ : Shape).Idx → EReal) (Z : (⟨2, ![w, z]⟩ : Shape).Idx → EReal)
    (B : (⟨2, ![w, 1]⟩ : Shape).Idx → EReal) (Y : (⟨2, ![w, 129]⟩ : Shape).Idx → EReal)
    (h : Shape.Concatenates [(⟨2, ![w, n]⟩ : Shape), ⟨2, ![w, z]⟩, ⟨2, ![w, 1]⟩, ⟨2, ![w, 129]⟩] ⟨2, ![w, 2944]⟩ 1)
    (hZ : ∀ i, Z i = 0) (hY : ∀ i, Y i = 0) (f : ℕ → EReal) (b : EReal) (j : Fin w) (hW : ∀ k, W (ix2 j k) = f k.val) (hB : B (ix2 j 0) = b) (k : Fin 2944) :
    concatenate (⟨2, ![w, 2944]⟩ : Shape) 1 [⟨_, W⟩, ⟨_, Z⟩, ⟨_, B⟩, ⟨_, Y⟩] h (ix2 j k) = Net.wrow n f b k.val := by
  pointwise []
  unfold Net.wrow
  split
  · next h1 => rw [norm_ix2 _ j ⟨k.val, h1⟩ rfl rfl]; exact hW _
  next h1 =>
  split
  · next h2 => rw [if_pos (by omega)]; exact hZ _
  next h2 =>
  rw [if_neg (by omega)]
  split
  · next h3 => rw [if_pos (by omega), norm_ix2 _ j (0 : Fin 1) rfl (by show k.val - n - z = 0; omega)]; exact hB
  · next h3 => rw [if_neg (by omega)]; exact hY _

/-- The first level's rows: zeros, a one at the output's own column, zeros. -/
theorem eye_row (Z : S6x2815.Idx → EReal) (E : S6x6.Idx → EReal) (Y : S6x123.Idx → EReal)
    (hZ : ∀ i, Z i = 0) (hE : ∀ i j, E (ix2 i j) = if i = j then 1 else 0) (hY : ∀ i, Y i = 0) (j : Fin 6) (k : Fin 2944) :
    concatenate S6x2944 1 [⟨S6x2815, Z⟩, ⟨S6x6, E⟩, ⟨S6x123, Y⟩] concatenates_S6x2815_S6x6_S6x123_S6x2944_d1 (ix2 j k) = Net.erow j.val k.val := by
  pointwise []
  have off : k.val ≠ 2815 + j.val → Net.erow j.val k.val = 0 := fun h => if_neg h
  split
  · next h => exact (hZ _).trans (off (by omega)).symm
  next h =>
  split
  · next h' =>
    refine (hE _ _).trans (if_congr (Fin.ext_iff.trans ?_) rfl rfl)
    show j.val = k.val - 2815 ↔ k.val = 2815 + j.val
    omega
  · next h' => exact (hY _).trans (off (by have := j.isLt; omega)).symm

/-! Each level's rows by their numbers. -/

theorem wext_1 (N : Net) {j : ℕ} (k : ℕ) (g : ¬ j < 6) (h : j - 6 < 24) : N.wext j k = Net.wrow 774 (N.W 1 (j - 6)) (N.b 1 (j - 6)) k := by
  rw [Net.wext, if_neg (by omega), if_pos (by omega)]
theorem wext_2 (N : Net) {j : ℕ} (k : ℕ) (g : ¬ j < 30) (h : j - 30 < 96) : N.wext j k = Net.wrow 798 (N.W 2 (j - 30)) (N.b 2 (j - 30)) k := by
  rw [Net.wext, if_neg (by omega), if_neg (by omega), if_pos (by omega)]
theorem wext_3 (N : Net) {j : ℕ} (k : ℕ) (g : ¬ j < 126) (h : j - 126 < 384) : N.wext j k = Net.wrow 894 (N.W 3 (j - 126)) (N.b 3 (j - 126)) k := by
  rw [Net.wext, if_neg (by omega), if_neg (by omega), if_neg (by omega), if_pos (by omega)]
theorem wext_4 (N : Net) {j : ℕ} (k : ℕ) (g : ¬ j < 510) (h : j - 510 < 1536) : N.wext j k = Net.wrow 1278 (N.W 4 (j - 510)) (N.b 4 (j - 510)) k := by
  rw [Net.wext, if_neg (by omega), if_neg (by omega), if_neg (by omega), if_neg (by omega), if_pos (by omega)]
theorem wext_5 (N : Net) {j : ℕ} (k : ℕ) (g : ¬ j < 2046) (h : j - 2046 < 6144) : N.wext j k = Net.wrow 2814 (N.W 5 (j - 2046)) (N.b 5 (j - 2046)) k := by
  rw [Net.wext, if_neg (by omega), if_neg (by omega), if_neg (by omega), if_neg (by omega), if_neg (by omega)]

/-- The rows of the levels one below the other. -/
theorem rows (A0 : S6x2944.Idx → EReal) (A1 : S24x2944.Idx → EReal) (A2 : S96x2944.Idx → EReal) (A3 : S384x2944.Idx → EReal)
    (A4 : S1536x2944.Idx → EReal) (A5 : S6144x2944.Idx → EReal) (A6 : S2x2944.Idx → EReal) (N : Net) (j : Fin 8192) (k : Fin 2944) (hj : j.val < 8190)
    (h0 : ∀ j, A0 (ix2 j k) = Net.erow j.val k.val)
    (h1 : ∀ j, A1 (ix2 j k) = Net.wrow 774 (N.W 1 j.val) (N.b 1 j.val) k.val)
    (h2 : ∀ j, A2 (ix2 j k) = Net.wrow 798 (N.W 2 j.val) (N.b 2 j.val) k.val)
    (h3 : ∀ j, A3 (ix2 j k) = Net.wrow 894 (N.W 3 j.val) (N.b 3 j.val) k.val)
    (h4 : ∀ j, A4 (ix2 j k) = Net.wrow 1278 (N.W 4 j.val) (N.b 4 j.val) k.val)
    (h5 : ∀ j, A5 (ix2 j k) = Net.wrow 2814 (N.W 5 j.val) (N.b 5 j.val) k.val) :
    concatenate S8192x2944 0 [⟨S6x2944, A0⟩, ⟨S24x2944, A1⟩, ⟨S96x2944, A2⟩, ⟨S384x2944, A3⟩, ⟨S1536x2944, A4⟩, ⟨S6144x2944, A5⟩, ⟨S2x2944, A6⟩]
      concatenates_S6x2944_S24x2944_S96x2944_S384x2944_S1536x2944_S6144x2944_S2x2944_S8192x2944_d0 (ix2 j k) = N.wext j.val k.val := by
  pointwise [Nat.sub_sub]
  split
  · next h => exact (h0 _).trans (if_pos h).symm
  next g0 =>
  split
  · next h => exact (h1 _).trans (wext_1 N k.val (by omega) h).symm
  next g1 =>
  split
  · next h => exact (h2 _).trans (wext_2 N k.val (by omega) h).symm
  next g2 =>
  split
  · next h => exact (h3 _).trans (wext_3 N k.val (by omega) h).symm
  next g3 =>
  split
  · next h => exact (h4 _).trans (wext_4 N k.val (by omega) h).symm
  next g4 =>
  split
  · next h => exact (h5 _).trans (wext_5 N k.val (by omega) h).symm
  · next g5 => omega

theorem eye_at (i j : Fin 6) :
    uitofp (F := Ideal) .f32 (cmpi .eq (addi (iotaInDim S6x6 32 0) (broadcastInDim S6x6 ![] bcast_S_S6x6 (constantI S_ 32 0#32))) (iotaInDim S6x6 32 1)) (ix2 i j)
      = if i = j then 1 else 0 := by
  pointwise []
  have e : ∀ i j : Fin 6, IntOp.cmpi CmpIPredicate.eq (IntOp.addi (BitVec.ofNat 32 i.val) 0#32) (BitVec.ofNat 32 j.val) = if i = j then 1#1 else 0#1 := by
    decide
  rw [e]
  split
  · show (((1#1 : BitVec 1).toNat : ℝ) : EReal) = 1
    exact (congrArg (fun n : ℕ => ((n : ℝ) : EReal)) (by decide : (1#1 : BitVec 1).toNat = 1)).trans (by simp)
  · show (((0#1 : BitVec 1).toNat : ℝ) : EReal) = 0
    exact (congrArg (fun n : ℕ => ((n : ℝ) : EReal)) (by decide : (0#1 : BitVec 1).toNat = 0)).trans (by simp)

variable (m : (ℓ : Loc nD τ sig) → Buf (Elt Ideal) ℓ)

/-- A broadcast zero reads zero. -/
theorem zeros_at {s : Shape} (h : Shape.BroadcastsInDim S_ s ![]) (i : s.Idx) :
    broadcastInDim s ![] h (constant (F := Ideal) S_ .f32 0x00000000#32) i = 0 := by
  pointwise []

variable (c : Dev nD)

/-- Row `r` of the batch with the kernel's weights. -/
def netK (r : ℕ) : Net where
  x := at2 (n := 8192) (m := 768) (m ((c : Thread nD τ).loc main_arg0)) r
  W l := match l with
    | 0 => at2 (n := 6) (m := 768) (m ((c : Thread nD τ).loc main_arg1))
    | 1 => at2 (n := 24) (m := 774) (m ((c : Thread nD τ).loc main_arg3))
    | 2 => at2 (n := 96) (m := 798) (m ((c : Thread nD τ).loc main_arg5))
    | 3 => at2 (n := 384) (m := 894) (m ((c : Thread nD τ).loc main_arg7))
    | 4 => at2 (n := 1536) (m := 1278) (m ((c : Thread nD τ).loc main_arg9))
    | _ => at2 (n := 6144) (m := 2814) (m ((c : Thread nD τ).loc main_arg11))
  b l := match l with
    | 0 => at1 (n := 6) (m ((c : Thread nD τ).loc main_arg2))
    | 1 => at1 (n := 24) (m ((c : Thread nD τ).loc main_arg4))
    | 2 => at1 (n := 96) (m ((c : Thread nD τ).loc main_arg6))
    | 3 => at1 (n := 384) (m ((c : Thread nD τ).loc main_arg8))
    | 4 => at1 (n := 1536) (m ((c : Thread nD τ).loc main_arg10))
    | _ => at1 (n := 6144) (m ((c : Thread nD τ).loc main_arg12))

/-! ## The first region's operands -/

section Operands

variable (r : ℕ)

theorem arg0_at (r : Fin 8192) (k : Fin 768) : (V1 m c main_arg0 : S8192x768.Idx → EReal) (ix2 r k) = (netK m c r.val).x k.val := by
  rw [V1_of m c main_arg0 (by decide)]; exact at2_val _ _ _ r.isLt k.isLt

set_option maxHeartbeats 4000000 in
theorem v0_at (k : Fin 768) (j : Fin 6) : (V1 m c main_v0 : S768x6.Idx → EReal) (ix2 k j) = (netK m c r).W 0 j.val k.val := by
  have e : V1 m c main_v0 = transpose S768x6 [1, 0] (m ((c : Thread nD τ).loc main_arg1)) transposes_S6x768_S768x6_1_0 := by
    simp only [V1, hostOps0]; after_results_simp <;> rfl
  rw [e]; pointwise []; exact at2_val _ _ _ j.isLt k.isLt

set_option maxHeartbeats 4000000 in
theorem v5_at (j : Fin 6) : (V1 m c main_v5 : S1x6.Idx → EReal) (ix2 0 j) = (netK m c r).b 0 j.val := by
  have e : V1 m c main_v5 = shapeCast S1x6 (m ((c : Thread nD τ).loc main_arg2)) shapeCasts_S6_S1x6 := by
    simp only [V1, hostOps0]; after_results_simp <;> rfl
  rw [e]; pointwise []; exact at1_val _ _ j.isLt

set_option maxHeartbeats 4000000 in
theorem v1_at (k : Fin 774) (j : Fin 24) : (V1 m c main_v1 : S774x24.Idx → EReal) (ix2 k j) = (netK m c r).W 1 j.val k.val := by
  have e : V1 m c main_v1 = transpose S774x24 [1, 0] (m ((c : Thread nD τ).loc main_arg3)) transposes_S24x774_S774x24_1_0 := by
    simp only [V1, hostOps0]; after_results_simp <;> rfl
  rw [e]; pointwise []; exact at2_val _ _ _ j.isLt k.isLt

set_option maxHeartbeats 4000000 in
theorem v6_at (j : Fin 24) : (V1 m c main_v6 : S1x24.Idx → EReal) (ix2 0 j) = (netK m c r).b 1 j.val := by
  have e : V1 m c main_v6 = shapeCast S1x24 (m ((c : Thread nD τ).loc main_arg4)) shapeCasts_S24_S1x24 := by
    simp only [V1, hostOps0]; after_results_simp <;> rfl
  rw [e]; pointwise []; exact at1_val _ _ j.isLt

set_option maxHeartbeats 4000000 in
theorem v2_at (k : Fin 798) (j : Fin 96) : (V1 m c main_v2 : S798x96.Idx → EReal) (ix2 k j) = (netK m c r).W 2 j.val k.val := by
  have e : V1 m c main_v2 = transpose S798x96 [1, 0] (m ((c : Thread nD τ).loc main_arg5)) transposes_S96x798_S798x96_1_0 := by
    simp only [V1, hostOps0]; after_results_simp <;> rfl
  rw [e]; pointwise []; exact at2_val _ _ _ j.isLt k.isLt

set_option maxHeartbeats 4000000 in
theorem v7_at (j : Fin 96) : (V1 m c main_v7 : S1x96.Idx → EReal) (ix2 0 j) = (netK m c r).b 2 j.val := by
  have e : V1 m c main_v7 = shapeCast S1x96 (m ((c : Thread nD τ).loc main_arg6)) shapeCasts_S96_S1x96 := by
    simp only [V1, hostOps0]; after_results_simp <;> rfl
  rw [e]; pointwise []; exact at1_val _ _ j.isLt

set_option maxHeartbeats 4000000 in
theorem v3_at (k : Fin 894) (j : Fin 384) : (V1 m c main_v3 : S894x384.Idx → EReal) (ix2 k j) = (netK m c r).W 3 j.val k.val := by
  have e : V1 m c main_v3 = transpose S894x384 [1, 0] (m ((c : Thread nD τ).loc main_arg7)) transposes_S384x894_S894x384_1_0 := by
    simp only [V1, hostOps0]; after_results_simp <;> rfl
  rw [e]; pointwise []; exact at2_val _ _ _ j.isLt k.isLt

set_option maxHeartbeats 4000000 in
theorem v8_at (j : Fin 384) : (V1 m c main_v8 : S1x384.Idx → EReal) (ix2 0 j) = (netK m c r).b 3 j.val := by
  have e : V1 m c main_v8 = shapeCast S1x384 (m ((c : Thread nD τ).loc main_arg8)) shapeCasts_S384_S1x384 := by
    simp only [V1, hostOps0]; after_results_simp <;> rfl
  rw [e]; pointwise []; exact at1_val _ _ j.isLt

set_option maxHeartbeats 4000000 in
theorem v4_at (k : Fin 1278) (j : Fin 1536) : (V1 m c main_v4 : S1278x1536.Idx → EReal) (ix2 k j) = (netK m c r).W 4 j.val k.val := by
  have e : V1 m c main_v4 = transpose S1278x1536 [1, 0] (m ((c : Thread nD τ).loc main_arg9)) transposes_S1536x1278_S1278x1536_1_0 := by
    simp only [V1, hostOps0]; after_results_simp <;> rfl
  rw [e]; pointwise []; exact at2_val _ _ _ j.isLt k.isLt

set_option maxHeartbeats 4000000 in
theorem v9_at (j : Fin 1536) : (V1 m c main_v9 : S1x1536.Idx → EReal) (ix2 0 j) = (netK m c r).b 4 j.val := by
  have e : V1 m c main_v9 = shapeCast S1x1536 (m ((c : Thread nD τ).loc main_arg10)) shapeCasts_S1536_S1x1536 := by
    simp only [V1, hostOps0]; after_results_simp <;> rfl
  rw [e]; pointwise []; exact at1_val _ _ j.isLt

end Operands

/-! ## The weight matrix -/

set_option maxHeartbeats 4000000 in
theorem v19_at (j : Fin 6) (k : Fin 2944) : (V1 m c main_v19 : S6x2944.Idx → EReal) (ix2 j k) = Net.erow j.val k.val := by
  have e : V1 m c main_v19 = concatenate S6x2944 1 [⟨S6x2815, broadcastInDim S6x2815 ![] bcast_S_S6x2815 (constant (F := Ideal) S_ .f32 0x00000000#32)⟩,
      ⟨S6x6, uitofp (F := Ideal) .f32 (cmpi .eq (addi (iotaInDim S6x6 32 0) (broadcastInDim S6x6 ![] bcast_S_S6x6 (constantI S_ 32 0#32))) (iotaInDim S6x6 32 1))⟩,
      ⟨S6x123, broadcastInDim S6x123 ![] bcast_S_S6x123 (constant (F := Ideal) S_ .f32 0x00000000#32)⟩] concatenates_S6x2815_S6x6_S6x123_S6x2944_d1 := by
    simp only [V1, hostOps0]; after_results_simp <;> rfl
  rw [e]
  exact eye_row _ _ _ (zeros_at _) eye_at (zeros_at _) j k

set_option maxHeartbeats 4000000 in
theorem v23_at (r : ℕ) (j : Fin 24) (k : Fin 2944) : (V1 m c main_v23 : S24x2944.Idx → EReal) (ix2 j k)
    = Net.wrow 774 ((netK m c r).W 1 j.val) ((netK m c r).b 1 j.val) k.val := by
  have e : V1 m c main_v23 = concatenate S24x2944 1 [⟨S24x774, m ((c : Thread nD τ).loc main_arg3)⟩,
      ⟨S24x2040, broadcastInDim S24x2040 ![] bcast_S_S24x2040 (constant (F := Ideal) S_ .f32 0x00000000#32)⟩,
      ⟨S24x1, shapeCast S24x1 (m ((c : Thread nD τ).loc main_arg4)) shapeCasts_S24_S24x1⟩,
      ⟨S24x129, broadcastInDim S24x129 ![] bcast_S_S24x129 (constant (F := Ideal) S_ .f32 0x00000000#32)⟩]
      concatenates_S24x774_S24x2040_S24x1_S24x129_S24x2944_d1 := by
    simp only [V1, hostOps0]; after_results_simp <;> rfl
  rw [e]
  exact level_row rfl _ _ _ _ _ (zeros_at _) (zeros_at _) _ _ j (fun k => at2_val _ _ _ j.isLt k.isLt) (by pointwise []; exact at1_val _ _ j.isLt) k

set_option maxHeartbeats 4000000 in
theorem v27_at (r : ℕ) (j : Fin 96) (k : Fin 2944) : (V1 m c main_v27 : S96x2944.Idx → EReal) (ix2 j k)
    = Net.wrow 798 ((netK m c r).W 2 j.val) ((netK m c r).b 2 j.val) k.val := by
  have e : V1 m c main_v27 = concatenate S96x2944 1 [⟨S96x798, m ((c : Thread nD τ).loc main_arg5)⟩,
      ⟨S96x2016, broadcastInDim S96x2016 ![] bcast_S_S96x2016 (constant (F := Ideal) S_ .f32 0x00000000#32)⟩,
      ⟨S96x1, shapeCast S96x1 (m ((c : Thread nD τ).loc main_arg6)) shapeCasts_S96_S96x1⟩,
      ⟨S96x129, broadcastInDim S96x129 ![] bcast_S_S96x129 (constant (F := Ideal) S_ .f32 0x00000000#32)⟩]
      concatenates_S96x798_S96x2016_S96x1_S96x129_S96x2944_d1 := by
    simp only [V1, hostOps0]; after_results_simp <;> rfl
  rw [e]
  exact level_row rfl _ _ _ _ _ (zeros_at _) (zeros_at _) _ _ j (fun k => at2_val _ _ _ j.isLt k.isLt) (by pointwise []; exact at1_val _ _ j.isLt) k

set_option maxHeartbeats 4000000 in
theorem v31_at (r : ℕ) (j : Fin 384) (k : Fin 2944) : (V1 m c main_v31 : S384x2944.Idx → EReal) (ix2 j k)
    = Net.wrow 894 ((netK m c r).W 3 j.val) ((netK m c r).b 3 j.val) k.val := by
  have e : V1 m c main_v31 = concatenate S384x2944 1 [⟨S384x894, m ((c : Thread nD τ).loc main_arg7)⟩,
      ⟨S384x1920, broadcastInDim S384x1920 ![] bcast_S_S384x1920 (constant (F := Ideal) S_ .f32 0x00000000#32)⟩,
      ⟨S384x1, shapeCast S384x1 (m ((c : Thread nD τ).loc main_arg8)) shapeCasts_S384_S384x1⟩,
      ⟨S384x129, broadcastInDim S384x129 ![] bcast_S_S384x129 (constant (F := Ideal) S_ .f32 0x00000000#32)⟩]
      concatenates_S384x894_S384x1920_S384x1_S384x129_S384x2944_d1 := by
    simp only [V1, hostOps0]; after_results_simp <;> rfl
  rw [e]
  exact level_row rfl _ _ _ _ _ (zeros_at _) (zeros_at _) _ _ j (fun k => at2_val _ _ _ j.isLt k.isLt) (by pointwise []; exact at1_val _ _ j.isLt) k

set_option maxHeartbeats 4000000 in
theorem v35_at (r : ℕ) (j : Fin 1536) (k : Fin 2944) : (V1 m c main_v35 : S1536x2944.Idx → EReal) (ix2 j k)
    = Net.wrow 1278 ((netK m c r).W 4 j.val) ((netK m c r).b 4 j.val) k.val := by
  have e : V1 m c main_v35 = concatenate S1536x2944 1 [⟨S1536x1278, m ((c : Thread nD τ).loc main_arg9)⟩,
      ⟨S1536x1536, broadcastInDim S1536x1536 ![] bcast_S_S1536x1536 (constant (F := Ideal) S_ .f32 0x00000000#32)⟩,
      ⟨S1536x1, shapeCast S1536x1 (m ((c : Thread nD τ).loc main_arg10)) shapeCasts_S1536_S1536x1⟩,
      ⟨S1536x129, broadcastInDim S1536x129 ![] bcast_S_S1536x129 (constant (F := Ideal) S_ .f32 0x00000000#32)⟩]
      concatenates_S1536x1278_S1536x1536_S1536x1_S1536x129_S1536x2944_d1 := by
    simp only [V1, hostOps0]; after_results_simp <;> rfl
  rw [e]
  exact level_row rfl _ _ _ _ _ (zeros_at _) (zeros_at _) _ _ j (fun k => at2_val _ _ _ j.isLt k.isLt) (by pointwise []; exact at1_val _ _ j.isLt) k

set_option maxHeartbeats 4000000 in
theorem v39_at (r : ℕ) (j : Fin 6144) (k : Fin 2944) : (V1 m c main_v39 : S6144x2944.Idx → EReal) (ix2 j k)
    = Net.wrow 2814 ((netK m c r).W 5 j.val) ((netK m c r).b 5 j.val) k.val := by
  have e : V1 m c main_v39 = concatenate S6144x2944 1 [⟨S6144x2814, m ((c : Thread nD τ).loc main_arg11)⟩,
      ⟨S6144x0, broadcastInDim S6144x0 ![] bcast_S_S6144x0 (constant (F := Ideal) S_ .f32 0x00000000#32)⟩,
      ⟨S6144x1, shapeCast S6144x1 (m ((c : Thread nD τ).loc main_arg12)) shapeCasts_S6144_S6144x1⟩,
      ⟨S6144x129, broadcastInDim S6144x129 ![] bcast_S_S6144x129 (constant (F := Ideal) S_ .f32 0x00000000#32)⟩]
      concatenates_S6144x2814_S6144x0_S6144x1_S6144x129_S6144x2944_d1 := by
    simp only [V1, hostOps0]; after_results_simp <;> rfl
  rw [e]
  exact level_row rfl _ _ _ _ _ (zeros_at _) (zeros_at _) _ _ j (fun k => at2_val _ _ _ j.isLt k.isLt) (by pointwise []; exact at1_val _ _ j.isLt) k

set_option maxHeartbeats 4000000 in
/-- Row `j` of the weight matrix, below the two rows of padding. -/
theorem v41_at (r : ℕ) (j : Fin 8192) (k : Fin 2944) (hj : j.val < 8190) :
    (V1 m c main_v41 : S8192x2944.Idx → EReal) (ix2 j k) = (netK m c r).wext j.val k.val := by
  have e : V1 m c main_v41 = concatenate S8192x2944 0 [⟨S6x2944, V1 m c main_v19⟩, ⟨S24x2944, V1 m c main_v23⟩, ⟨S96x2944, V1 m c main_v27⟩, ⟨S384x2944, V1 m c main_v31⟩, ⟨S1536x2944, V1 m c main_v35⟩, ⟨S6144x2944, V1 m c main_v39⟩, ⟨S2x2944, V1 m c main_v40⟩] concatenates_S6x2944_S24x2944_S96x2944_S384x2944_S1536x2944_S6144x2944_S2x2944_S8192x2944_d0 := by
    simp only [V1, hostOps0]; after_results_simp <;> rfl
  rw [e]
  exact rows _ _ _ _ _ _ _ (netK m c r) j k hj (v19_at m c · k) (v23_at m c r · k) (v27_at m c r · k) (v31_at m c r · k) (v35_at m c r · k) (v39_at m c r · k)

end Cert.KernelIdeal.Gen

end
-- ==== Proof.PhaseAValue.lean ====
/- What region 0 leaves in its result: row by row the features of the six levels (`Net.cols`).
-/
module

public import proofs.«01_k».proof.Proof.PhaseA
public import proofs.«01_k».proof.Proof.Model
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe
open Idealize.ShloMosaic.Pipeline (Dat Cfg Window BodyObligation cellOf)
open Cert.Model

/-! ## Column blocks -/

section Columns

variable {R C w o : ℕ} {e : EltTy}

/-- After a write of the columns from `o` on, a column reads the write under it and the earlier writes off it. -/
theorem canon_col (inb : ∀ a, (![0, o] : Fin 2 → ℕ) a + (![R, w] : Fin 2 → ℕ) a ≤ (⟨2, ![R, C]⟩ : Shape).size a)
    (P : (⟨2, ![R, w]⟩ : Shape).Idx → Elt Ideal e) (L : List (View.Piece (Elt Ideal) (⟨2, ![R, C]⟩ : Shape) e)) (p : Fin R) (k : Fin C) :
    View.canon (⟨Rect.unit (s := ⟨2, ![R, C]⟩) ![0, o] ![R, w] inb, P⟩ :: L) (ix2 p k)
      = if h : o ≤ k.val ∧ k.val < o + w then P (ix2 p ⟨k.val - o, by omega⟩) else View.canon L (ix2 p k) := by
  split
  · next h =>
    rw [← View.canon_cons_emb (Rect.unit (s := ⟨2, ![R, C]⟩) ![0, o] ![R, w] inb) P L (ix2 p ⟨k.val - o, by omega⟩)]
    congr 1
    funext a
    refine Fin.ext ?_
    rw [ValueKit.rect_emb_unit_val]
    match a with
    | ⟨0, _⟩ => exact (Nat.zero_add _).symm
    | ⟨1, _⟩ => exact (Nat.add_sub_cancel' h.1).symm
  · next h =>
    refine View.canon_cons_of_not_mem _ L fun hm => h ?_
    exact (Rect.mem_set_unit (inb := inb)).1 hm (1 : Fin 2)

/-- A load of the first columns reads what the writes left there. -/
theorem readCov_col {sig : RefSig} {κ : Kind} {sp : Space} (v : View sig κ sp (⟨2, ![R, C]⟩ : Shape) e)
    (L : List (View.Piece (Elt Ideal) (⟨2, ![R, C]⟩ : Shape) e))
    (inb : ∀ a, (![0, 0] : Fin 2 → ℕ) a + (![R, w] : Fin 2 → ℕ) a ≤ (⟨2, ![R, C]⟩ : Shape).size a) (hw : w ≤ C) (p : Fin R) (k : Fin w) :
    v.readCov L (Rect.unit (s := ⟨2, ![R, C]⟩) ![0, 0] ![R, w] inb).toLoadRect (ix2 p k) = View.canon L (ix2 p ⟨k.val, by omega⟩) := by
  rw [View.readCov_eq_canon']
  refine congrArg (View.canon L) (funext fun a => ?_)
  refine Fin.ext ?_
  match a with
  | ⟨0, _⟩ => simp [ix2]
  | ⟨1, _⟩ => simp [ix2]

end Columns

/-! ## The payloads at an index -/

theorem pay2_at (p : Fin 256) (k : Fin 1278) : k0_pay2 (F := Ideal) (ix2 p k) = 0 := by pointwise [k0_pay2]
theorem pay1_at (p : Fin 256) (k : Fin 2944) : k0_pay1 (F := Ideal) (ix2 p k) = 0 := by pointwise [k0_pay1]
theorem pay11_at (p : Fin 256) (k : Fin 1) : k0_pay11 (F := Ideal) (ix2 p k) = 1 := by pointwise [k0_pay11]
theorem pay3_at (x : Vec Ideal S256x768 .f32) (p : Fin 256) (k : Fin 768) : k0_pay3 x (ix2 p k) = max (x (ix2 p k)) 0 := by
  pointwise [k0_pay3]
theorem pay6_at (x : Vec Ideal S256x768 .f32) (w : Vec Ideal S768x6 .f32) (b : Vec Ideal S1x6 .f32) (p : Fin 256) (j : Fin 6) :
    k0_pay6 x w b (ix2 p j) = (∑ k : Fin 768, x (ix2 p k) * w (ix2 k j)) + b (ix2 0 j) := by
  pointwise [k0_pay6]
theorem pay12_at (x : Vec Ideal S256x774 .f32) (w : Vec Ideal S774x24 .f32) (b : Vec Ideal S1x24 .f32) (p : Fin 256) (j : Fin 24) :
    k0_pay12 x w b (ix2 p j) = max ((∑ k : Fin 774, x (ix2 p k) * w (ix2 k j)) + b (ix2 0 j)) 0 := by
  pointwise [k0_pay12]
theorem pay15_at (x : Vec Ideal S256x798 .f32) (w : Vec Ideal S798x96 .f32) (b : Vec Ideal S1x96 .f32) (p : Fin 256) (j : Fin 96) :
    k0_pay15 x w b (ix2 p j) = max ((∑ k : Fin 798, x (ix2 p k) * w (ix2 k j)) + b (ix2 0 j)) 0 := by
  pointwise [k0_pay15]
theorem pay18_at (x : Vec Ideal S256x894 .f32) (w : Vec Ideal S894x384 .f32) (b : Vec Ideal S1x384 .f32) (p : Fin 256) (j : Fin 384) :
    k0_pay18 x w b (ix2 p j) = max ((∑ k : Fin 894, x (ix2 p k) * w (ix2 k j)) + b (ix2 0 j)) 0 := by
  pointwise [k0_pay18]
theorem pay21_at (x : Vec Ideal S256x1278 .f32) (w : Vec Ideal S1278x1536 .f32) (b : Vec Ideal S1x1536 .f32) (p : Fin 256) (j : Fin 1536) :
    k0_pay21 x w b (ix2 p j) = max ((∑ k : Fin 1278, x (ix2 p k) * w (ix2 k j)) + b (ix2 0 j)) 0 := by
  pointwise [k0_pay21]

/-! The payloads that only change the type of another: at an index, that one. -/

theorem pay4_at (x : Vec Ideal S256x768 .f32) (p : Fin 256) (k : Fin 768) : k0_pay4 x (ix2 p k) = max (x (ix2 p k)) 0 := by
  pointwise [k0_pay4, k0_pay3]
theorem pay5_at (x : Vec Ideal S256x768 .f32) (p : Fin 256) (k : Fin 768) : k0_pay5 x (ix2 p k) = max (x (ix2 p k)) 0 := by
  pointwise [k0_pay5, k0_pay3]
theorem pay7_at (x w b) (p : Fin 256) (j : Fin 6) : k0_pay7 (F := Ideal) x w b (ix2 p j) = max (k0_pay6 x w b (ix2 p j)) 0 := by pointwise [k0_pay7]
theorem pay8_at (x w b) (p : Fin 256) (j : Fin 6) : k0_pay8 (F := Ideal) x w b (ix2 p j) = k0_pay7 x w b (ix2 p j) := by pointwise [k0_pay8]
theorem pay9_at (x w b) (p : Fin 256) (j : Fin 6) : k0_pay9 (F := Ideal) x w b (ix2 p j) = k0_pay7 x w b (ix2 p j) := by pointwise [k0_pay9]
theorem pay10_at (x w b) (p : Fin 256) (j : Fin 6) : k0_pay10 (F := Ideal) x w b (ix2 p j) = k0_pay6 x w b (ix2 p j) := by pointwise [k0_pay10]
theorem pay13_at (x w b) (p : Fin 256) (j : Fin 24) : k0_pay13 (F := Ideal) x w b (ix2 p j) = k0_pay12 x w b (ix2 p j) := by pointwise [k0_pay13]
theorem pay14_at (x w b) (p : Fin 256) (j : Fin 24) : k0_pay14 (F := Ideal) x w b (ix2 p j) = k0_pay12 x w b (ix2 p j) := by pointwise [k0_pay14]
theorem pay16_at (x) (p : Fin 256) (j : Fin 96) : k0_pay16 (F := Ideal) x (ix2 p j) = x (ix2 p j) := by pointwise [k0_pay16]
theorem pay17_at (x) (p : Fin 256) (j : Fin 96) : k0_pay17 (F := Ideal) x (ix2 p j) = x (ix2 p j) := by pointwise [k0_pay17]
theorem pay19_at (x w b) (p : Fin 256) (j : Fin 384) : k0_pay19 (F := Ideal) x w b (ix2 p j) = k0_pay18 x w b (ix2 p j) := by pointwise [k0_pay19]
theorem pay20_at (x w b) (p : Fin 256) (j : Fin 384) : k0_pay20 (F := Ideal) x w b (ix2 p j) = k0_pay18 x w b (ix2 p j) := by pointwise [k0_pay20]

/-! ## The scratch, level by level -/

section Levels

variable (x0 : Vec Ideal S256x768 .f32) (x1 : Vec Ideal S768x6 .f32) (x2 : Vec Ideal S1x6 .f32) (x3 : Vec Ideal S774x24 .f32) (x4 : Vec Ideal S1x24 .f32)
  (x5 : Vec Ideal S798x96 .f32) (x6 : Vec Ideal S1x96 .f32) (x7 : Vec Ideal S894x384 .f32) (x8 : Vec Ideal S1x384 .f32) (x9 : Vec Ideal S1278x1536 .f32)
  (x10 : Vec Ideal S1x1536 .f32)

/-- The writes to the scratch. -/
abbrev Writes := List (View.Piece (Elt Ideal) S256x1278 .f32)

/-- The first columns of the scratch after the writes `L`. -/
def cur774 (L : Writes) : Vec Ideal S256x774 .f32 :=
  View.readCov (s := S256x1278) (e := .f32) (View.whole cc0_scratch0) L (Rect.unit (s := S256x1278) ![0, 0] ![256, 774] inb_S256x1278_S256x774_0_0).toLoadRect
@[inherit_doc cur774] def cur798 (L : Writes) : Vec Ideal S256x798 .f32 :=
  View.readCov (s := S256x1278) (e := .f32) (View.whole cc0_scratch0) L (Rect.unit (s := S256x1278) ![0, 0] ![256, 798] inb_S256x1278_S256x798_0_0).toLoadRect
@[inherit_doc cur774] def cur894 (L : Writes) : Vec Ideal S256x894 .f32 :=
  View.readCov (s := S256x1278) (e := .f32) (View.whole cc0_scratch0) L (Rect.unit (s := S256x1278) ![0, 0] ![256, 894] inb_S256x1278_S256x894_0_0).toLoadRect
@[inherit_doc cur774] def cur1278 (L : Writes) : Vec Ideal S256x1278 .f32 :=
  View.readCov (s := S256x1278) (e := .f32) (View.whole cc0_scratch0) L (Rect.unit (s := S256x1278) ![0, 0] ![256, 1278] inb_S256x1278_S256x1278_0_0).toLoadRect

/-- The writes to the scratch, up to each level's. -/
def wr1 : Writes :=
  [⟨Rect.unit ![0, 768] ![256, 6] inb_S256x1278_S256x6_0_768, k0_pay8 x0 x1 x2⟩,
   ⟨Rect.unit ![0, 0] ![256, 768] inb_S256x1278_S256x768_0_0, k0_pay4 x0⟩,
   ⟨Rect.unit ![0, 0] ![256, 1278] inb_S256x1278_S256x1278_0_0, k0_pay2 (F := Ideal)⟩]
@[inherit_doc wr1] def wr2 : Writes :=
  ⟨Rect.unit ![0, 774] ![256, 24] inb_S256x1278_S256x24_0_774, k0_pay13 (cur774 (wr1 x0 x1 x2)) x3 x4⟩ :: wr1 x0 x1 x2
@[inherit_doc wr1] def wr3 : Writes :=
  ⟨Rect.unit ![0, 798] ![256, 96] inb_S256x1278_S256x96_0_798, k0_pay16 (k0_pay15 (cur798 (wr2 x0 x1 x2 x3 x4)) x5 x6)⟩ :: wr2 x0 x1 x2 x3 x4
@[inherit_doc wr1] def wr4 : Writes :=
  ⟨Rect.unit ![0, 894] ![256, 384] inb_S256x1278_S256x384_0_894, k0_pay19 (cur894 (wr3 x0 x1 x2 x3 x4 x5 x6)) x7 x8⟩ :: wr3 x0 x1 x2 x3 x4 x5 x6

/-- What row `p` of the result's block reads after all the writes to it. -/
def row : Vec Ideal S256x2944 .bf16 :=
  View.canon
   [⟨Rect.unit ![0, 1278] ![256, 1536] inb_S256x2944_S256x1536_0_1278, k0_pay21 (cur1278 (wr4 x0 x1 x2 x3 x4 x5 x6 x7 x8)) x9 x10⟩,
    ⟨Rect.unit ![0, 894] ![256, 384] inb_S256x2944_S256x384_0_894, k0_pay20 (cur894 (wr3 x0 x1 x2 x3 x4 x5 x6)) x7 x8⟩,
    ⟨Rect.unit ![0, 798] ![256, 96] inb_S256x2944_S256x96_0_798, k0_pay17 (k0_pay15 (cur798 (wr2 x0 x1 x2 x3 x4)) x5 x6)⟩,
    ⟨Rect.unit ![0, 774] ![256, 24] inb_S256x2944_S256x24_0_774, k0_pay14 (cur774 (wr1 x0 x1 x2)) x3 x4⟩,
    ⟨Rect.unit ![0, 2814] ![256, 1] inb_S256x2944_S256x1_0_2814, k0_pay11 (F := Ideal)⟩,
    ⟨Rect.unit ![0, 2815] ![256, 6] inb_S256x2944_S256x6_0_2815, k0_pay10 x0 x1 x2⟩,
    ⟨Rect.unit ![0, 768] ![256, 6] inb_S256x2944_S256x6_0_768, k0_pay9 x0 x1 x2⟩,
    ⟨Rect.unit ![0, 0] ![256, 768] inb_S256x2944_S256x768_0_0, k0_pay5 x0⟩,
    ⟨Rect.unit ![0, 0] ![256, 2944] inb_S256x2944_S256x2944_0_0, k0_pay1 (F := Ideal)⟩]

variable {x0 x1 x2 x3 x4 x5 x6 x7 x8 x9 x10} {N : Net} {p : Fin 256}

/-- A layer reads its features off a matrix's row, its weights and its bias off the other two operands. -/
theorem lin_of {R n w : ℕ} {f : ℕ → EReal} {W : ℕ → ℕ → EReal} {b : ℕ → EReal} {x : (⟨2, ![R, n]⟩ : Shape).Idx → EReal} {m : (⟨2, ![n, w]⟩ : Shape).Idx → EReal}
    {v : (⟨2, ![1, w]⟩ : Shape).Idx → EReal} {p : Fin R} (hx : ∀ k, x (ix2 p k) = f k.val) (hm : ∀ k j, m (ix2 k j) = W j.val k.val)
    (hv : ∀ j, v (ix2 0 j) = b j.val) (j : Fin w) : (∑ k : Fin n, x (ix2 p k) * m (ix2 k j)) + v (ix2 0 j) = lin n f W b j := by
  unfold lin
  rw [hv]
  exact congrArg (· + b j.val) (Finset.sum_congr rfl fun k _ => by rw [hx, hm])

/-- The writes `L` leave the features `f` in the first `n` columns of row `p`. -/
def Holds (p : Fin 256) (n : ℕ) (f : ℕ → EReal) (L : Writes) : Prop := ∀ k : Fin 1278, k.val < n → View.canon L (ix2 p k) = f k.val

/-- A level's write after the columns that hold its features leaves the next level's features. -/
theorem Holds.cons {n w : ℕ} {f y : ℕ → EReal} {L : Writes} (h : Holds p n f L)
    (inb : ∀ a, (![0, n] : Fin 2 → ℕ) a + (![256, w] : Fin 2 → ℕ) a ≤ S256x1278.size a)
    (P : (⟨2, ![256, w]⟩ : Shape).Idx → Elt Ideal .f32) (hP : ∀ j : Fin w, P (ix2 p j) = max (y j.val) 0) :
    Holds p (n + w) (ext n f y) (⟨Rect.unit (s := S256x1278) ![0, n] ![256, w] inb, P⟩ :: L) := by
  intro k hk
  rw [canon_col inb P L p k, ext]
  by_cases hn : k.val < n
  · rw [dif_neg (by omega), if_pos hn]; exact h k hn
  · rw [dif_pos ⟨by omega, hk⟩, if_neg hn]; exact hP _

variable (h0 : ∀ k, x0 (ix2 p k) = N.x k.val) (h1 : ∀ k j, x1 (ix2 k j) = N.W 0 j.val k.val) (h2 : ∀ j, x2 (ix2 0 j) = N.b 0 j.val)
  (h3 : ∀ k j, x3 (ix2 k j) = N.W 1 j.val k.val) (h4 : ∀ j, x4 (ix2 0 j) = N.b 1 j.val)
  (h5 : ∀ k j, x5 (ix2 k j) = N.W 2 j.val k.val) (h6 : ∀ j, x6 (ix2 0 j) = N.b 2 j.val)
  (h7 : ∀ k j, x7 (ix2 k j) = N.W 3 j.val k.val) (h8 : ∀ j, x8 (ix2 0 j) = N.b 3 j.val)
  (h9 : ∀ k j, x9 (ix2 k j) = N.W 4 j.val k.val) (h10 : ∀ j, x10 (ix2 0 j) = N.b 4 j.val)

include h0 h1 h2 in
theorem y0_at (j : Fin 6) : k0_pay6 x0 x1 x2 (ix2 p j) = N.y0 j.val :=
  (pay6_at x0 x1 x2 p j).trans (lin_of h0 h1 h2 j)

include h0 h1 h2 in
theorem relu0_at (j : Fin 6) : k0_pay7 x0 x1 x2 (ix2 p j) = max (N.y0 j.val) 0 :=
  (pay7_at x0 x1 x2 p j).trans (congrArg (max · 0) (y0_at h0 h1 h2 j))

include h0 h1 h2 in
theorem holds1 : Holds p 774 N.f1 (wr1 x0 x1 x2) := by
  refine Holds.cons (n := 768) (w := 6) ?_ inb_S256x1278_S256x6_0_768 (k0_pay8 x0 x1 x2) fun j => ?_
  · intro k hk
    rw [canon_col (e := .f32) inb_S256x1278_S256x768_0_0 (k0_pay4 x0) _ p k, dif_pos ⟨by omega, by omega⟩, pay4_at, h0]
    rfl
  · rw [pay8_at]; exact relu0_at h0 h1 h2 j

include h0 h1 h2 in
theorem cur1_at (k : Fin 774) : cur774 (wr1 x0 x1 x2) (ix2 p k) = N.f1 k.val :=
  (readCov_col (View.whole cc0_scratch0) _ inb_S256x1278_S256x774_0_0 (by omega) p k).trans (holds1 h0 h1 h2 _ k.isLt)

include h0 h1 h2 h3 h4 in
theorem relu1_at (j : Fin 24) : k0_pay12 (cur774 (wr1 x0 x1 x2)) x3 x4 (ix2 p j) = max (N.y1 j.val) 0 :=
  (pay12_at _ x3 x4 p j).trans (congrArg (max · 0) (lin_of (cur1_at h0 h1 h2) h3 h4 j))

include h0 h1 h2 h3 h4 in
theorem holds2 : Holds p 798 N.f2 (wr2 x0 x1 x2 x3 x4) :=
  (holds1 h0 h1 h2).cons (w := 24) inb_S256x1278_S256x24_0_774 _ fun j => (pay13_at _ x3 x4 p j).trans (relu1_at h0 h1 h2 h3 h4 j)

include h0 h1 h2 h3 h4 in
theorem cur2_at (k : Fin 798) : cur798 (wr2 x0 x1 x2 x3 x4) (ix2 p k) = N.f2 k.val :=
  (readCov_col (View.whole cc0_scratch0) _ inb_S256x1278_S256x798_0_0 (by omega) p k).trans (holds2 h0 h1 h2 h3 h4 _ k.isLt)

include h0 h1 h2 h3 h4 h5 h6 in
theorem relu2_at (j : Fin 96) : k0_pay15 (cur798 (wr2 x0 x1 x2 x3 x4)) x5 x6 (ix2 p j) = max (N.y2 j.val) 0 :=
  (pay15_at _ x5 x6 p j).trans (congrArg (max · 0) (lin_of (cur2_at h0 h1 h2 h3 h4) h5 h6 j))

include h0 h1 h2 h3 h4 h5 h6 in
theorem holds3 : Holds p 894 N.f3 (wr3 x0 x1 x2 x3 x4 x5 x6) :=
  (holds2 h0 h1 h2 h3 h4).cons (w := 96) inb_S256x1278_S256x96_0_798 _ fun j => (pay16_at _ p j).trans (relu2_at h0 h1 h2 h3 h4 h5 h6 j)

include h0 h1 h2 h3 h4 h5 h6 in
theorem cur3_at (k : Fin 894) : cur894 (wr3 x0 x1 x2 x3 x4 x5 x6) (ix2 p k) = N.f3 k.val :=
  (readCov_col (View.whole cc0_scratch0) _ inb_S256x1278_S256x894_0_0 (by omega) p k).trans (holds3 h0 h1 h2 h3 h4 h5 h6 _ k.isLt)

include h0 h1 h2 h3 h4 h5 h6 h7 h8 in
theorem relu3_at (j : Fin 384) : k0_pay18 (cur894 (wr3 x0 x1 x2 x3 x4 x5 x6)) x7 x8 (ix2 p j) = max (N.y3 j.val) 0 :=
  (pay18_at _ x7 x8 p j).trans (congrArg (max · 0) (lin_of (cur3_at h0 h1 h2 h3 h4 h5 h6) h7 h8 j))

include h0 h1 h2 h3 h4 h5 h6 h7 h8 in
theorem holds4 : Holds p 1278 N.f4 (wr4 x0 x1 x2 x3 x4 x5 x6 x7 x8) :=
  (holds3 h0 h1 h2 h3 h4 h5 h6).cons (w := 384) inb_S256x1278_S256x384_0_894 _ fun j =>
    (pay19_at _ x7 x8 p j).trans (relu3_at h0 h1 h2 h3 h4 h5 h6 h7 h8 j)

include h0 h1 h2 h3 h4 h5 h6 h7 h8 in
theorem cur4_at (k : Fin 1278) : cur1278 (wr4 x0 x1 x2 x3 x4 x5 x6 x7 x8) (ix2 p k) = N.f4 k.val :=
  (readCov_col (View.whole cc0_scratch0) _ inb_S256x1278_S256x1278_0_0 (by omega) p k).trans (holds4 h0 h1 h2 h3 h4 h5 h6 h7 h8 _ k.isLt)

include h0 h1 h2 h3 h4 h5 h6 h7 h8 h9 h10 in
theorem relu4_at (j : Fin 1536) : k0_pay21 (cur1278 (wr4 x0 x1 x2 x3 x4 x5 x6 x7 x8)) x9 x10 (ix2 p j) = max (N.y4 j.val) 0 :=
  (pay21_at _ x9 x10 p j).trans (congrArg (max · 0) (lin_of (cur4_at h0 h1 h2 h3 h4 h5 h6 h7 h8) h9 h10 j))

/-- A column past a level's features is that level's output cut at zero. -/
theorem ext_ge {n k : ℕ} (f y : ℕ → EReal) (h : n ≤ k) : ext n f y k = max (y (k - n)) 0 := if_neg (by omega)

include h0 h1 h2 h3 h4 h5 h6 h7 h8 h9 h10 in
/-- Row `p` of the result's block holds the features, the one, the first level's outputs and zeros. -/
theorem row_at (k : Fin 2944) : row x0 x1 x2 x3 x4 x5 x6 x7 x8 x9 x10 (ix2 p k) = N.cols k.val := by
  unfold row Net.cols
  rw [canon_col inb_S256x2944_S256x1536_0_1278]
  split
  · next h => rw [if_pos (by omega), Net.f5, ext_ge _ _ h.1]; exact relu4_at h0 h1 h2 h3 h4 h5 h6 h7 h8 h9 h10 _
  next n4 =>
  rw [canon_col inb_S256x2944_S256x384_0_894]
  split
  · next h =>
    rw [if_pos (by omega), Net.f5_f4 _ (by omega), Net.f4, ext_ge _ _ h.1, pay20_at]; exact relu3_at h0 h1 h2 h3 h4 h5 h6 h7 h8 _
  next n3 =>
  rw [canon_col inb_S256x2944_S256x96_0_798]
  split
  · next h =>
    rw [if_pos (by omega), Net.f5_f3 _ (by omega), Net.f3, ext_ge _ _ h.1, pay17_at]; exact relu2_at h0 h1 h2 h3 h4 h5 h6 _
  next n2 =>
  rw [canon_col inb_S256x2944_S256x24_0_774]
  split
  · next h =>
    rw [if_pos (by omega), Net.f5_f2 _ (by omega), Net.f2, ext_ge _ _ h.1, pay14_at]; exact relu1_at h0 h1 h2 h3 h4 _
  next n1 =>
  rw [canon_col inb_S256x2944_S256x1_0_2814]
  split
  · next h => rw [if_neg (by omega), if_pos (by omega), pay11_at]
  next m1 =>
  rw [canon_col inb_S256x2944_S256x6_0_2815]
  split
  · next h => rw [if_neg (by omega), if_neg (by omega), if_pos (by omega), pay10_at]; exact y0_at h0 h1 h2 _
  next m0 =>
  rw [canon_col inb_S256x2944_S256x6_0_768]
  split
  · next h =>
    rw [if_pos (by omega), Net.f5_f1 _ (by omega), Net.f1, ext_ge _ _ h.1, pay9_at]; exact relu0_at h0 h1 h2 _
  next n0 =>
  rw [canon_col inb_S256x2944_S256x768_0_0]
  split
  · next h =>
    rw [if_pos (by omega), Net.f5_f1 _ (by omega), Net.f1, ext_lt _ _ (by omega), pay5_at, h0]; rfl
  next n =>
  rw [canon_col inb_S256x2944_S256x2944_0_0, dif_pos ⟨by omega, by omega⟩, pay1_at, if_neg (by omega), if_neg (by omega), if_neg (by omega)]

end Levels

end Cert.KernelIdeal.Gen

end
-- ==== Proof.PhaseAOut.lean ====
/- What region 0 leaves in its result, as a whole array.
-/
module

public import proofs.«01_k».proof.Proof.PhaseAValue
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe
open Idealize.ShloMosaic.Pipeline (Dat Cfg Window BodyObligation cellOf)
open Cert.Model

/-! ## The region's result -/

variable (V : Vals (F := Ideal))

set_option maxHeartbeats 400000 in
/-- What the body leaves in the result's block is `row` of the input blocks. -/
theorem outs_row (c : Dev nD) (t : Fin cfg0.N) : outsAt0 V c t = row (iblk0 V c 0 t) (iblk0 V c 1 t) (iblk0 V c 2 t) (iblk0 V c 3 t) (iblk0 V c 4 t)
    (iblk0 V c 5 t) (iblk0 V c 6 t) (iblk0 V c 7 t) (iblk0 V c 8 t) (iblk0 V c 9 t) (iblk0 V c 10 t) := by
  unfold outsAt0 out0_A_11
  frame_open
  simp (disch := decide) only [↓ View.readCov_skip, ↓ View.readCov_cons_toLoadRect, ↓ View.readCov_fill]
  frame_out
  dsimp only [row, wr4, wr3, wr2, wr1, cur774, cur798, cur894, cur1278]

/-- Where region 0's blocks lie: the point counts row blocks of the input and of the result; the weights and biases are whole. -/
theorem idx0 : ∀ t : Fin cfg0.N, win0_0.index t = ![t.val, 0] ∧ win0_11.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] := by decide +kernel

set_option maxHeartbeats 4000000 in
/-- Region 0 leaves each row's features in its result. -/
theorem arr0 (c : Dev nD) (N : Fin 8192 → Net)
    (h0 : ∀ r k, (V c main_arg0 : S8192x768.Idx → EReal) (ix2 r k) = (N r).x k.val)
    (h1 : ∀ r k j, (V c main_v0 : S768x6.Idx → EReal) (ix2 k j) = (N r).W 0 j.val k.val)
    (h2 : ∀ r j, (V c main_v5 : S1x6.Idx → EReal) (ix2 0 j) = (N r).b 0 j.val)
    (h3 : ∀ r k j, (V c main_v1 : S774x24.Idx → EReal) (ix2 k j) = (N r).W 1 j.val k.val)
    (h4 : ∀ r j, (V c main_v6 : S1x24.Idx → EReal) (ix2 0 j) = (N r).b 1 j.val)
    (h5 : ∀ r k j, (V c main_v2 : S798x96.Idx → EReal) (ix2 k j) = (N r).W 2 j.val k.val)
    (h6 : ∀ r j, (V c main_v7 : S1x96.Idx → EReal) (ix2 0 j) = (N r).b 2 j.val)
    (h7 : ∀ r k j, (V c main_v3 : S894x384.Idx → EReal) (ix2 k j) = (N r).W 3 j.val k.val)
    (h8 : ∀ r j, (V c main_v8 : S1x384.Idx → EReal) (ix2 0 j) = (N r).b 3 j.val)
    (h9 : ∀ r k j, (V c main_v4 : S1278x1536.Idx → EReal) (ix2 k j) = (N r).W 4 j.val k.val)
    (h10 : ∀ r j, (V c main_v9 : S1x1536.Idx → EReal) (ix2 0 j) = (N r).b 4 j.val) :
    (dat0 V c).arrAt 11 cfg0.N = fun i : S8192x2944.Idx => (N (i 0)).cols (i 1).val := by
  refine (dat0 V c).arrAt_eq_of_covers 11 _ (by decide +kernel) fun t hf y => ?_
  obtain ⟨e0, e11, e1, e2, e3, e4, e5, e6, e7, e8, e9, e10⟩ := idx0 t
  blk_simp
  rw [after0_11, outs_row]
  obtain ⟨p, k, rfl⟩ : ∃ (p : Fin 256) (k : Fin 2944), y = ix2 p k := ⟨y 0, y 1, eq_ix2 y⟩
  have hr : t.val * 256 + p.val < 8192 := by have h1 : t.val < 32 := t.isLt; have h2 := p.isLt; omega
  generalize hR : (⟨t.val * 256 + p.val, hr⟩ : Fin 8192) = R
  have a0 : ∀ k : Fin 768, (iblk0 V c 0 t : S256x768.Idx → EReal) (ix2 p k) = (N R).x k.val := fun k => by
    rw [← h0 R k, ← hR]; blk_ext [iblk0, e0]
  have a1 : ∀ (k : Fin 768) (j : Fin 6), (iblk0 V c 1 t : S768x6.Idx → EReal) (ix2 k j) = (N R).W 0 j.val k.val := fun k j => by
    rw [← h1 R k j]; blk_ext [iblk0, e1]
  have a2 : ∀ (j : Fin 6), (iblk0 V c 2 t : S1x6.Idx → EReal) (ix2 0 j) = (N R).b 0 j.val := fun j => by
    rw [← h2 R j]; blk_ext [iblk0, e2]
  have a3 : ∀ (k : Fin 774) (j : Fin 24), (iblk0 V c 3 t : S774x24.Idx → EReal) (ix2 k j) = (N R).W 1 j.val k.val := fun k j => by
    rw [← h3 R k j]; blk_ext [iblk0, e3]
  have a4 : ∀ (j : Fin 24), (iblk0 V c 4 t : S1x24.Idx → EReal) (ix2 0 j) = (N R).b 1 j.val := fun j => by
    rw [← h4 R j]; blk_ext [iblk0, e4]
  have a5 : ∀ (k : Fin 798) (j : Fin 96), (iblk0 V c 5 t : S798x96.Idx → EReal) (ix2 k j) = (N R).W 2 j.val k.val := fun k j => by
    rw [← h5 R k j]; blk_ext [iblk0, e5]
  have a6 : ∀ (j : Fin 96), (iblk0 V c 6 t : S1x96.Idx → EReal) (ix2 0 j) = (N R).b 2 j.val := fun j => by
    rw [← h6 R j]; blk_ext [iblk0, e6]
  have a7 : ∀ (k : Fin 894) (j : Fin 384), (iblk0 V c 7 t : S894x384.Idx → EReal) (ix2 k j) = (N R).W 3 j.val k.val := fun k j => by
    rw [← h7 R k j]; blk_ext [iblk0, e7]
  have a8 : ∀ (j : Fin 384), (iblk0 V c 8 t : S1x384.Idx → EReal) (ix2 0 j) = (N R).b 3 j.val := fun j => by
    rw [← h8 R j]; blk_ext [iblk0, e8]
  have a9 : ∀ (k : Fin 1278) (j : Fin 1536), (iblk0 V c 9 t : S1278x1536.Idx → EReal) (ix2 k j) = (N R).W 4 j.val k.val := fun k j => by
    rw [← h9 R k j]; blk_ext [iblk0, e9]
  have a10 : ∀ (j : Fin 1536), (iblk0 V c 10 t : S1x1536.Idx → EReal) (ix2 0 j) = (N R).b 4 j.val := fun j => by
    rw [← h10 R j]; blk_ext [iblk0, e10]
  refine (row_at a0 a1 a2 a3 a4 a5 a6 a7 a8 a9 a10 k).trans ?_
  have hk : win0_11.index t 1 * 2944 + (ix2 p k 1).val = k.val := by
    rw [e11]; exact (congrArg (· + k.val) (Nat.zero_mul 2944)).trans (Nat.zero_add _)
  have hp : ((win0_11.blk t).view.emb (ix2 p k) 0 : Fin 8192) = R := by
    rw [← hR]
    refine Fin.ext ?_
    blk_simp
    rw [e11]
    rfl
  exact (congr (congrArg (fun r => (N r).cols) hp) hk).symm

end Cert.KernelIdeal.Gen

end
-- ==== Proof.ProductValue.lean ====
/- Region 2's result, read whole: the product of the features with the scattered rows. -/
module

public import proofs.«01_k».proof.Proof.Product
public import Idealize.ShloMosaic.Lib.Pointwise
public import Idealize.ShloMosaic.Lib.Pipeline.ValueKit

@[expose] public section

set_option maxRecDepth 16384

noncomputable section

namespace Cert.KernelIdeal.Gen

open Idealize.ShloMosaic Idealize.ShloMosaic.TcCoe
open Idealize.ShloMosaic.Pipeline (Dat Cfg Window BodyObligation cellOf)

variable (V : Vals (F := Ideal))

/-- The product of the features with the scattered rows. -/
def prod (A : S8192x2944.Idx → EReal) (W : S8192x2944.Idx → EReal) : S8192x8190.Idx → EReal :=
  fun i => ∑ k : Fin 2944, A (ix2 (i 0) k) * W (ix2 ⟨(i 1).val, by have := (i 1).isLt; exact Nat.lt_trans this (by decide)⟩ k)

/-- Where region 2's blocks lie: the grid's second coordinate counts row blocks, its first the column blocks. -/
theorem idx2 : ∀ t : Fin cfg2.N, win2_0.index t = ![(grid2.coords t 1).val, 0] ∧ win2_1.index t = ![(grid2.coords t 0).val, 0]
   ∧ win2_2.index t = ![(grid2.coords t 1).val, (grid2.coords t 0).val] := by decide +kernel

/-- Region 2 leaves the product in its result. -/
theorem arr2 (c : Dev nD) : (dat2 V c).arrAt 2 cfg2.N = prod (V c main_v43) (V c main_v47) := by
  refine (dat2 V c).arrAt_eq_of_covers 2 _ (by decide +kernel) fun t hf y => ?_
  blk_simp
  rw [after2_2]
  unfold out2_2
  frame_out
  unfold_payloads
  pointwise [prod]
  obtain ⟨e0, e1, e2⟩ := idx2 t
  refine Finset.sum_congr (M := EReal) rfl fun k _ => ?_
  refine Ideal.mul_congr ?_ ?_
  · blk_ext [iblk2, e0, e1, e2]
  · blk_ext [iblk2, e0, e1, e2]

end Cert.KernelIdeal.Gen

end
-- ==== Proof.Value.lean ====
/- The kernel's result is the reference's: the last region's product reads each row's features against the scattered rows of
   the weight matrix, and the row a label names is the level's row of the output that the reference scatters there.
-/
module

public import proofs.«01_k».proof.Proof.Run
public import proofs.«01_k».proof.Proof.RefValue
public import proofs.«01_k».proof.Proof.HostValue
public import proofs.«01_k».proof.Proof.PhaseAOut
public import proofs.«01_k».proof.Proof.ProductValue

@[expose] public section

set_option maxRecDepth 16384

noncomputable section

namespace Cert.KernelIdeal.Gen

open Idealize.ShloMosaic Idealize.ShloMosaic.TcCoe
open Cert.Model

variable (m : (ℓ : Loc nD τ sig) → Buf (Elt Ideal) ℓ) (c : Dev nD)

/-! ## The last region's operands -/

/-- The last region reads the features the first region left, -/
theorem V5_v43 : V5 m (o2 m) (o4 m) c main_v43 = o2 m c :=
  (V5_of m _ _ c main_v43 (by decide)).trans <| (V4_of m _ _ c main_v43 (by decide)).trans <| (V3_of m _ c main_v43 (by decide)).trans <|
    Function.update_self _ _ _

/-- the scatter the weight matrix's rows, -/
theorem V3_v44 (o : Out (F := Ideal) main_v43) :
    V3 m o c main_v44 = shapeCast S8192x1x2944 (V1 m c main_v41) shapeCasts_S8192x2944_S8192x1x2944 := by
  have e : V3 m o c main_v44 = shapeCast S8192x1x2944 (V2 m o c main_v41) shapeCasts_S8192x2944_S8192x1x2944 := by
    simp only [V3, hostOps1]; after_results_simp <;> rfl
  rw [e, V2_of m o c main_v41 (by decide)]

/-- and the last region what the scatter left, a matrix again. -/
theorem V5_v47 : V5 m (o2 m) (o4 m) c main_v47 = truncf (F := Ideal) .bf16 (shapeCast S8192x2944 (o4 m c) shapeCasts_S8192x1x2944_S8192x2944) bitsLt_bf16_f32 := by
  have e : V5 m (o2 m) (o4 m) c main_v47 = truncf (F := Ideal) .bf16 (shapeCast S8192x2944 (V4 m (o2 m) (o4 m) c main_v45) shapeCasts_S8192x1x2944_S8192x2944) bitsLt_bf16_f32 := by
    simp only [V5, hostOps2]; after_results_simp <;> rfl
  have e' : V4 m (o2 m) (o4 m) c main_v45 = o4 m c := Function.update_self _ _ _
  rw [e, e']

/-- The features, row by row. -/
theorem o2_eq : o2 m c = fun i : S8192x2944.Idx => (netK m c (i 0).val).cols (i 1).val :=
  arr0 (V1 m) c (fun r => netK m c r.val) (arg0_at m c) (fun r => v0_at m c r.val) (fun r => v5_at m c r.val) (fun r => v1_at m c r.val)
    (fun r => v6_at m c r.val) (fun r => v2_at m c r.val) (fun r => v7_at m c r.val) (fun r => v3_at m c r.val) (fun r => v8_at m c r.val)
    (fun r => v4_at m c r.val) (fun r => v9_at m c r.val)

theorem flat_at (A : S8192x1x2944.Idx → EReal) (l : Fin 8192) (k : Fin 2944) :
    (truncf (F := Ideal) .bf16 (shapeCast S8192x2944 A shapeCasts_S8192x1x2944_S8192x2944) bitsLt_bf16_f32 : S8192x2944.Idx → EReal) (ix2 l k) = A (ix3 l 0 k) := by
  pointwise []

theorem lift_at (A : S8192x2944.Idx → EReal) (l : Fin 8192) (k : Fin 2944) :
    shapeCast S8192x1x2944 A shapeCasts_S8192x2944_S8192x1x2944 (ix3 l 0 k) = A (ix2 l k) := by
  pointwise []

/-- The scattered row a label names is that output's row of the weight matrix. -/
theorem v47_at (hd : Distinct (m ((c : Thread nD τ).loc main_arg13))) (r : ℕ) (J : Fin 8190) (l : Fin 8192) (k : Fin 2944)
    (hJ : ((m ((c : Thread nD τ).loc main_arg13) : S8190.Idx → BitVec 32) (ix1 J)).toNat = l.val) :
    (V5 m (o2 m) (o4 m) c main_v47 : S8192x2944.Idx → EReal) (ix2 l k) = (netK m c r).wext J.val k.val := by
  have hJ' : J.val < 8192 := J.isLt.trans (by decide)
  have hl : labV (V3 m (o2 m)) c = labExt (m ((c : Thread nD τ).loc main_arg13)) := V3_v42 m _ c
  have hok : LabOK (labV (V3 m (o2 m)) c) := by rw [hl]; exact labOK_ext hd
  have ht : tgt (labV (V3 m (o2 m)) c) ⟨J.val, hJ'⟩ = l.val := by rw [hl, tgt_lo _ _ J.isLt]; exact hJ
  have hs := scat_scattered hok (srcV (V3 m (o2 m)) c) ⟨J.val, hJ'⟩ (ix3 l 0 k) ht.symm
  rw [V5_v47]
  refine Eq.trans ?_ (v41_at m c r ⟨J.val, hJ'⟩ k J.isLt)
  refine (flat_at (o4 m c) l k).trans <| hs.trans (Eq.trans (congrArg (srcV (V3 m (o2 m)) c) (funext fun a => ?_)) ((congrFun (V3_v44 m c (o2 m)) _).trans (lift_at _ ⟨J.val, hJ'⟩ k)))
  match a with
  | ⟨0, _⟩ => rfl
  | ⟨1, _⟩ => rfl
  | ⟨2, _⟩ => rfl

/-- The result at the column a label names. -/
theorem o6_at (hd : Distinct (m ((c : Thread nD τ).loc main_arg13))) (r : Fin 8192) (J l : Fin 8190)
    (hJ : ((m ((c : Thread nD τ).loc main_arg13) : S8190.Idx → BitVec 32) (ix1 J)).toNat = l.val) :
    (o6 m c : S8192x8190.Idx → EReal) (ix2 r l) = (netK m c r.val).out J.val := by
  have e : o6 m c = prod (V5 m (o2 m) (o4 m) c main_v43) (V5 m (o2 m) (o4 m) c main_v47) := arr2 (V5 m (o2 m) (o4 m)) c
  rw [e, V5_v43, o2_eq]
  refine Eq.trans ?_ ((netK m c r.val).sum_wext J.val)
  exact Finset.sum_congr (M := EReal) rfl fun k _ => Ideal.mul_congr rfl (v47_at m c hd r.val J _ k hJ)

/-! ## The two sides -/

theorem net_ext {A B : Net} (hx : A.x = B.x) (hW : ∀ l, A.W l = B.W l) (hb : ∀ l, A.b l = B.b l) : A = B := by
  obtain ⟨x, W, b⟩ := A
  obtain ⟨x', W', b'⟩ := B
  obtain rfl : x = x' := hx
  obtain rfl : W = W' := funext hW
  obtain rfl : b = b' := funext hb
  rfl

/-- Every column is some label's. -/
theorem label_onto {a : S8190.Idx → BitVec 32} (h : Distinct a) (l : Fin 8190) : ∃ J : Fin 8190, (a (ix1 J)).toNat = l.val := by
  have hi : Function.Injective fun J : Fin 8190 => (⟨(a (ix1 J)).toNat, h.lt J⟩ : Fin 8190) := fun J J' e => by
    have e' : (a (ix1 J)).toNat = (a (ix1 J')).toNat := congrArg (fun x : Fin 8190 => x.val) e
    exact h.inj J J' (BitVec.eq_of_toNat_eq e')
  obtain ⟨J, hJ⟩ := (Finite.injective_iff_surjective.1 hi) l
  exact ⟨J, congrArg Fin.val hJ⟩

/-- From the same arguments, with the labels a permutation, the kernel leaves the reference's result. -/
theorem value_eq (m' : (ℓ : Loc Cert.ReferenceIdeal.nD Cert.ReferenceIdeal.τ Cert.ReferenceIdeal.sig) → Buf (Elt Ideal) ℓ)
    (hd : Distinct (m ((c.tc : Thread nD τ).loc main_arg13)))
    (hagree : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)) :
    Cert.ReferenceIdeal.Value.res_main_v88 m' c = o6 m c := by
  obtain ⟨a0, a1, a2, a3, a4, a5, a6, a7, a8, a9, a10, a11, a12, a13⟩ := hagree
  have hn : ∀ r : ℕ, Cert.ReferenceIdeal.Value.net m' c r = netK m c r := fun r => by
    refine net_ext (congrArg (fun a => at2 (n := 8192) (m := 768) a r) a0) (fun l => ?_) (fun l => ?_)
    · match l with
      | 0 => exact congrArg (at2 (n := 6) (m := 768)) a1
      | 1 => exact congrArg (at2 (n := 24) (m := 774)) a3
      | 2 => exact congrArg (at2 (n := 96) (m := 798)) a5
      | 3 => exact congrArg (at2 (n := 384) (m := 894)) a7
      | 4 => exact congrArg (at2 (n := 1536) (m := 1278)) a9
      | l + 5 => exact congrArg (at2 (n := 6144) (m := 2814)) a11
    · match l with
      | 0 => exact congrArg (at1 (n := 6)) a2
      | 1 => exact congrArg (at1 (n := 24)) a4
      | 2 => exact congrArg (at1 (n := 96)) a6
      | 3 => exact congrArg (at1 (n := 384)) a8
      | 4 => exact congrArg (at1 (n := 1536)) a10
      | l + 5 => exact congrArg (at1 (n := 6144)) a12
  have hd' : Distinct (m' ((c.tc : Thread Cert.ReferenceIdeal.nD Cert.ReferenceIdeal.τ).loc Cert.ReferenceIdeal.main_arg13)) :=
    cast (congrArg Distinct a13.symm) hd
  funext y
  obtain ⟨r, l, rfl⟩ : ∃ (r : Fin 8192) (l : Fin 8190), y = ix2 r l := ⟨y 0, y 1, eq_ix2 y⟩
  obtain ⟨J, hJ⟩ := label_onto hd l
  have hJ' := (congrArg (fun a : S8190.Idx → BitVec 32 => (a (ix1 J)).toNat) a13).trans hJ
  rw [Cert.ReferenceIdeal.Value.res_read m' c r hd' J l hJ', hn]
  exact (o6_at m c hd r J l hJ).symm

end Cert.KernelIdeal.Gen

end
-- ==== Proof.lean ====
/- The proof of the claims. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Labels
public import proofs.«01_k».proof.Proof.Transfer
public import proofs.«01_k».proof.Proof.Value

@[expose] public section

noncomputable section

namespace Cert.Proof

open Idealize.ShloMosaic Idealize.ShloMosaic.TcCoe Idealize.SL.Sem

/-- The labels the scatter is entered with name each row once, whatever region 0 left. -/
theorem labOK_of {F : FTy → Type} [FloatOps F] (m : (ℓ : Loc Cert.KernelIdeal.nD Cert.KernelIdeal.τ Cert.KernelIdeal.sig) → Buf (Elt F) ℓ)
    (h : ∀ c : Dev Cert.KernelIdeal.nD, Cert.KernelIdeal.Gen.Distinct (m ((c.tc : Thread Cert.KernelIdeal.nD Cert.KernelIdeal.τ).loc Cert.KernelIdeal.main_arg13)))
    (c : Dev Cert.KernelIdeal.nD) : Cert.KernelIdeal.Gen.LabOK (Cert.KernelIdeal.Gen.labV (Cert.KernelIdeal.Gen.V3 m (Cert.KernelIdeal.Gen.o2 m)) c) := by
  have e : Cert.KernelIdeal.Gen.labV (Cert.KernelIdeal.Gen.V3 m (Cert.KernelIdeal.Gen.o2 m)) c = Cert.KernelIdeal.Gen.labExt (m ((c.tc : Thread Cert.KernelIdeal.nD Cert.KernelIdeal.τ).loc Cert.KernelIdeal.main_arg13)) := Cert.KernelIdeal.Gen.V3_v42 m _ c
  rw [e]
  exact Cert.KernelIdeal.Gen.labOK_ext (h c)

theorem frame_ideal : Cert.quiescent_KernelIdeal := fun m g hpre =>
  (θ_run _ _ _).mono (fun _ h => ⟨fun c => (h.1 c).2, h.2⟩)
    (Cert.KernelIdeal.Gen.run_whole (F := Ideal) m g (labOK_of m fun c => Cert.KernelIdeal.Gen.distinct_of_pre _ _ _ _ _ _ _ _ _ _ _ _ _ _ (hpre c)))

theorem frame_kernel : Cert.quiescent_Kernel := fun m g hpre =>
  (θ_run _ _ _).mono (fun _ h => ⟨fun c => (h.1 c).2, h.2⟩)
    (Cert.runs_kernel (F := Bits) _ _ (Cert.KernelIdeal.Gen.run_whole (F := Bits) m g (labOK_of (F := Bits) m fun c => Cert.KernelIdeal.Gen.distinct_of_pre _ _ _ _ _ _ _ _ _ _ _ _ _ _ (hpre c))))

/-- The reference has no counter. -/
theorem ref_sems (s : MemSt Cert.ReferenceIdeal.nD Cert.ReferenceIdeal.τ Cert.ReferenceIdeal.sig (Elt Ideal)) : s.sem = fun _ => 0 := by
  funext g
  obtain ⟨t, s⟩ := g
  rcases s with i | i <;> exact absurd i.isLt (Nat.not_lt_zero _)

theorem frame_ref : Cert.quiescent_ReferenceIdeal := fun m g _ =>
  (θ_run _ _ _).mono (fun r h => ⟨fun c => (h c).2, ref_sems r.2⟩) (Cert.ReferenceIdeal.Value.run (F := Ideal) m g)

theorem frame_ref_pre : Cert.quiescent_ReferenceIdeal_pre_labels_permuted := fun m g _ => frame_ref m g trivial

/-- The two results are the same array. -/
theorem algebraic : Cert.algebraic_KernelIdeal_ReferenceIdeal := fun m g m' g' hpre hagree => by
  have hd := fun c => Cert.KernelIdeal.Gen.distinct_of_pre _ _ _ _ _ _ _ _ _ _ _ _ _ _ (hpre c)
  refine ⟨Cert.KernelIdeal.Gen.o6 m, (θ_run _ _ _).mono (fun _ h => h.1) (Cert.KernelIdeal.Gen.run_whole (F := Ideal) m g (labOK_of m hd)), ?_⟩
  refine (θ_run _ _ _).mono (fun r h c => ⟨(h c).1.trans ?_, (h c).2⟩) (Cert.ReferenceIdeal.Value.run (F := Ideal) m' g')
  exact Cert.KernelIdeal.Gen.value_eq m c m' (hd c) (hagree c)

theorem claim : Cert.Claim := ⟨Cert.Kernel.Gen.facts, Cert.KernelIdeal.Gen.facts, Cert.ReferenceIdeal.Gen.facts, Cert.Pre_labels_permuted.facts,
  frame_kernel, frame_ideal, frame_ref, frame_ref_pre, trivial, algebraic⟩

end Cert.Proof

end
